-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite [hPre_finite : Cert.Pre_finite.Facts] (m : (ℓ : Loc Cert.AttnIdeal.nD Cert.AttnIdeal.τ Cert.AttnIdeal.sig) → Buf (Elt Ideal) ℓ) : Prop :=
  ∀ c : Dev Cert.AttnIdeal.nD,
    (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite [hPre_finite : Cert.Pre_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))) = (fun _ => 1#1)

def Pre_Moe (m : (ℓ : Loc Cert.Moe.nD Cert.Moe.τ Cert.Moe.sig) → Buf (Elt Bits) ℓ) : Prop :=
  True

def Pre_MoeIdeal (m : (ℓ : Loc Cert.MoeIdeal.nD Cert.MoeIdeal.τ Cert.MoeIdeal.sig) → Buf (Elt Ideal) ℓ) : Prop :=
  True

def Pre_MoeRefIdeal (m : (ℓ : Loc Cert.MoeRefIdeal.nD Cert.MoeRefIdeal.τ Cert.MoeRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnIdeal_pre_finite [hAttnIdeal : Cert.AttnIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_AttnRefIdeal_pre_finite [hAttnRefIdeal : Cert.AttnRefIdeal.Facts] [hPre_finite : Cert.Pre_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_Moe [hMoe : Cert.Moe.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4)
      ∧ r.2.mem ((c.tc : Thread Cert.Moe.nD Cert.Moe.τ).loc Cert.Moe.main_arg5) = m ((c.tc : Thread Cert.Moe.nD Cert.Moe.τ).loc Cert.Moe.main_arg5)
      ∧ r.2.mem ((c.tc : Thread Cert.Moe.nD Cert.Moe.τ).loc Cert.Moe.main_arg6) = m ((c.tc : Thread Cert.Moe.nD Cert.Moe.τ).loc Cert.Moe.main_arg6))
      ∧ r.2.sem = fun _ => 0)

def quiescent_MoeIdeal [hMoeIdeal : Cert.MoeIdeal.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
      ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6))
      ∧ r.2.sem = fun _ => 0)

def quiescent_MoeRefIdeal [hMoeRefIdeal : Cert.MoeRefIdeal.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5)
      ∧ r.2.mem ((c.tc : Thread Cert.MoeRefIdeal.nD Cert.MoeRefIdeal.τ).loc Cert.MoeRefIdeal.main_arg6) = m ((c.tc : Thread Cert.MoeRefIdeal.nD Cert.MoeRefIdeal.τ).loc Cert.MoeRefIdeal.main_arg6))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11)
      ∧ r.2.mem ((c.tc : Thread Cert.Merge.nD Cert.Merge.τ).loc Cert.Merge.main_arg12) = m ((c.tc : Thread Cert.Merge.nD Cert.Merge.τ).loc Cert.Merge.main_arg12))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11)
      ∧ r.2.mem ((c.tc : Thread Cert.MergeRefIdeal.nD Cert.MergeRefIdeal.τ).loc Cert.MergeRefIdeal.main_arg12) = m ((c.tc : Thread Cert.MergeRefIdeal.nD Cert.MergeRefIdeal.τ).loc Cert.MergeRefIdeal.main_arg12))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6)
      ∧ r.2.mem ((c.tc : Thread Cert.Proj.nD Cert.Proj.τ).loc Cert.Proj.main_arg7) = m ((c.tc : Thread Cert.Proj.nD Cert.Proj.τ).loc Cert.Proj.main_arg7)
      ∧ r.2.mem ((c.tc : Thread Cert.Proj.nD Cert.Proj.τ).loc Cert.Proj.main_arg8) = m ((c.tc : Thread Cert.Proj.nD Cert.Proj.τ).loc Cert.Proj.main_arg8))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
      ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
      ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5)
      ∧ r.2.mem ((c.tc : Thread Cert.ProjRefIdeal.nD Cert.ProjRefIdeal.τ).loc Cert.ProjRefIdeal.main_arg6) = m ((c.tc : Thread Cert.ProjRefIdeal.nD Cert.ProjRefIdeal.τ).loc Cert.ProjRefIdeal.main_arg6)
      ∧ r.2.mem ((c.tc : Thread Cert.ProjRefIdeal.nD Cert.ProjRefIdeal.τ).loc Cert.ProjRefIdeal.main_arg7) = m ((c.tc : Thread Cert.ProjRefIdeal.nD Cert.ProjRefIdeal.τ).loc Cert.ProjRefIdeal.main_arg7)
      ∧ r.2.mem ((c.tc : Thread Cert.ProjRefIdeal.nD Cert.ProjRefIdeal.τ).loc Cert.ProjRefIdeal.main_arg8) = m ((c.tc : Thread Cert.ProjRefIdeal.nD Cert.ProjRefIdeal.τ).loc Cert.ProjRefIdeal.main_arg8))
      ∧ r.2.sem = fun _ => 0)

def preserves_Attn_AttnIdeal : Prop :=
  IdealRules.named_const.Statement Cert.AttnIdeal.κ "mask" .f32 0xF149F2CA#32 ⊥

def algebraic_AttnIdeal_AttnRefIdeal_pre_finite [hAttnIdeal : Cert.AttnIdeal.Facts] [hAttnRefIdeal : Cert.AttnRefIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)) →
    ∃ (v0 : (c : Dev Cert.AttnIdeal.nD) → Buf (Elt Ideal) ((c.tc : Thread Cert.AttnIdeal.nD Cert.AttnIdeal.τ).loc Cert.AttnIdeal.main_v0)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v51) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4))

def preserves_Moe_MoeIdeal : Prop :=
  True

def algebraic_MoeIdeal_MoeRefIdeal [hMoeIdeal : Cert.MoeIdeal.Facts] [hMoeRefIdeal : Cert.MoeRefIdeal.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeRefIdeal.nD Cert.MoeRefIdeal.τ Cert.MoeRefIdeal.sig) → Buf (Elt Ideal) ℓ) (g' : Dev Cert.MoeRefIdeal.nD → PrngReg), Pre_MoeIdeal m →
    (∀ c : Dev Cert.MoeIdeal.nD,
      m' ((c.tc : Thread Cert.MoeRefIdeal.nD Cert.MoeRefIdeal.τ).loc Cert.MoeRefIdeal.main_arg0) = m ((c.tc : Thread Cert.MoeIdeal.nD Cert.MoeIdeal.τ).loc Cert.MoeIdeal.main_arg0)
      ∧ m' ((c.tc : Thread Cert.MoeRefIdeal.nD Cert.MoeRefIdeal.τ).loc Cert.MoeRefIdeal.main_arg1) = m ((c.tc : Thread Cert.MoeIdeal.nD Cert.MoeIdeal.τ).loc Cert.MoeIdeal.main_arg1)
      ∧ m' ((c.tc : Thread Cert.MoeRefIdeal.nD Cert.MoeRefIdeal.τ).loc Cert.MoeRefIdeal.main_arg2) = m ((c.tc : Thread Cert.MoeIdeal.nD Cert.MoeIdeal.τ).loc Cert.MoeIdeal.main_arg2)
      ∧ m' ((c.tc : Thread Cert.MoeRefIdeal.nD Cert.MoeRefIdeal.τ).loc Cert.MoeRefIdeal.main_arg3) = m ((c.tc : Thread Cert.MoeIdeal.nD Cert.MoeIdeal.τ).loc Cert.MoeIdeal.main_arg3)
      ∧ m' ((c.tc : Thread Cert.MoeRefIdeal.nD Cert.MoeRefIdeal.τ).loc Cert.MoeRefIdeal.main_arg4) = m ((c.tc : Thread Cert.MoeIdeal.nD Cert.MoeIdeal.τ).loc Cert.MoeIdeal.main_arg4)
      ∧ m' ((c.tc : Thread Cert.MoeRefIdeal.nD Cert.MoeRefIdeal.τ).loc Cert.MoeRefIdeal.main_arg5) = m ((c.tc : Thread Cert.MoeIdeal.nD Cert.MoeIdeal.τ).loc Cert.MoeIdeal.main_arg5)
      ∧ m' ((c.tc : Thread Cert.MoeRefIdeal.nD Cert.MoeRefIdeal.τ).loc Cert.MoeRefIdeal.main_arg6) = m ((c.tc : Thread Cert.MoeIdeal.nD Cert.MoeIdeal.τ).loc Cert.MoeIdeal.main_arg6)) →
    ∃ (v0 : (c : Dev Cert.MoeIdeal.nD) → Buf (Elt Ideal) ((c.tc : Thread Cert.MoeIdeal.nD Cert.MoeIdeal.τ).loc Cert.MoeIdeal.main_v7)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v7) = v0 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
          ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
          ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6))
      ∧ θ_run (Cert.MoeRefIdeal.defs (F := Ideal)) (onTc (τ := Cert.MoeRefIdeal.τ) (Cert.MoeRefIdeal.main (F := Ideal))) ⟨m', fun _ => 0, g'⟩ (fun r => ∀ c : Dev Cert.MoeRefIdeal.nD,
          r.2.mem ((c.tc : Thread Cert.MoeRefIdeal.nD Cert.MoeRefIdeal.τ).loc Cert.MoeRefIdeal.main_v85) = v0 c
          ∧ r.2.mem ((c.tc : Thread Cert.MoeRefIdeal.nD Cert.MoeRefIdeal.τ).loc Cert.MoeRefIdeal.main_arg0) = m' ((c.tc : Thread Cert.MoeRefIdeal.nD Cert.MoeRefIdeal.τ).loc Cert.MoeRefIdeal.main_arg0)
          ∧ r.2.mem ((c.tc : Thread Cert.MoeRefIdeal.nD Cert.MoeRefIdeal.τ).loc Cert.MoeRefIdeal.main_arg1) = m' ((c.tc : Thread Cert.MoeRefIdeal.nD Cert.MoeRefIdeal.τ).loc Cert.MoeRefIdeal.main_arg1)
          ∧ r.2.mem ((c.tc : Thread Cert.MoeRefIdeal.nD Cert.MoeRefIdeal.τ).loc Cert.MoeRefIdeal.main_arg2) = m' ((c.tc : Thread Cert.MoeRefIdeal.nD Cert.MoeRefIdeal.τ).loc Cert.MoeRefIdeal.main_arg2)
          ∧ r.2.mem ((c.tc : Thread Cert.MoeRefIdeal.nD Cert.MoeRefIdeal.τ).loc Cert.MoeRefIdeal.main_arg3) = m' ((c.tc : Thread Cert.MoeRefIdeal.nD Cert.MoeRefIdeal.τ).loc Cert.MoeRefIdeal.main_arg3)
          ∧ r.2.mem ((c.tc : Thread Cert.MoeRefIdeal.nD Cert.MoeRefIdeal.τ).loc Cert.MoeRefIdeal.main_arg4) = m' ((c.tc : Thread Cert.MoeRefIdeal.nD Cert.MoeRefIdeal.τ).loc Cert.MoeRefIdeal.main_arg4)
          ∧ r.2.mem ((c.tc : Thread Cert.MoeRefIdeal.nD Cert.MoeRefIdeal.τ).loc Cert.MoeRefIdeal.main_arg5) = m' ((c.tc : Thread Cert.MoeRefIdeal.nD Cert.MoeRefIdeal.τ).loc Cert.MoeRefIdeal.main_arg5)
          ∧ r.2.mem ((c.tc : Thread Cert.MoeRefIdeal.nD Cert.MoeRefIdeal.τ).loc Cert.MoeRefIdeal.main_arg6) = m' ((c.tc : Thread Cert.MoeRefIdeal.nD Cert.MoeRefIdeal.τ).loc Cert.MoeRefIdeal.main_arg6))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)
      ∧ m' ((c.tc : Thread Cert.MergeRefIdeal.nD Cert.MergeRefIdeal.τ).loc Cert.MergeRefIdeal.main_arg11) = m ((c.tc : Thread Cert.MergeIdeal.nD Cert.MergeIdeal.τ).loc Cert.MergeIdeal.main_arg11)
      ∧ m' ((c.tc : Thread Cert.MergeRefIdeal.nD Cert.MergeRefIdeal.τ).loc Cert.MergeRefIdeal.main_arg12) = m ((c.tc : Thread Cert.MergeIdeal.nD Cert.MergeIdeal.τ).loc Cert.MergeIdeal.main_arg12)) →
    ∃ (v0 : (c : Dev Cert.MergeIdeal.nD) → Buf (Elt Ideal) ((c.tc : Thread Cert.MergeIdeal.nD Cert.MergeIdeal.τ).loc Cert.MergeIdeal.main_v29_0)) (v1 : (c : Dev Cert.MergeIdeal.nD) → Buf (Elt Ideal) ((c.tc : Thread Cert.MergeIdeal.nD Cert.MergeIdeal.τ).loc Cert.MergeIdeal.main_v29_1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v29_0) = v0 c
          ∧ r.2.mem ((c.tc : Thread Cert.MergeIdeal.nD Cert.MergeIdeal.τ).loc Cert.MergeIdeal.main_v29_1) = v1 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
          ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v45) = v0 c
          ∧ r.2.mem ((c.tc : Thread Cert.MergeRefIdeal.nD Cert.MergeRefIdeal.τ).loc Cert.MergeRefIdeal.main_v60) = v1 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10)
          ∧ r.2.mem ((c.tc : Thread Cert.MergeRefIdeal.nD Cert.MergeRefIdeal.τ).loc Cert.MergeRefIdeal.main_arg11) = m' ((c.tc : Thread Cert.MergeRefIdeal.nD Cert.MergeRefIdeal.τ).loc Cert.MergeRefIdeal.main_arg11)
          ∧ r.2.mem ((c.tc : Thread Cert.MergeRefIdeal.nD Cert.MergeRefIdeal.τ).loc Cert.MergeRefIdeal.main_arg12) = m' ((c.tc : Thread Cert.MergeRefIdeal.nD Cert.MergeRefIdeal.τ).loc Cert.MergeRefIdeal.main_arg12))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)
      ∧ m' ((c.tc : Thread Cert.ProjRefIdeal.nD Cert.ProjRefIdeal.τ).loc Cert.ProjRefIdeal.main_arg5) = m ((c.tc : Thread Cert.ProjIdeal.nD Cert.ProjIdeal.τ).loc Cert.ProjIdeal.main_arg5)
      ∧ m' ((c.tc : Thread Cert.ProjRefIdeal.nD Cert.ProjRefIdeal.τ).loc Cert.ProjRefIdeal.main_arg6) = m ((c.tc : Thread Cert.ProjIdeal.nD Cert.ProjIdeal.τ).loc Cert.ProjIdeal.main_arg6)
      ∧ m' ((c.tc : Thread Cert.ProjRefIdeal.nD Cert.ProjRefIdeal.τ).loc Cert.ProjRefIdeal.main_arg7) = m ((c.tc : Thread Cert.ProjIdeal.nD Cert.ProjIdeal.τ).loc Cert.ProjIdeal.main_arg7)
      ∧ m' ((c.tc : Thread Cert.ProjRefIdeal.nD Cert.ProjRefIdeal.τ).loc Cert.ProjRefIdeal.main_arg8) = m ((c.tc : Thread Cert.ProjIdeal.nD Cert.ProjIdeal.τ).loc Cert.ProjIdeal.main_arg8)) →
    ∃ (v0 : (c : Dev Cert.ProjIdeal.nD) → Buf (Elt Ideal) ((c.tc : Thread Cert.ProjIdeal.nD Cert.ProjIdeal.τ).loc Cert.ProjIdeal.main_v109_0)) (v1 : (c : Dev Cert.ProjIdeal.nD) → Buf (Elt Ideal) ((c.tc : Thread Cert.ProjIdeal.nD Cert.ProjIdeal.τ).loc Cert.ProjIdeal.main_v109_1)) (v2 : (c : Dev Cert.ProjIdeal.nD) → Buf (Elt Ideal) ((c.tc : Thread Cert.ProjIdeal.nD Cert.ProjIdeal.τ).loc Cert.ProjIdeal.main_v109_2)) (v3 : (c : Dev Cert.ProjIdeal.nD) → Buf (Elt Ideal) ((c.tc : Thread Cert.ProjIdeal.nD Cert.ProjIdeal.τ).loc Cert.ProjIdeal.main_v109_5)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v109_0) = v0 c
          ∧ r.2.mem ((c.tc : Thread Cert.ProjIdeal.nD Cert.ProjIdeal.τ).loc Cert.ProjIdeal.main_v109_1) = v1 c
          ∧ r.2.mem ((c.tc : Thread Cert.ProjIdeal.nD Cert.ProjIdeal.τ).loc Cert.ProjIdeal.main_v109_2) = v2 c
          ∧ r.2.mem ((c.tc : Thread Cert.ProjIdeal.nD Cert.ProjIdeal.τ).loc Cert.ProjIdeal.main_v109_5) = v3 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
          ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
          ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v118) = v0 c
          ∧ r.2.mem ((c.tc : Thread Cert.ProjRefIdeal.nD Cert.ProjRefIdeal.τ).loc Cert.ProjRefIdeal.main_v121) = v1 c
          ∧ r.2.mem ((c.tc : Thread Cert.ProjRefIdeal.nD Cert.ProjRefIdeal.τ).loc Cert.ProjRefIdeal.main_v125) = v2 c
          ∧ r.2.mem ((c.tc : Thread Cert.ProjRefIdeal.nD Cert.ProjRefIdeal.τ).loc Cert.ProjRefIdeal.main_v128) = v3 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4)
          ∧ r.2.mem ((c.tc : Thread Cert.ProjRefIdeal.nD Cert.ProjRefIdeal.τ).loc Cert.ProjRefIdeal.main_arg5) = m' ((c.tc : Thread Cert.ProjRefIdeal.nD Cert.ProjRefIdeal.τ).loc Cert.ProjRefIdeal.main_arg5)
          ∧ r.2.mem ((c.tc : Thread Cert.ProjRefIdeal.nD Cert.ProjRefIdeal.τ).loc Cert.ProjRefIdeal.main_arg6) = m' ((c.tc : Thread Cert.ProjRefIdeal.nD Cert.ProjRefIdeal.τ).loc Cert.ProjRefIdeal.main_arg6)
          ∧ r.2.mem ((c.tc : Thread Cert.ProjRefIdeal.nD Cert.ProjRefIdeal.τ).loc Cert.ProjRefIdeal.main_arg7) = m' ((c.tc : Thread Cert.ProjRefIdeal.nD Cert.ProjRefIdeal.τ).loc Cert.ProjRefIdeal.main_arg7)
          ∧ r.2.mem ((c.tc : Thread Cert.ProjRefIdeal.nD Cert.ProjRefIdeal.τ).loc Cert.ProjRefIdeal.main_arg8) = m' ((c.tc : Thread Cert.ProjRefIdeal.nD Cert.ProjRefIdeal.τ).loc Cert.ProjRefIdeal.main_arg8))

def Claim : Prop :=
  ∃ (hAttn : Cert.Attn.Facts) (hAttnIdeal : Cert.AttnIdeal.Facts) (hAttnRefIdeal : Cert.AttnRefIdeal.Facts) (hMoe : Cert.Moe.Facts) (hMoeIdeal : Cert.MoeIdeal.Facts) (hMoeRefIdeal : Cert.MoeRefIdeal.Facts) (hMerge : Cert.Merge.Facts) (hMergeIdeal : Cert.MergeIdeal.Facts) (hMergeRefIdeal : Cert.MergeRefIdeal.Facts) (hProj : Cert.Proj.Facts) (hProjIdeal : Cert.ProjIdeal.Facts) (hProjRefIdeal : Cert.ProjRefIdeal.Facts) (hPre_finite : Cert.Pre_finite.Facts),
    quiescent_Attn (hAttn := hAttn)
    ∧ quiescent_AttnIdeal (hAttnIdeal := hAttnIdeal)
    ∧ quiescent_AttnIdeal_pre_finite (hAttnIdeal := hAttnIdeal) (hPre_finite := hPre_finite)
    ∧ quiescent_AttnRefIdeal (hAttnRefIdeal := hAttnRefIdeal)
    ∧ quiescent_AttnRefIdeal_pre_finite (hAttnRefIdeal := hAttnRefIdeal) (hPre_finite := hPre_finite)
    ∧ quiescent_Moe (hMoe := hMoe)
    ∧ quiescent_MoeIdeal (hMoeIdeal := hMoeIdeal)
    ∧ quiescent_MoeRefIdeal (hMoeRefIdeal := hMoeRefIdeal)
    ∧ quiescent_Merge (hMerge := hMerge)
    ∧ quiescent_MergeIdeal (hMergeIdeal := hMergeIdeal)
    ∧ quiescent_MergeRefIdeal (hMergeRefIdeal := hMergeRefIdeal)
    ∧ quiescent_Proj (hProj := hProj)
    ∧ quiescent_ProjIdeal (hProjIdeal := hProjIdeal)
    ∧ quiescent_ProjRefIdeal (hProjRefIdeal := hProjRefIdeal)
    ∧ preserves_Attn_AttnIdeal
    ∧ algebraic_AttnIdeal_AttnRefIdeal_pre_finite (hAttnIdeal := hAttnIdeal) (hAttnRefIdeal := hAttnRefIdeal) (hPre_finite := hPre_finite)
    ∧ preserves_Moe_MoeIdeal
    ∧ algebraic_MoeIdeal_MoeRefIdeal (hMoeIdeal := hMoeIdeal) (hMoeRefIdeal := hMoeRefIdeal)
    ∧ preserves_Merge_MergeIdeal
    ∧ algebraic_MergeIdeal_MergeRefIdeal (hMergeIdeal := hMergeIdeal) (hMergeRefIdeal := hMergeRefIdeal)
    ∧ preserves_Proj_ProjIdeal
    ∧ algebraic_ProjIdeal_ProjRefIdeal (hProjIdeal := hProjIdeal) (hProjRefIdeal := hProjRefIdeal)
-- ==== Pre_finite.lean ====
abbrev S2x8x8192x128 : Shape := ⟨4, ![2, 8, 8192, 128]⟩
abbrev S2x8x16x64x512 : Shape := ⟨5, ![2, 8, 16, 64, 512]⟩
abbrev S1x8x128x128 : Shape := ⟨4, ![1, 8, 128, 128]⟩
abbrev S1x8x1x64x128 : Shape := ⟨5, ![1, 8, 1, 64, 128]⟩
abbrev S_ : Shape := ⟨0, ![]⟩
abbrev S1x8x16x128 : Shape := ⟨4, ![1, 8, 16, 128]⟩

class Facts : Prop where
  bitsLt_bf16_f32 : FTy.bits .bf16 < FTy.bits .f32
  bcast_S_S2x8x8192x128 : S_.BroadcastsInDim S2x8x8192x128 (![] : Fin 0 → Fin S2x8x8192x128.rank)
  reducesTo_S2x8x8192x128_S_d0_1_2_3 : S2x8x8192x128.ReducesTo [0, 1, 2, 3] S_
  h_S_ : 0 < S_.numel
  slices_S1x8x128x128_S1x8x16x128_0_0_0_0 : S1x8x128x128.Slices ![0, 0, 0, 0] S1x8x16x128
  bcast_S_S1x8x16x128 : S_.BroadcastsInDim S1x8x16x128 (![] : Fin 0 → Fin S1x8x16x128.rank)
  reducesTo_S1x8x16x128_S_d0_1_2_3 : S1x8x16x128.ReducesTo [0, 1, 2, 3] S_

variable [Facts]

def fn {F : FTy → Type} [FloatOps F] (main_arg0 : FVec F S2x8x8192x128 .bf16) (main_arg1 : FVec F S2x8x8192x128 .bf16) (main_arg2 : FVec F S2x8x16x64x512 .bf16) (main_arg3 : FVec F S1x8x128x128 .bf16) (main_arg4 : FVec F S1x8x1x64x128 .bf16) : IVec S_ 1 :=
  let main_v0 : FVec F S2x8x8192x128 .f32 := (extf .f32 · bitsLt_bf16_f32) main_arg0
  let main_v1 : FVec F S2x8x8192x128 .f32 := Host.absf main_v0
  let main_cst : FVec F S_ .f32 := constant S_ .f32 0x7F800000#32
  let main_v2 : FVec F S2x8x8192x128 .f32 := broadcastInDim S2x8x8192x128 ![] bcast_S_S2x8x8192x128 main_cst
  let main_v3 : IVec S2x8x8192x128 1 := cmpf .olt main_v1 main_v2
  let main_c : IVec S_ 1 := constantI S_ 1 1#1
  let main_v4 : IVec S_ 1 := (fun x v => Host.reduce IntOp.andi x v reducesTo_S2x8x8192x128_S_d0_1_2_3 h_S_) main_v3 main_c
  let main_v5 : FVec F S2x8x8192x128 .f32 := (extf .f32 · bitsLt_bf16_f32) main_arg1
  let main_v6 : FVec F S2x8x8192x128 .f32 := Host.absf main_v5
  let main_cst_0 : FVec F S_ .f32 := constant S_ .f32 0x7F800000#32
  let main_v7 : FVec F S2x8x8192x128 .f32 := broadcastInDim S2x8x8192x128 ![] bcast_S_S2x8x8192x128 main_cst_0
  let main_v8 : IVec S2x8x8192x128 1 := cmpf .olt main_v6 main_v7
  let main_c_1 : IVec S_ 1 := constantI S_ 1 1#1
  let main_v9 : IVec S_ 1 := (fun x v => Host.reduce IntOp.andi x v reducesTo_S2x8x8192x128_S_d0_1_2_3 h_S_) main_v8 main_c_1
  let main_v10 : IVec S_ 1 := andi main_v4 main_v9
  let main_v11 : FVec F S1x8x16x128 .bf16 := (extractStridedSlice S1x8x16x128 ![0, 0, 0, 0] · slices_S1x8x128x128_S1x8x16x128_0_0_0_0) main_arg3
  let main_v12 : FVec F S1x8x16x128 .f32 := (extf .f32 · bitsLt_bf16_f32) main_v11
  let main_v13 : FVec F S1x8x16x128 .f32 := Host.absf main_v12
  let main_cst_2 : FVec F S_ .f32 := constant S_ .f32 0x7F800000#32
  let main_v14 : FVec F S1x8x16x128 .f32 := broadcastInDim S1x8x16x128 ![] bcast_S_S1x8x16x128 main_cst_2
  let main_v15 : IVec S1x8x16x128 1 := cmpf .olt main_v13 main_v14
  let main_c_3 : IVec S_ 1 := constantI S_ 1 1#1
  let main_v16 : IVec S_ 1 := (fun x v => Host.reduce IntOp.andi x v reducesTo_S1x8x16x128_S_d0_1_2_3 h_S_) main_v15 main_c_3
  let main_v17 : IVec S_ 1 := andi main_v10 main_v16
  main_v17
-- ==== Attn.lean ====
abbrev S2x8x8192x128 : Shape := ⟨4, ![2, 8, 8192, 128]⟩
abbrev S2x8x16x64x512 : Shape := ⟨5, ![2, 8, 16, 64, 512]⟩
abbrev S1x8x128x128 : Shape := ⟨4, ![1, 8, 128, 128]⟩
abbrev S1x8x1x64x128 : Shape := ⟨5, ![1, 8, 1, 64, 128]⟩
abbrev S2x512x8192 : Shape := ⟨3, ![2, 512, 8192]⟩
abbrev S1x1x512x128 : Shape := ⟨4, ![1, 1, 512, 128]⟩
abbrev S1x1x8192x128 : Shape := ⟨4, ![1, 1, 8192, 128]⟩
abbrev S1x1x16x64x512 : Shape := ⟨5, ![1, 1, 16, 64, 512]⟩
abbrev S1x1x128x128 : Shape := ⟨4, ![1, 1, 128, 128]⟩
abbrev S1x1x1x64x128 : Shape := ⟨5, ![1, 1, 1, 64, 128]⟩
abbrev S1x64x512 : Shape := ⟨3, ![1, 64, 512]⟩
abbrev S1x512 : Shape := ⟨2, ![1, 512]⟩
abbrev S64x512 : Shape := ⟨2, ![64, 512]⟩
abbrev S512x128 : Shape := ⟨2, ![512, 128]⟩
abbrev S128x128 : Shape := ⟨2, ![128, 128]⟩
abbrev S128x512 : Shape := ⟨2, ![128, 512]⟩
abbrev S64x128 : Shape := ⟨2, ![64, 128]⟩
abbrev S512 : Shape := ⟨1, ![512]⟩
abbrev S512x512 : Shape := ⟨2, ![512, 512]⟩
abbrev S1x1x1x64x512 : Shape := ⟨5, ![1, 1, 1, 64, 512]⟩

abbrev nBuf : Space → Nat
  | .hbm => 6
  | .vmem => 15
  | .smem => 0
  | _ => 0

abbrev bufTy : (tb : Table) → Fin (tcTables nBuf tb) → BufTy
  | .hbm, ⟨0, _⟩ => ⟨S2x8x8192x128, .bf16⟩
  | .hbm, ⟨1, _⟩ => ⟨S2x8x8192x128, .bf16⟩
  | .hbm, ⟨2, _⟩ => ⟨S2x8x16x64x512, .bf16⟩
  | .hbm, ⟨3, _⟩ => ⟨S1x8x128x128, .bf16⟩
  | .hbm, ⟨4, _⟩ => ⟨S1x8x1x64x128, .bf16⟩
  | .hbm, ⟨5, _⟩ => ⟨S2x512x8192, .bf16⟩
  | .local _ .vmem, ⟨0, _⟩ => ⟨S1x1x512x128, .bf16⟩
  | .local _ .vmem, ⟨1, _⟩ => ⟨S1x1x512x128, .bf16⟩
  | .local _ .vmem, ⟨2, _⟩ => ⟨S1x1x8192x128, .bf16⟩
  | .local _ .vmem, ⟨3, _⟩ => ⟨S1x1x8192x128, .bf16⟩
  | .local _ .vmem, ⟨4, _⟩ => ⟨S1x1x16x64x512, .bf16⟩
  | .local _ .vmem, ⟨5, _⟩ => ⟨S1x1x16x64x512, .bf16⟩
  | .local _ .vmem, ⟨6, _⟩ => ⟨S1x1x128x128, .bf16⟩
  | .local _ .vmem, ⟨7, _⟩ => ⟨S1x1x128x128, .bf16⟩
  | .local _ .vmem, ⟨8, _⟩ => ⟨S1x1x1x64x128, .bf16⟩
  | .local _ .vmem, ⟨9, _⟩ => ⟨S1x1x1x64x128, .bf16⟩
  | .local _ .vmem, ⟨10, _⟩ => ⟨S1x64x512, .bf16⟩
  | .local _ .vmem, ⟨11, _⟩ => ⟨S1x64x512, .bf16⟩
  | .local _ .vmem, ⟨12, _⟩ => ⟨S1x512, .f32⟩
  | .local _ .vmem, ⟨13, _⟩ => ⟨S1x512, .f32⟩
  | .local _ .vmem, ⟨14, _⟩ => ⟨S64x512, .f32⟩
  | _, _ => ⟨S2x8x8192x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 8, 16], ![false, false, false]⟩

@[reducible] def k0_t1_loop (i : grid0.Coords) : Scf.Loop 32 :=
  let c0_i32_22 : BitVec 32 := 0#32
  let arg2 : BitVec 32 := BitVec.ofNat 32 (i 2).val
  let v30 : BitVec 32 := Scalar.subi arg2 c0_i32_22
  let c1_i32 : BitVec 32 := 1#32
  let v32 : BitVec 32 := Scalar.divsi v30 c1_i32
  let v33 : BitVec 32 := Scalar.muli v32 c1_i32
  let v34 : BitVec 32 := Scalar.addi c0_i32_22 v33
  let c1_i32_23 : BitVec 32 := 1#32
  ⟨c0_i32_22, v34, c1_i32_23⟩
def k0_mult1 (i : grid0.Coords) (k0_t1 : Fin (k0_t1_loop i).trips) : BitVec 32 :=
  let c0_i32_22 : BitVec 32 := 0#32
  let c1_i32_23 : BitVec 32 := 1#32
  let arg12 : BitVec 32 := Scf.iv c0_i32_22 c1_i32_23 k0_t1
  let c512_i32_56 : BitVec 32 := 512#32
  let v86 : BitVec 32 := Scalar.muli arg12 c512_i32_56
  v86
def k0_off1 (i : grid0.Coords) (k0_t1 : Fin (k0_t1_loop i).trips) : Fin 4 → Nat :=
  let c0_57 : Index := 0#32
  let c0_58 : Index := 0#32
  let c0_i32_22 : BitVec 32 := 0#32
  let c1_i32_23 : BitVec 32 := 1#32
  let arg12 : BitVec 32 := Scf.iv c0_i32_22 c1_i32_23 k0_t1
  let c512_i32_56 : BitVec 32 := 512#32
  let v86 : BitVec 32 := Scalar.muli arg12 c512_i32_56
  let v87 : BitVec 32 := v86
  let v88 : Index := Scalar.indexCast v87
  let c0_59 : Index := 0#32
  ![0, 0, v88.toNat, 0]
def k0_off2 (i : grid0.Coords) (k0_t1 : Fin (k0_t1_loop i).trips) : Fin 5 → Nat :=
  let c0_61 : Index := 0#32
  let c0_62 : Index := 0#32
  let c0_i32_22 : BitVec 32 := 0#32
  let c1_i32_23 : BitVec 32 := 1#32
  let arg12 : BitVec 32 := Scf.iv c0_i32_22 c1_i32_23 k0_t1
  let v92 : Index := Scalar.indexCast arg12
  let c0_63 : Index := 0#32
  let c0_64 : Index := 0#32
  ![0, 0, v92.toNat, 0, 0]
@[reducible] def k0_t2_loop (i : grid0.Coords) : Scf.Loop 32 :=
  let c0_i32_22 : BitVec 32 := 0#32
  let arg2 : BitVec 32 := BitVec.ofNat 32 (i 2).val
  let v30 : BitVec 32 := Scalar.subi arg2 c0_i32_22
  let c1_i32 : BitVec 32 := 1#32
  let v32 : BitVec 32 := Scalar.divsi v30 c1_i32
  let v33 : BitVec 32 := Scalar.muli v32 c1_i32
  let v34 : BitVec 32 := Scalar.addi c0_i32_22 v33
  let v31 : BitVec 32 := Scalar.addi c0_i32_22 v30
  let c1_i32_24 : BitVec 32 := 1#32
  ⟨v34, v31, c1_i32_24⟩
def k0_mult2 (i : grid0.Coords) (k0_t2 : Fin (k0_t2_loop i).trips) : BitVec 32 :=
  let c0_i32_22 : BitVec 32 := 0#32
  let arg2 : BitVec 32 := BitVec.ofNat 32 (i 2).val
  let v30 : BitVec 32 := Scalar.subi arg2 c0_i32_22
  let c1_i32 : BitVec 32 := 1#32
  let v32 : BitVec 32 := Scalar.divsi v30 c1_i32
  let v33 : BitVec 32 := Scalar.muli v32 c1_i32
  let v34 : BitVec 32 := Scalar.addi c0_i32_22 v33
  let c1_i32_24 : BitVec 32 := 1#32
  let arg12 : BitVec 32 := Scf.iv v34 c1_i32_24 k0_t2
  let c512_i32_56 : BitVec 32 := 512#32
  let v86 : BitVec 32 := Scalar.muli arg12 c512_i32_56
  v86
def k0_off3 (i : grid0.Coords) (k0_t2 : Fin (k0_t2_loop i).trips) : Fin 4 → Nat :=
  let c0_57 : Index := 0#32
  let c0_58 : Index := 0#32
  let c0_i32_22 : BitVec 32 := 0#32
  let arg2 : BitVec 32 := BitVec.ofNat 32 (i 2).val
  let v30 : BitVec 32 := Scalar.subi arg2 c0_i32_22
  let c1_i32 : BitVec 32 := 1#32
  let v32 : BitVec 32 := Scalar.divsi v30 c1_i32
  let v33 : BitVec 32 := Scalar.muli v32 c1_i32
  let v34 : BitVec 32 := Scalar.addi c0_i32_22 v33
  let c1_i32_24 : BitVec 32 := 1#32
  let arg12 : BitVec 32 := Scf.iv v34 c1_i32_24 k0_t2
  let c512_i32_56 : BitVec 32 := 512#32
  let v86 : BitVec 32 := Scalar.muli arg12 c512_i32_56
  let v87 : BitVec 32 := v86
  let v88 : Index := Scalar.indexCast v87
  let c0_59 : Index := 0#32
  ![0, 0, v88.toNat, 0]
def k0_off4 (i : grid0.Coords) (k0_t2 : Fin (k0_t2_loop i).trips) : Fin 5 → Nat :=
  let c0_61 : Index := 0#32
  let c0_62 : Index := 0#32
  let c0_i32_22 : BitVec 32 := 0#32
  let arg2 : BitVec 32 := BitVec.ofNat 32 (i 2).val
  let v30 : BitVec 32 := Scalar.subi arg2 c0_i32_22
  let c1_i32 : BitVec 32 := 1#32
  let v32 : BitVec 32 := Scalar.divsi v30 c1_i32
  let v33 : BitVec 32 := Scalar.muli v32 c1_i32
  let v34 : BitVec 32 := Scalar.addi c0_i32_22 v33
  let c1_i32_24 : BitVec 32 := 1#32
  let arg12 : BitVec 32 := Scf.iv v34 c1_i32_24 k0_t2
  let v92 : Index := Scalar.indexCast arg12
  let c0_63 : Index := 0#32
  let c0_64 : Index := 0#32
  ![0, 0, v92.toNat, 0, 0]
def k0_mult3 (i : grid0.Coords) : BitVec 32 :=
  let arg2 : BitVec 32 := BitVec.ofNat 32 (i 2).val
  let c512_i32 : BitVec 32 := 512#32
  let v35 : BitVec 32 := Scalar.muli arg2 c512_i32
  v35
def k0_off5 (i : grid0.Coords) : Fin 4 → Nat :=
  let c0_25 : Index := 0#32
  let c0_26 : Index := 0#32
  let arg2 : BitVec 32 := BitVec.ofNat 32 (i 2).val
  let c512_i32 : BitVec 32 := 512#32
  let v35 : BitVec 32 := Scalar.muli arg2 c512_i32
  let v36 : BitVec 32 := v35
  let v37 : Index := Scalar.indexCast v36
  let c0_27 : Index := 0#32
  ![0, 0, v37.toNat, 0]
def k0_off6 (i : grid0.Coords) : Fin 5 → Nat :=
  let c0_30 : Index := 0#32
  let c0_31 : Index := 0#32
  let arg2 : BitVec 32 := BitVec.ofNat 32 (i 2).val
  let v46 : Index := Scalar.indexCast arg2
  let c0_32 : Index := 0#32
  let c0_33 : Index := 0#32
  ![0, 0, v46.toNat, 0, 0]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_4 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg1.toNat, c0_i32_0.toNat, c0_i32_1.toNat, c0_i32_2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x16x64x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x1x1x64x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x64x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== AttnIdeal.lean ====
variable {F : FTy → Type} [FloatOps F] [Named F]
def κ : String → Option EReal := fun
  | "mask" => some ⊥
  | _ => none
-- ==== AttnRefIdeal.lean ====
abbrev S2x8x8192x128 : Shape := ⟨4, ![2, 8, 8192, 128]⟩
abbrev S2x8x16x64x512 : Shape := ⟨5, ![2, 8, 16, 64, 512]⟩
abbrev S1x8x128x128 : Shape := ⟨4, ![1, 8, 128, 128]⟩
abbrev S1x8x1x64x128 : Shape := ⟨5, ![1, 8, 1, 64, 128]⟩
abbrev S1x8x16x128 : Shape := ⟨4, ![1, 8, 16, 128]⟩
abbrev S2x8x16x128 : Shape := ⟨4, ![2, 8, 16, 128]⟩
abbrev S_ : Shape := ⟨0, ![]⟩
abbrev S2x8x112x128 : Shape := ⟨4, ![2, 8, 112, 128]⟩
abbrev S2x8x8320x128 : Shape := ⟨4, ![2, 8, 8320, 128]⟩
abbrev S1x8x1x64x16 : Shape := ⟨5, ![1, 8, 1, 64, 16]⟩
abbrev S1x8x64x16 : Shape := ⟨4, ![1, 8, 64, 16]⟩
abbrev S1x8x16x64 : Shape := ⟨4, ![1, 8, 16, 64]⟩
abbrev S2x8x16x512x64 : Shape := ⟨5, ![2, 8, 16, 512, 64]⟩
abbrev S2x8x8192x64 : Shape := ⟨4, ![2, 8, 8192, 64]⟩
abbrev S2x8x16x64 : Shape := ⟨4, ![2, 8, 16, 64]⟩
abbrev S2x8x112x64 : Shape := ⟨4, ![2, 8, 112, 64]⟩
abbrev S2x8x8320x64 : Shape := ⟨4, ![2, 8, 8320, 64]⟩
abbrev S2x8x8192x8320 : Shape := ⟨4, ![2, 8, 8192, 8320]⟩
abbrev S8192 : Shape := ⟨1, ![8192]⟩
abbrev S8320 : Shape := ⟨1, ![8320]⟩
abbrev S1x8320 : Shape := ⟨2, ![1, 8320]⟩
abbrev S8192x1 : Shape := ⟨2, ![8192, 1]⟩
abbrev S8192x8320 : Shape := ⟨2, ![8192, 8320]⟩
abbrev S1x1x8192x8320 : Shape := ⟨4, ![1, 1, 8192, 8320]⟩
abbrev S2x8x8192 : Shape := ⟨3, ![2, 8, 8192]⟩
abbrev S2x8x8192x1 : Shape := ⟨4, ![2, 8, 8192, 1]⟩
abbrev S2x8x64x8192 : Shape := ⟨4, ![2, 8, 64, 8192]⟩
abbrev S2x512x8192 : Shape := ⟨3, ![2, 512, 8192]⟩

abbrev nBuf : Space → Nat
  | .hbm => 69
  | .vmem => 0
  | .smem => 0
  | _ => 0

abbrev bufTy : (tb : Table) → Fin (tcTables nBuf tb) → BufTy
  | .hbm, ⟨0, _⟩ => ⟨S2x8x8192x128, .bf16⟩
  | .hbm, ⟨1, _⟩ => ⟨S2x8x8192x128, .bf16⟩
  | .hbm, ⟨2, _⟩ => ⟨S2x8x16x64x512, .bf16⟩
  | .hbm, ⟨3, _⟩ => ⟨S1x8x128x128, .bf16⟩
  | .hbm, ⟨4, _⟩ => ⟨S1x8x1x64x128, .bf16⟩
  | .hbm, ⟨5, _⟩ => ⟨S1x8x16x128, .bf16⟩
  | .hbm, ⟨6, _⟩ => ⟨S1x8x16x128, .f32⟩
  | .hbm, ⟨7, _⟩ => ⟨S2x8x16x128, .f32⟩
  | .hbm, ⟨8, _⟩ => ⟨S_, .f32⟩
  | .hbm, ⟨9, _⟩ => ⟨S2x8x112x128, .f32⟩
  | .hbm, ⟨10, _⟩ => ⟨S2x8x8192x128, .f32⟩
  | .hbm, ⟨11, _⟩ => ⟨S2x8x8320x128, .f32⟩
  | .hbm, ⟨12, _⟩ => ⟨S1x8x1x64x16, .bf16⟩
  | .hbm, ⟨13, _⟩ => ⟨S1x8x64x16, .bf16⟩
  | .hbm, ⟨14, _⟩ => ⟨S1x8x16x64, .bf16⟩
  | .hbm, ⟨15, _⟩ => ⟨S2x8x16x512x64, .bf16⟩
  | .hbm, ⟨16, _⟩ => ⟨S2x8x8192x64, .bf16⟩
  | .hbm, ⟨17, _⟩ => ⟨S1x8x16x64, .f32⟩
  | .hbm, ⟨18, _⟩ => ⟨S2x8x16x64, .f32⟩
  | .hbm, ⟨19, _⟩ => ⟨S_, .f32⟩
  | .hbm, ⟨20, _⟩ => ⟨S2x8x112x64, .f32⟩
  | .hbm, ⟨21, _⟩ => ⟨S2x8x8192x64, .f32⟩
  | .hbm, ⟨22, _⟩ => ⟨S2x8x8320x64, .f32⟩
  | .hbm, ⟨23, _⟩ => ⟨S2x8x8192x128, .f32⟩
  | .hbm, ⟨24, _⟩ => ⟨S2x8x8192x8320, .f32⟩
  | .hbm, ⟨25, _⟩ => ⟨S_, .f32⟩
  | .hbm, ⟨26, _⟩ => ⟨S_, .f32⟩
  | .hbm, ⟨27, _⟩ => ⟨S2x8x8192x8320, .f32⟩
  | .hbm, ⟨28, _⟩ => ⟨S2x8x8192x8320, .f32⟩
  | .hbm, ⟨29, _⟩ => ⟨S8192, .i32⟩
  | .hbm, ⟨30, _⟩ => ⟨S_, .i32⟩
  | .hbm, ⟨31, _⟩ => ⟨S8192, .i32⟩
  | .hbm, ⟨32, _⟩ => ⟨S8192, .i32⟩
  | .hbm, ⟨33, _⟩ => ⟨S8320, .i32⟩
  | .hbm, ⟨34, _⟩ => ⟨S1x8320, .i32⟩
  | .hbm, ⟨35, _⟩ => ⟨S8192x1, .i32⟩
  | .hbm, ⟨36, _⟩ => ⟨S8192x8320, .i32⟩
  | .hbm, ⟨37, _⟩ => ⟨S8192x8320, .i32⟩
  | .hbm, ⟨38, _⟩ => ⟨S8192x8320, .i1⟩
  | .hbm, ⟨39, _⟩ => ⟨S_, .i32⟩
  | .hbm, ⟨40, _⟩ => ⟨S8320, .i32⟩
  | .hbm, ⟨41, _⟩ => ⟨S8320, .i1⟩
  | .hbm, ⟨42, _⟩ => ⟨S1x8320, .i1⟩
  | .hbm, ⟨43, _⟩ => ⟨S8192x8320, .i1⟩
  | .hbm, ⟨44, _⟩ => ⟨S8192x8320, .i1⟩
  | .hbm, ⟨45, _⟩ => ⟨S1x1x8192x8320, .i1⟩
  | .hbm, ⟨46, _⟩ => ⟨S_, .f32⟩
  | .hbm, ⟨47, _⟩ => ⟨S_, .f32⟩
  | .hbm, ⟨48, _⟩ => ⟨S2x8x8192x8320, .i1⟩
  | .hbm, ⟨49, _⟩ => ⟨S2x8x8192x8320, .f32⟩
  | .hbm, ⟨50, _⟩ => ⟨S2x8x8192x8320, .f32⟩
  | .hbm, ⟨51, _⟩ => ⟨S_, .f32⟩
  | .hbm, ⟨52, _⟩ => ⟨S2x8x8192, .f32⟩
  | .hbm, ⟨53, _⟩ => ⟨S_, .f32⟩
  | .hbm, ⟨54, _⟩ => ⟨S2x8x8192, .f32⟩
  | .hbm, ⟨55, _⟩ => ⟨S2x8x8192, .f32⟩
  | .hbm, ⟨56, _⟩ => ⟨S2x8x8192x1, .f32⟩
  | .hbm, ⟨57, _⟩ => ⟨S2x8x8192x8320, .f32⟩
  | .hbm, ⟨58, _⟩ => ⟨S2x8x8192x8320, .f32⟩
  | .hbm, ⟨59, _⟩ => ⟨S2x8x8192x8320, .f32⟩
  | .hbm, ⟨60, _⟩ => ⟨S_, .f32⟩
  | .hbm, ⟨61, _⟩ => ⟨S2x8x8192, .f32⟩
  | .hbm, ⟨62, _⟩ => ⟨S2x8x8192x1, .f32⟩
  | .hbm, ⟨63, _⟩ => ⟨S2x8x8192x8320, .f32⟩
  | .hbm, ⟨64, _⟩ => ⟨S2x8x8192x8320, .f32⟩
  | .hbm, ⟨65, _⟩ => ⟨S2x8x8192x64, .f32⟩
  | .hbm, ⟨66, _⟩ => ⟨S2x8x64x8192, .f32⟩
  | .hbm, ⟨67, _⟩ => ⟨S2x512x8192, .f32⟩
  | .hbm, ⟨68, _⟩ => ⟨S2x512x8192, .bf16⟩
  | _, _ => ⟨S2x8x8192x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_c : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_c_2 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_3 : Ref sig .tc := ⟨.hbm, 46, rfl⟩
abbrev main_call0_v0 : Ref sig .tc := ⟨.hbm, 47, rfl⟩
abbrev main_call0_v1 : Ref sig .tc := ⟨.hbm, 48, rfl⟩
abbrev main_call0_v2 : Ref sig .tc := ⟨.hbm, 49, rfl⟩
abbrev main_v36 : Ref sig .tc := ⟨.hbm, 50, rfl⟩
abbrev main_cst_4 : Ref sig .tc := ⟨.hbm, 51, rfl⟩
abbrev main_v37 : Ref sig .tc := ⟨.hbm, 52, rfl⟩
abbrev main_cst_5 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_6 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩

abbrev nD : Nat := 1
abbrev τ : Topo := Topo.v7x

variable {F : FTy → Type} [FloatOps F]
-- ==== Moe.lean ====
abbrev S16384x1024 : Shape := ⟨2, ![16384, 1024]⟩
abbrev S16384x128 : Shape := ⟨2, ![16384, 128]⟩
abbrev S1x4x8x1024x256 : Shape := ⟨5, ![1, 4, 8, 1024, 256]⟩
abbrev S1x4x8x256x1024 : Shape := ⟨5, ![1, 4, 8, 256, 1024]⟩
abbrev S1024 : Shape := ⟨1, ![1024]⟩
abbrev S4x8x1024x256 : Shape := ⟨4, ![4, 8, 1024, 256]⟩
abbrev S32x1024x256 : Shape := ⟨3, ![32, 1024, 256]⟩
abbrev S4x8x256x1024 : Shape := ⟨4, ![4, 8, 256, 1024]⟩
abbrev S32x256x1024 : Shape := ⟨3, ![32, 256, 1024]⟩
abbrev S1x1024 : Shape := ⟨2, ![1, 1024]⟩
abbrev S1024x1024 : Shape := ⟨2, ![1024, 1024]⟩
abbrev S1024x128 : Shape := ⟨2, ![1024, 128]⟩
abbrev S1x1024x256 : Shape := ⟨3, ![1, 1024, 256]⟩
abbrev S1x256x1024 : Shape := ⟨3, ![1, 256, 1024]⟩
abbrev S1024x256 : Shape := ⟨2, ![1024, 256]⟩
abbrev S1024x1 : Shape := ⟨2, ![1024, 1]⟩
abbrev S256x1024 : Shape := ⟨2, ![256, 1024]⟩

abbrev nBuf : Space → Nat
  | .hbm => 15
  | .vmem => 16
  | .smem => 0
  | _ => 0

abbrev bufTy : (tb : Table) → Fin (tcTables nBuf tb) → BufTy
  | .hbm, ⟨0, _⟩ => ⟨S16384x1024, .bf16⟩
  | .hbm, ⟨1, _⟩ => ⟨S16384x128, .f32⟩
  | .hbm, ⟨2, _⟩ => ⟨S16384x1024, .f32⟩
  | .hbm, ⟨3, _⟩ => ⟨S1x4x8x1024x256, .f32⟩
  | .hbm, ⟨4, _⟩ => ⟨S1x4x8x1024x256, .f32⟩
  | .hbm, ⟨5, _⟩ => ⟨S1x4x8x256x1024, .f32⟩
  | .hbm, ⟨6, _⟩ => ⟨S1024, .f32⟩
  | .hbm, ⟨7, _⟩ => ⟨S4x8x1024x256, .f32⟩
  | .hbm, ⟨8, _⟩ => ⟨S32x1024x256, .f32⟩
  | .hbm, ⟨9, _⟩ => ⟨S4x8x1024x256, .f32⟩
  | .hbm, ⟨10, _⟩ => ⟨S32x1024x256, .f32⟩
  | .hbm, ⟨11, _⟩ => ⟨S4x8x256x1024, .f32⟩
  | .hbm, ⟨12, _⟩ => ⟨S32x256x1024, .f32⟩
  | .hbm, ⟨13, _⟩ => ⟨S1x1024, .f32⟩
  | .hbm, ⟨14, _⟩ => ⟨S16384x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x128, .f32⟩
  | .local _ .vmem, ⟨3, _⟩ => ⟨S1024x128, .f32⟩
  | .local _ .vmem, ⟨4, _⟩ => ⟨S1024x1024, .f32⟩
  | .local _ .vmem, ⟨5, _⟩ => ⟨S1024x1024, .f32⟩
  | .local _ .vmem, ⟨6, _⟩ => ⟨S1x1024x256, .f32⟩
  | .local _ .vmem, ⟨7, _⟩ => ⟨S1x1024x256, .f32⟩
  | .local _ .vmem, ⟨8, _⟩ => ⟨S1x1024x256, .f32⟩
  | .local _ .vmem, ⟨9, _⟩ => ⟨S1x1024x256, .f32⟩
  | .local _ .vmem, ⟨10, _⟩ => ⟨S1x256x1024, .f32⟩
  | .local _ .vmem, ⟨11, _⟩ => ⟨S1x256x1024, .f32⟩
  | .local _ .vmem, ⟨12, _⟩ => ⟨S1x1024, .f32⟩
  | .local _ .vmem, ⟨13, _⟩ => ⟨S1024x1024, .f32⟩
  | .local _ .vmem, ⟨14, _⟩ => ⟨S1024x1024, .f32⟩
  | .local _ .vmem, ⟨15, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![16, 32], ![false, false]⟩

def k0_cond2 (i : grid0.Coords) : BitVec 1 :=
  let arg1 : BitVec 32 := BitVec.ofNat 32 (i 1).val
  let c31_i32 : BitVec 32 := 31#32
  let v35 : BitVec 1 := Scalar.cmpi .eq arg1 c31_i32
  let v36 : BitVec 32 := Scalar.extui v35
  let c0_i32_21 : BitVec 32 := 0#32
  let v37 : BitVec 1 := Scalar.cmpi .ne v36 c0_i32_21
  v37

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== MoeRefIdeal.lean ====
abbrev S16384x1024 : Shape := ⟨2, ![16384, 1024]⟩
abbrev S16384x128 : Shape := ⟨2, ![16384, 128]⟩
abbrev S1x4x8x1024x256 : Shape := ⟨5, ![1, 4, 8, 1024, 256]⟩
abbrev S1x4x8x256x1024 : Shape := ⟨5, ![1, 4, 8, 256, 1024]⟩
abbrev S1024 : Shape := ⟨1, ![1024]⟩
abbrev S16384x32 : Shape := ⟨2, ![16384, 32]⟩
abbrev S16384x4x8 : Shape := ⟨3, ![16384, 4, 8]⟩
abbrev S_ : Shape := ⟨0, ![]⟩
abbrev S1x1x8x1024x256 : Shape := ⟨5, ![1, 1, 8, 1024, 256]⟩
abbrev S8x1024x256 : Shape := ⟨3, ![8, 1024, 256]⟩
abbrev S16384x8x256 : Shape := ⟨3, ![16384, 8, 256]⟩
abbrev S16384x1x8 : Shape := ⟨3, ![16384, 1, 8]⟩
abbrev S16384x8 : Shape := ⟨2, ![16384, 8]⟩
abbrev S16384x8x1 : Shape := ⟨3, ![16384, 8, 1]⟩
abbrev S1x1x8x256x1024 : Shape := ⟨5, ![1, 1, 8, 256, 1024]⟩
abbrev S8x256x1024 : Shape := ⟨3, ![8, 256, 1024]⟩
abbrev S16384 : Shape := ⟨1, ![16384]⟩
abbrev S16384x1 : Shape := ⟨2, ![16384, 1]⟩
abbrev S1x1024 : Shape := ⟨2, ![1, 1024]⟩

abbrev nBuf : Space → Nat
  | .hbm => 129
  | .vmem => 0
  | .smem => 0
  | _ => 0

abbrev hbmTy0_0 (i : Nat) : BufTy := match i % 128 with
  | 0 => ⟨S16384x1024, .bf16⟩
  | 1 => ⟨S16384x128, .f32⟩
  | 2 => ⟨S16384x1024, .f32⟩
  | 3 => ⟨S1x4x8x1024x256, .f32⟩
  | 4 => ⟨S1x4x8x1024x256, .f32⟩
  | 5 => ⟨S1x4x8x256x1024, .f32⟩
  | 6 => ⟨S1024, .f32⟩
  | 7 => ⟨S16384x1024, .f32⟩
  | 8 => ⟨S16384x32, .f32⟩
  | 9 => ⟨S16384x4x8, .f32⟩
  | 10 => ⟨S_, .f32⟩
  | 11 => ⟨S16384x1024, .f32⟩
  | 12 => ⟨S1x1x8x1024x256, .f32⟩
  | 13 => ⟨S8x1024x256, .f32⟩
  | 14 => ⟨S16384x8x256, .f32⟩
  | 15 => ⟨S1x1x8x1024x256, .f32⟩
  | 16 => ⟨S8x1024x256, .f32⟩
  | 17 => ⟨S16384x8x256, .f32⟩
  | 18 => ⟨S16384x8x256, .f32⟩
  | 19 => ⟨S16384x8x256, .f32⟩
  | 20 => ⟨S_, .f32⟩
  | 21 => ⟨S16384x8x256, .f32⟩
  | 22 => ⟨S16384x8x256, .f32⟩
  | 23 => ⟨S_, .f32⟩
  | 24 => ⟨S16384x8x256, .f32⟩
  | 25 => ⟨S16384x8x256, .f32⟩
  | 26 => ⟨S16384x8x256, .f32⟩
  | 27 => ⟨S16384x8x256, .f32⟩
  | 28 => ⟨S16384x1x8, .f32⟩
  | 29 => ⟨S16384x8, .f32⟩
  | 30 => ⟨S16384x8x1, .f32⟩
  | 31 => ⟨S16384x8x256, .f32⟩
  | 32 => ⟨S16384x8x256, .f32⟩
  | 33 => ⟨S1x1x8x256x1024, .f32⟩
  | 34 => ⟨S8x256x1024, .f32⟩
  | 35 => ⟨S16384x1024, .f32⟩
  | 36 => ⟨S16384x1024, .f32⟩
  | 37 => ⟨S1x1x8x1024x256, .f32⟩
  | 38 => ⟨S8x1024x256, .f32⟩
  | 39 => ⟨S16384x8x256, .f32⟩
  | 40 => ⟨S1x1x8x1024x256, .f32⟩
  | 41 => ⟨S8x1024x256, .f32⟩
  | 42 => ⟨S16384x8x256, .f32⟩
  | 43 => ⟨S16384x8x256, .f32⟩
  | 44 => ⟨S16384x8x256, .f32⟩
  | 45 => ⟨S_, .f32⟩
  | 46 => ⟨S16384x8x256, .f32⟩
  | 47 => ⟨S16384x8x256, .f32⟩
  | 48 => ⟨S_, .f32⟩
  | 49 => ⟨S16384x8x256, .f32⟩
  | 50 => ⟨S16384x8x256, .f32⟩
  | 51 => ⟨S16384x8x256, .f32⟩
  | 52 => ⟨S16384x8x256, .f32⟩
  | 53 => ⟨S16384x1x8, .f32⟩
  | 54 => ⟨S16384x8, .f32⟩
  | 55 => ⟨S16384x8x1, .f32⟩
  | 56 => ⟨S16384x8x256, .f32⟩
  | 57 => ⟨S16384x8x256, .f32⟩
  | 58 => ⟨S1x1x8x256x1024, .f32⟩
  | 59 => ⟨S8x256x1024, .f32⟩
  | 60 => ⟨S16384x1024, .f32⟩
  | 61 => ⟨S16384x1024, .f32⟩
  | 62 => ⟨S1x1x8x1024x256, .f32⟩
  | 63 => ⟨S8x1024x256, .f32⟩
  | 64 => ⟨S16384x8x256, .f32⟩
  | 65 => ⟨S1x1x8x1024x256, .f32⟩
  | 66 => ⟨S8x1024x256, .f32⟩
  | 67 => ⟨S16384x8x256, .f32⟩
  | 68 => ⟨S16384x8x256, .f32⟩
  | 69 => ⟨S16384x8x256, .f32⟩
  | 70 => ⟨S_, .f32⟩
  | 71 => ⟨S16384x8x256, .f32⟩
  | 72 => ⟨S16384x8x256, .f32⟩
  | 73 => ⟨S_, .f32⟩
  | 74 => ⟨S16384x8x256, .f32⟩
  | 75 => ⟨S16384x8x256, .f32⟩
  | 76 => ⟨S16384x8x256, .f32⟩
  | 77 => ⟨S16384x8x256, .f32⟩
  | 78 => ⟨S16384x1x8, .f32⟩
  | 79 => ⟨S16384x8, .f32⟩
  | 80 => ⟨S16384x8x1, .f32⟩
  | 81 => ⟨S16384x8x256, .f32⟩
  | 82 => ⟨S16384x8x256, .f32⟩
  | 83 => ⟨S1x1x8x256x1024, .f32⟩
  | 84 => ⟨S8x256x1024, .f32⟩
  | 85 => ⟨S16384x1024, .f32⟩
  | 86 => ⟨S16384x1024, .f32⟩
  | 87 => ⟨S1x1x8x1024x256, .f32⟩
  | 88 => ⟨S8x1024x256, .f32⟩
  | 89 => ⟨S16384x8x256, .f32⟩
  | 90 => ⟨S1x1x8x1024x256, .f32⟩
  | 91 => ⟨S8x1024x256, .f32⟩
  | 92 => ⟨S16384x8x256, .f32⟩
  | 93 => ⟨S16384x8x256, .f32⟩
  | 94 => ⟨S16384x8x256, .f32⟩
  | 95 => ⟨S_, .f32⟩
  | 96 => ⟨S16384x8x256, .f32⟩
  | 97 => ⟨S16384x8x256, .f32⟩
  | 98 => ⟨S_, .f32⟩
  | 99 => ⟨S16384x8x256, .f32⟩
  | 100 => ⟨S16384x8x256, .f32⟩
  | 101 => ⟨S16384x8x256, .f32⟩
  | 102 => ⟨S16384x8x256, .f32⟩
  | 103 => ⟨S16384x1x8, .f32⟩
  | 104 => ⟨S16384x8, .f32⟩
  | 105 => ⟨S16384x8x1, .f32⟩
  | 106 => ⟨S16384x8x256, .f32⟩
  | 107 => ⟨S16384x8x256, .f32⟩
  | 108 => ⟨S1x1x8x256x1024, .f32⟩
  | 109 => ⟨S8x256x1024, .f32⟩
  | 110 => ⟨S16384x1024, .f32⟩
  | 111 => ⟨S16384x1024, .f32⟩
  | 112 => ⟨S16384x1024, .f32⟩
  | 113 => ⟨S16384x1024, .f32⟩
  | 114 => ⟨S_, .f32⟩
  | 115 => ⟨S16384, .f32⟩
  | 116 => ⟨S16384x1, .f32⟩
  | 117 => ⟨S_, .f32⟩
  | 118 => ⟨S16384x1, .f32⟩
  | 119 => ⟨S16384x1, .f32⟩
  | 120 => ⟨S_, .f32⟩
  | 121 => ⟨S16384x1, .f32⟩
  | 122 => ⟨S16384x1, .f32⟩
  | 123 => ⟨S16384x1, .f32⟩
  | 124 => ⟨S16384x1024, .f32⟩
  | 125 => ⟨S16384x1024, .f32⟩
  | 126 => ⟨S1x1024, .f32⟩
  | 127 => ⟨S16384x1024, .f32⟩
  | _ => ⟨S16384x1024, .bf16⟩

abbrev hbmTy0_1 (i : Nat) : BufTy := match i % 128 with
  | 0 => ⟨S16384x1024, .f32⟩
  | _ => ⟨S16384x1024, .bf16⟩

abbrev hbmTy (i : Nat) : BufTy := match i / 128 with
  | 0 => hbmTy0_0 i
  | 1 => hbmTy0_1 i
  | _ => ⟨S16384x1024, .bf16⟩

abbrev bufTy : (tb : Table) → Fin (tcTables nBuf tb) → BufTy
  | .hbm, ⟨i, _⟩ => hbmTy i
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_call0_v0 : Ref sig .tc := ⟨.hbm, 18, rfl⟩
abbrev main_call0_v1 : Ref sig .tc := ⟨.hbm, 19, rfl⟩
abbrev main_call0_cst : Ref sig .tc := ⟨.hbm, 20, rfl⟩
abbrev main_call0_v2 : Ref sig .tc := ⟨.hbm, 21, rfl⟩
abbrev main_call0_v3 : Ref sig .tc := ⟨.hbm, 22, rfl⟩
abbrev main_call0_cst_0 : Ref sig .tc := ⟨.hbm, 23, rfl⟩
abbrev main_call0_v4 : Ref sig .tc := ⟨.hbm, 24, rfl⟩
abbrev main_call0_v5 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_call1_v0 : Ref sig .tc := ⟨.hbm, 43, rfl⟩
abbrev main_call1_v1 : Ref sig .tc := ⟨.hbm, 44, rfl⟩
abbrev main_call1_cst : Ref sig .tc := ⟨.hbm, 45, rfl⟩
abbrev main_call1_v2 : Ref sig .tc := ⟨.hbm, 46, rfl⟩
abbrev main_call1_v3 : Ref sig .tc := ⟨.hbm, 47, rfl⟩
abbrev main_call1_cst_0 : Ref sig .tc := ⟨.hbm, 48, rfl⟩
abbrev main_call1_v4 : Ref sig .tc := ⟨.hbm, 49, rfl⟩
abbrev main_call1_v5 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_call2_v0 : Ref sig .tc := ⟨.hbm, 68, rfl⟩
abbrev main_call2_v1 : Ref sig .tc := ⟨.hbm, 69, rfl⟩
abbrev main_call2_cst : Ref sig .tc := ⟨.hbm, 70, rfl⟩
abbrev main_call2_v2 : Ref sig .tc := ⟨.hbm, 71, rfl⟩
abbrev main_call2_v3 : Ref sig .tc := ⟨.hbm, 72, rfl⟩
abbrev main_call2_cst_0 : Ref sig .tc := ⟨.hbm, 73, rfl⟩
abbrev main_call2_v4 : Ref sig .tc := ⟨.hbm, 74, rfl⟩
abbrev main_call2_v5 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_call3_v0 : Ref sig .tc := ⟨.hbm, 93, rfl⟩
abbrev main_call3_v1 : Ref sig .tc := ⟨.hbm, 94, rfl⟩
abbrev main_call3_cst : Ref sig .tc := ⟨.hbm, 95, rfl⟩
abbrev main_call3_v2 : Ref sig .tc := ⟨.hbm, 96, rfl⟩
abbrev main_call3_v3 : Ref sig .tc := ⟨.hbm, 97, rfl⟩
abbrev main_call3_cst_0 : Ref sig .tc := ⟨.hbm, 98, rfl⟩
abbrev main_call3_v4 : Ref sig .tc := ⟨.hbm, 99, rfl⟩
abbrev main_call3_v5 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_cst_0 : Ref sig .tc := ⟨.hbm, 114, rfl⟩
abbrev main_v74 : Ref sig .tc := ⟨.hbm, 115, rfl⟩
abbrev main_v75 : Ref sig .tc := ⟨.hbm, 116, rfl⟩
abbrev main_cst_1 : Ref sig .tc := ⟨.hbm, 117, rfl⟩
abbrev main_v76 : Ref sig .tc := ⟨.hbm, 118, rfl⟩
abbrev main_v77 : Ref sig .tc := ⟨.hbm, 119, rfl⟩
abbrev main_cst_2 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩

abbrev nD : Nat := 1
abbrev τ : Topo := Topo.v7x

variable {F : FTy → Type} [FloatOps F]
-- ==== Merge.lean ====
abbrev S2x8192x1024 : Shape := ⟨3, ![2, 8192, 1024]⟩
abbrev S2x512x8192 : Shape := ⟨3, ![2, 512, 8192]⟩
abbrev S1x1024 : Shape := ⟨2, ![1, 1024]⟩
abbrev S1x1024x4392 : Shape := ⟨3, ![1, 1024, 4392]⟩
abbrev S1x512x1024 : Shape := ⟨3, ![1, 512, 1024]⟩
abbrev S1x1024x1024 : Shape := ⟨3, ![1, 1024, 1024]⟩
abbrev S1x1024x4 : Shape := ⟨3, ![1, 1024, 4]⟩
abbrev S1x4 : Shape := ⟨2, ![1, 4]⟩
abbrev S1x1024x32 : Shape := ⟨3, ![1, 1024, 32]⟩
abbrev S1x32 : Shape := ⟨2, ![1, 32]⟩
abbrev S1024x4392 : Shape := ⟨2, ![1024, 4392]⟩
abbrev S1024x1024 : Shape := ⟨2, ![1024, 1024]⟩
abbrev S1024x2048 : Shape := ⟨2, ![1024, 2048]⟩
abbrev S1024x32 : Shape := ⟨2, ![1024, 32]⟩
abbrev S1024x4 : Shape := ⟨2, ![1024, 4]⟩
abbrev S_ : Shape := ⟨0, ![]⟩
abbrev S1024x92 : Shape := ⟨2, ![1024, 92]⟩
abbrev S1024x128 : Shape := ⟨2, ![1024, 128]⟩
abbrev S32 : Shape := ⟨1, ![32]⟩
abbrev S4 : Shape := ⟨1, ![4]⟩
abbrev S1x36 : Shape := ⟨2, ![1, 36]⟩
abbrev S1x128 : Shape := ⟨2, ![1, 128]⟩
abbrev S1024 : Shape := ⟨1, ![1024]⟩
abbrev S512x1024 : Shape := ⟨2, ![512, 1024]⟩
abbrev S2x8192x128 : Shape := ⟨3, ![2, 8192, 128]⟩
abbrev S1x512x512 : Shape := ⟨3, ![1, 512, 512]⟩
abbrev S1x512x128 : Shape := ⟨3, ![1, 512, 128]⟩
abbrev S512 : Shape := ⟨1, ![512]⟩
abbrev S512x1 : Shape := ⟨2, ![512, 1]⟩
abbrev S512x2048 : Shape := ⟨2, ![512, 2048]⟩
abbrev S512x512 : Shape := ⟨2, ![512, 512]⟩
abbrev S512x128 : Shape := ⟨2, ![512, 128]⟩

abbrev nBuf : Space → Nat
  | .hbm => 48
  | .vmem => 21
  | .smem => 0
  | _ => 0

abbrev bufTy : (tb : Table) → Fin (tcTables nBuf tb) → BufTy
  | .hbm, ⟨0, _⟩ => ⟨S2x8192x1024, .f32⟩
  | .hbm, ⟨1, _⟩ => ⟨S2x512x8192, .bf16⟩
  | .hbm, ⟨2, _⟩ => ⟨S2x512x8192, .bf16⟩
  | .hbm, ⟨3, _⟩ => ⟨S1x1024, .f32⟩
  | .hbm, ⟨4, _⟩ => ⟨S1x1024x4392, .f32⟩
  | .hbm, ⟨5, _⟩ => ⟨S1x512x1024, .f32⟩
  | .hbm, ⟨6, _⟩ => ⟨S1x512x1024, .f32⟩
  | .hbm, ⟨7, _⟩ => ⟨S1x1024x1024, .f32⟩
  | .hbm, ⟨8, _⟩ => ⟨S1x1024, .f32⟩
  | .hbm, ⟨9, _⟩ => ⟨S1x1024x4, .f32⟩
  | .hbm, ⟨10, _⟩ => ⟨S1x4, .f32⟩
  | .hbm, ⟨11, _⟩ => ⟨S1x1024x32, .f32⟩
  | .hbm, ⟨12, _⟩ => ⟨S1x32, .f32⟩
  | .hbm, ⟨13, _⟩ => ⟨S1024x4392, .f32⟩
  | .hbm, ⟨14, _⟩ => ⟨S1024x1024, .f32⟩
  | .hbm, ⟨15, _⟩ => ⟨S1024x1024, .f32⟩
  | .hbm, ⟨16, _⟩ => ⟨S1024x2048, .f32⟩
  | .hbm, ⟨17, _⟩ => ⟨S1024x2048, .bf16⟩
  | .hbm, ⟨18, _⟩ => ⟨S1024x32, .f32⟩
  | .hbm, ⟨19, _⟩ => ⟨S1024x4, .f32⟩
  | .hbm, ⟨20, _⟩ => ⟨S_, .f32⟩
  | .hbm, ⟨21, _⟩ => ⟨S1024x92, .f32⟩
  | .hbm, ⟨22, _⟩ => ⟨S1024x128, .f32⟩
  | .hbm, ⟨23, _⟩ => ⟨S1024x128, .bf16⟩
  | .hbm, ⟨24, _⟩ => ⟨S1024x128, .f32⟩
  | .hbm, ⟨25, _⟩ => ⟨S1024x128, .f32⟩
  | .hbm, ⟨26, _⟩ => ⟨S1024x128, .bf16⟩
  | .hbm, ⟨27, _⟩ => ⟨S32, .f32⟩
  | .hbm, ⟨28, _⟩ => ⟨S1x32, .f32⟩
  | .hbm, ⟨29, _⟩ => ⟨S4, .f32⟩
  | .hbm, ⟨30, _⟩ => ⟨S1x4, .f32⟩
  | .hbm, ⟨31, _⟩ => ⟨S1x36, .f32⟩
  | .hbm, ⟨32, _⟩ => ⟨S_, .i32⟩
  | .hbm, ⟨33, _⟩ => ⟨S_, .f32⟩
  | .hbm, ⟨34, _⟩ => ⟨S1x128, .f32⟩
  | .hbm, ⟨35, _⟩ => ⟨S1024, .f32⟩
  | .hbm, ⟨36, _⟩ => ⟨S1x1024, .f32⟩
  | .hbm, ⟨37, _⟩ => ⟨S512x1024, .f32⟩
  | .hbm, ⟨38, _⟩ => ⟨S512x1024, .bf16⟩
  | .hbm, ⟨39, _⟩ => ⟨S512x1024, .f32⟩
  | .hbm, ⟨40, _⟩ => ⟨S512x1024, .bf16⟩
  | .hbm, ⟨41, _⟩ => ⟨S1024x1024, .f32⟩
  | .hbm, ⟨42, _⟩ => ⟨S1024x1024, .bf16⟩
  | .hbm, ⟨43, _⟩ => ⟨S1024, .f32⟩
  | .hbm, ⟨44, _⟩ => ⟨S1x1024, .f32⟩
  | .hbm, ⟨45, _⟩ => ⟨S2x8192x1024, .f32⟩
  | .hbm, ⟨46, _⟩ => ⟨S2x8192x1024, .bf16⟩
  | .hbm, ⟨47, _⟩ => ⟨S2x8192x128, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x1024, .f32⟩
  | .local _ .vmem, ⟨7, _⟩ => ⟨S1024x2048, .bf16⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S1x1024, .f32⟩
  | .local _ .vmem, ⟨12, _⟩ => ⟨S1024x128, .bf16⟩
  | .local _ .vmem, ⟨13, _⟩ => ⟨S1024x128, .bf16⟩
  | .local _ .vmem, ⟨14, _⟩ => ⟨S1x128, .f32⟩
  | .local _ .vmem, ⟨15, _⟩ => ⟨S1x512x1024, .f32⟩
  | .local _ .vmem, ⟨16, _⟩ => ⟨S1x512x1024, .f32⟩
  | .local _ .vmem, ⟨17, _⟩ => ⟨S1x512x1024, .bf16⟩
  | .local _ .vmem, ⟨18, _⟩ => ⟨S1x512x1024, .bf16⟩
  | .local _ .vmem, ⟨19, _⟩ => ⟨S1x512x128, .f32⟩
  | .local _ .vmem, ⟨20, _⟩ => ⟨S1x512x128, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c : Ref sig .tc := ⟨.hbm, 32, rfl⟩
abbrev main_call0_v0 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29_0 : Ref sig .tc := ⟨.hbm, 45, rfl⟩
abbrev main_v29_1 : Ref sig .tc := ⟨.hbm, 46, rfl⟩
abbrev main_v29_2 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== MergeRefIdeal.lean ====
abbrev S2x8192x1024 : Shape := ⟨3, ![2, 8192, 1024]⟩
abbrev S2x512x8192 : Shape := ⟨3, ![2, 512, 8192]⟩
abbrev S1x1024 : Shape := ⟨2, ![1, 1024]⟩
abbrev S1x1024x4392 : Shape := ⟨3, ![1, 1024, 4392]⟩
abbrev S1x512x1024 : Shape := ⟨3, ![1, 512, 1024]⟩
abbrev S1x1024x1024 : Shape := ⟨3, ![1, 1024, 1024]⟩
abbrev S1x1024x4 : Shape := ⟨3, ![1, 1024, 4]⟩
abbrev S1x4 : Shape := ⟨2, ![1, 4]⟩
abbrev S1x1024x32 : Shape := ⟨3, ![1, 1024, 32]⟩
abbrev S1x32 : Shape := ⟨2, ![1, 32]⟩
abbrev S2x8192x512 : Shape := ⟨3, ![2, 8192, 512]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S1024x1024 : Shape := ⟨2, ![1024, 1024]⟩
abbrev S512x1024 : Shape := ⟨2, ![512, 1024]⟩

abbrev nBuf : Space → Nat
  | .hbm => 84
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x512x8192, .bf16⟩
  | .hbm, ⟨2, _⟩ => ⟨S2x512x8192, .bf16⟩
  | .hbm, ⟨3, _⟩ => ⟨S1x1024, .f32⟩
  | .hbm, ⟨4, _⟩ => ⟨S1x1024x4392, .f32⟩
  | .hbm, ⟨5, _⟩ => ⟨S1x512x1024, .f32⟩
  | .hbm, ⟨6, _⟩ => ⟨S1x512x1024, .f32⟩
  | .hbm, ⟨7, _⟩ => ⟨S1x1024x1024, .f32⟩
  | .hbm, ⟨8, _⟩ => ⟨S1x1024, .f32⟩
  | .hbm, ⟨9, _⟩ => ⟨S1x1024x4, .f32⟩
  | .hbm, ⟨10, _⟩ => ⟨S1x4, .f32⟩
  | .hbm, ⟨11, _⟩ => ⟨S1x1024x32, .f32⟩
  | .hbm, ⟨12, _⟩ => ⟨S1x32, .f32⟩
  | .hbm, ⟨13, _⟩ => ⟨S2x512x8192, .f32⟩
  | .hbm, ⟨14, _⟩ => ⟨S2x8192x512, .f32⟩
  | .hbm, ⟨15, _⟩ => ⟨S2x512x8192, .f32⟩
  | .hbm, ⟨16, _⟩ => ⟨S2x8192x512, .f32⟩
  | .hbm, ⟨17, _⟩ => ⟨S1024, .f32⟩
  | .hbm, ⟨18, _⟩ => ⟨S2x8192x1024, .f32⟩
  | .hbm, ⟨19, _⟩ => ⟨S_, .f32⟩
  | .hbm, ⟨20, _⟩ => ⟨S2x8192, .f32⟩
  | .hbm, ⟨21, _⟩ => ⟨S2x8192x1, .f32⟩
  | .hbm, ⟨22, _⟩ => ⟨S_, .f32⟩
  | .hbm, ⟨23, _⟩ => ⟨S2x8192x1, .f32⟩
  | .hbm, ⟨24, _⟩ => ⟨S2x8192x1, .f32⟩
  | .hbm, ⟨25, _⟩ => ⟨S_, .f32⟩
  | .hbm, ⟨26, _⟩ => ⟨S2x8192x1, .f32⟩
  | .hbm, ⟨27, _⟩ => ⟨S2x8192x1, .f32⟩
  | .hbm, ⟨28, _⟩ => ⟨S2x8192x1, .f32⟩
  | .hbm, ⟨29, _⟩ => ⟨S2x8192x1024, .f32⟩
  | .hbm, ⟨30, _⟩ => ⟨S2x8192x1024, .f32⟩
  | .hbm, ⟨31, _⟩ => ⟨S1x1x1024, .f32⟩
  | .hbm, ⟨32, _⟩ => ⟨S2x8192x1024, .f32⟩
  | .hbm, ⟨33, _⟩ => ⟨S2x8192x1024, .f32⟩
  | .hbm, ⟨34, _⟩ => ⟨S1x1024x1024, .f32⟩
  | .hbm, ⟨35, _⟩ => ⟨S1024x1024, .f32⟩
  | .hbm, ⟨36, _⟩ => ⟨S2x8192x1024, .f32⟩
  | .hbm, ⟨37, _⟩ => ⟨S1x1024x1024, .f32⟩
  | .hbm, ⟨38, _⟩ => ⟨S1024x1024, .f32⟩
  | .hbm, ⟨39, _⟩ => ⟨S2x8192x1024, .f32⟩
  | .hbm, ⟨40, _⟩ => ⟨S2x8192x1024, .f32⟩
  | .hbm, ⟨41, _⟩ => ⟨S2x8192x1024, .f32⟩
  | .hbm, ⟨42, _⟩ => ⟨S_, .f32⟩
  | .hbm, ⟨43, _⟩ => ⟨S2x8192x1024, .f32⟩
  | .hbm, ⟨44, _⟩ => ⟨S2x8192x1024, .f32⟩
  | .hbm, ⟨45, _⟩ => ⟨S_, .f32⟩
  | .hbm, ⟨46, _⟩ => ⟨S2x8192x1024, .f32⟩
  | .hbm, ⟨47, _⟩ => ⟨S2x8192x1024, .f32⟩
  | .hbm, ⟨48, _⟩ => ⟨S512x1024, .f32⟩
  | .hbm, ⟨49, _⟩ => ⟨S2x8192x1024, .f32⟩
  | .hbm, ⟨50, _⟩ => ⟨S2x8192x1024, .f32⟩
  | .hbm, ⟨51, _⟩ => ⟨S2x8192x1024, .f32⟩
  | .hbm, ⟨52, _⟩ => ⟨S2x8192x1024, .f32⟩
  | .hbm, ⟨53, _⟩ => ⟨S_, .f32⟩
  | .hbm, ⟨54, _⟩ => ⟨S2x8192x1024, .f32⟩
  | .hbm, ⟨55, _⟩ => ⟨S2x8192x1024, .f32⟩
  | .hbm, ⟨56, _⟩ => ⟨S_, .f32⟩
  | .hbm, ⟨57, _⟩ => ⟨S2x8192x1024, .f32⟩
  | .hbm, ⟨58, _⟩ => ⟨S2x8192x1024, .f32⟩
  | .hbm, ⟨59, _⟩ => ⟨S512x1024, .f32⟩
  | .hbm, ⟨60, _⟩ => ⟨S2x8192x1024, .f32⟩
  | .hbm, ⟨61, _⟩ => ⟨S2x8192x1024, .f32⟩
  | .hbm, ⟨62, _⟩ => ⟨S2x8192x1024, .f32⟩
  | .hbm, ⟨63, _⟩ => ⟨S1024x1024, .f32⟩
  | .hbm, ⟨64, _⟩ => ⟨S2x8192x1024, .f32⟩
  | .hbm, ⟨65, _⟩ => ⟨S2x8192x1024, .f32⟩
  | .hbm, ⟨66, _⟩ => ⟨S1024, .f32⟩
  | .hbm, ⟨67, _⟩ => ⟨S2x8192x1024, .f32⟩
  | .hbm, ⟨68, _⟩ => ⟨S_, .f32⟩
  | .hbm, ⟨69, _⟩ => ⟨S2x8192, .f32⟩
  | .hbm, ⟨70, _⟩ => ⟨S2x8192x1, .f32⟩
  | .hbm, ⟨71, _⟩ => ⟨S_, .f32⟩
  | .hbm, ⟨72, _⟩ => ⟨S2x8192x1, .f32⟩
  | .hbm, ⟨73, _⟩ => ⟨S2x8192x1, .f32⟩
  | .hbm, ⟨74, _⟩ => ⟨S_, .f32⟩
  | .hbm, ⟨75, _⟩ => ⟨S2x8192x1, .f32⟩
  | .hbm, ⟨76, _⟩ => ⟨S2x8192x1, .f32⟩
  | .hbm, ⟨77, _⟩ => ⟨S2x8192x1, .f32⟩
  | .hbm, ⟨78, _⟩ => ⟨S2x8192x1024, .f32⟩
  | .hbm, ⟨79, _⟩ => ⟨S2x8192x1024, .f32⟩
  | .hbm, ⟨80, _⟩ => ⟨S1x1x1024, .f32⟩
  | .hbm, ⟨81, _⟩ => ⟨S2x8192x1024, .f32⟩
  | .hbm, ⟨82, _⟩ => ⟨S2x8192x1024, .f32⟩
  | .hbm, ⟨83, _⟩ => ⟨S2x8192x1024, .bf16⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst : Ref sig .tc := ⟨.hbm, 19, rfl⟩
abbrev main_v6 : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_cst_1 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_2 : Ref sig .tc := ⟨.hbm, 42, rfl⟩
abbrev main_v26 : Ref sig .tc := ⟨.hbm, 43, rfl⟩
abbrev main_v27 : Ref sig .tc := ⟨.hbm, 44, rfl⟩
abbrev main_cst_3 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_4 : Ref sig .tc := ⟨.hbm, 53, rfl⟩
abbrev main_v35 : Ref sig .tc := ⟨.hbm, 54, rfl⟩
abbrev main_v36 : Ref sig .tc := ⟨.hbm, 55, rfl⟩
abbrev main_cst_5 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_6 : Ref sig .tc := ⟨.hbm, 68, rfl⟩
abbrev main_v48 : Ref sig .tc := ⟨.hbm, 69, rfl⟩
abbrev main_v49 : Ref sig .tc := ⟨.hbm, 70, rfl⟩
abbrev main_cst_7 : Ref sig .tc := ⟨.hbm, 71, rfl⟩
abbrev main_v50 : Ref sig .tc := ⟨.hbm, 72, rfl⟩
abbrev main_v51 : Ref sig .tc := ⟨.hbm, 73, rfl⟩
abbrev main_cst_8 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩

abbrev nD : Nat := 1
abbrev τ : Topo := Topo.v7x

variable {F : FTy → Type} [FloatOps F]
-- ==== Proj.lean ====
abbrev S2x8192x1024 : Shape := ⟨3, ![2, 8192, 1024]⟩
abbrev S1x128 : Shape := ⟨2, ![1, 128]⟩
abbrev S1x1024 : Shape := ⟨2, ![1, 1024]⟩
abbrev S1x1024x4392 : Shape := ⟨3, ![1, 1024, 4392]⟩
abbrev S1x8 : Shape := ⟨2, ![1, 8]⟩
abbrev S1x512 : Shape := ⟨2, ![1, 512]⟩
abbrev S1x512x768 : Shape := ⟨3, ![1, 512, 768]⟩
abbrev S1x256 : Shape := ⟨2, ![1, 256]⟩
abbrev S1x256x1024 : Shape := ⟨3, ![1, 256, 1024]⟩
abbrev S1024x4392 : Shape := ⟨2, ![1024, 4392]⟩
abbrev S1024x512 : Shape := ⟨2, ![1024, 512]⟩
abbrev S1024x256 : Shape := ⟨2, ![1024, 256]⟩
abbrev S_ : Shape := ⟨0, ![]⟩
abbrev S1024x64 : Shape := ⟨2, ![1024, 64]⟩
abbrev S1024x32 : Shape := ⟨2, ![1024, 32]⟩
abbrev S1024x8 : Shape := ⟨2, ![1024, 8]⟩
abbrev S1024x120 : Shape := ⟨2, ![1024, 120]⟩
abbrev S1024x8x64 : Shape := ⟨3, ![1024, 8, 64]⟩
abbrev S1024x8x128 : Shape := ⟨3, ![1024, 8, 128]⟩
abbrev S1024x1024 : Shape := ⟨2, ![1024, 1024]⟩
abbrev S1024x3072 : Shape := ⟨2, ![1024, 3072]⟩
abbrev S512x1024 : Shape := ⟨2, ![512, 1024]⟩
abbrev S512x768 : Shape := ⟨2, ![512, 768]⟩
abbrev S512x8x96 : Shape := ⟨3, ![512, 8, 96]⟩
abbrev S512x8x128 : Shape := ⟨3, ![512, 8, 128]⟩
abbrev S256x1024 : Shape := ⟨2, ![256, 1024]⟩
abbrev S256x8x128 : Shape := ⟨3, ![256, 8, 128]⟩
abbrev S256x8x64 : Shape := ⟨3, ![256, 8, 64]⟩
abbrev S256x512 : Shape := ⟨2, ![256, 512]⟩
abbrev S512x256 : Shape := ⟨2, ![512, 256]⟩
abbrev S8 : Shape := ⟨1, ![8]⟩
abbrev S3x128x8x128 : Shape := ⟨4, ![3, 128, 8, 128]⟩
abbrev S1x8x128 : Shape := ⟨3, ![1, 8, 128]⟩
abbrev S384x1024 : Shape := ⟨2, ![384, 1024]⟩
abbrev S8208 : Shape := ⟨1, ![8208]⟩
abbrev S16 : Shape := ⟨1, ![16]⟩
abbrev S8208x1 : Shape := ⟨2, ![8208, 1]⟩
abbrev S1x16 : Shape := ⟨2, ![1, 16]⟩
abbrev S8208x16 : Shape := ⟨2, ![8208, 16]⟩
abbrev S8208x64 : Shape := ⟨2, ![8208, 64]⟩
abbrev S8208x32 : Shape := ⟨2, ![8208, 32]⟩
abbrev S8208x128 : Shape := ⟨2, ![8208, 128]⟩
abbrev S1024 : Shape := ⟨1, ![1024]⟩
abbrev S512 : Shape := ⟨1, ![512]⟩
abbrev S256 : Shape := ⟨1, ![256]⟩
abbrev S8192x128 : Shape := ⟨2, ![8192, 128]⟩
abbrev S2x8x8192x128 : Shape := ⟨4, ![2, 8, 8192, 128]⟩
abbrev S2x8x16x64x512 : Shape := ⟨5, ![2, 8, 16, 64, 512]⟩
abbrev S2x8192x128 : Shape := ⟨3, ![2, 8192, 128]⟩
abbrev S1x512x1024 : Shape := ⟨3, ![1, 512, 1024]⟩
abbrev S512x128 : Shape := ⟨2, ![512, 128]⟩
abbrev S1x8x512x128 : Shape := ⟨4, ![1, 8, 512, 128]⟩
abbrev S1x8x1x64x512 : Shape := ⟨5, ![1, 8, 1, 64, 512]⟩
abbrev S1x512x128 : Shape := ⟨3, ![1, 512, 128]⟩
abbrev S8x128 : Shape := ⟨2, ![8, 128]⟩
abbrev S512x1 : Shape := ⟨2, ![512, 1]⟩
abbrev S512x3072 : Shape := ⟨2, ![512, 3072]⟩
abbrev S512x512 : Shape := ⟨2, ![512, 512]⟩
abbrev S1x1x512x128 : Shape := ⟨4, ![1, 1, 512, 128]⟩
abbrev S64x512 : Shape := ⟨2, ![64, 512]⟩
abbrev S1x1x1x64x512 : Shape := ⟨5, ![1, 1, 1, 64, 512]⟩
abbrev S512x384 : Shape := ⟨2, ![512, 384]⟩

abbrev nBuf : Space → Nat
  | .hbm => 171
  | .vmem => 35
  | .smem => 0
  | _ => 0

abbrev hbmTy0_0 (i : Nat) : BufTy := match i % 128 with
  | 0 => ⟨S2x8192x1024, .f32⟩
  | 1 => ⟨S1x128, .f32⟩
  | 2 => ⟨S1x1024, .f32⟩
  | 3 => ⟨S1x1024x4392, .f32⟩
  | 4 => ⟨S1x8, .f32⟩
  | 5 => ⟨S1x512, .f32⟩
  | 6 => ⟨S1x512x768, .f32⟩
  | 7 => ⟨S1x256, .f32⟩
  | 8 => ⟨S1x256x1024, .f32⟩
  | 9 => ⟨S1024x4392, .f32⟩
  | 10 => ⟨S1024x512, .f32⟩
  | 11 => ⟨S1024x256, .f32⟩
  | 12 => ⟨S_, .f32⟩
  | 13 => ⟨S1024x64, .f32⟩
  | 14 => ⟨S1024x32, .f32⟩
  | 15 => ⟨S_, .f32⟩
  | 16 => ⟨S1024x32, .f32⟩
  | 17 => ⟨S1024x8, .f32⟩
  | 18 => ⟨S_, .f32⟩
  | 19 => ⟨S1024x120, .f32⟩
  | 20 => ⟨S1024x512, .f32⟩
  | 21 => ⟨S1024x8x64, .f32⟩
  | 22 => ⟨S_, .i32⟩
  | 23 => ⟨S_, .f32⟩
  | 24 => ⟨S1024x8x128, .f32⟩
  | 25 => ⟨S1024x1024, .f32⟩
  | 26 => ⟨S1024x512, .f32⟩
  | 27 => ⟨S1024x8x64, .f32⟩
  | 28 => ⟨S_, .i32⟩
  | 29 => ⟨S_, .f32⟩
  | 30 => ⟨S1024x8x128, .f32⟩
  | 31 => ⟨S1024x1024, .f32⟩
  | 32 => ⟨S1024x3072, .f32⟩
  | 33 => ⟨S1024x3072, .bf16⟩
  | 34 => ⟨S1024x512, .f32⟩
  | 35 => ⟨S512x1024, .f32⟩
  | 36 => ⟨S512x1024, .bf16⟩
  | 37 => ⟨S512x768, .f32⟩
  | 38 => ⟨S512x8x96, .f32⟩
  | 39 => ⟨S_, .i32⟩
  | 40 => ⟨S_, .f32⟩
  | 41 => ⟨S512x8x128, .f32⟩
  | 42 => ⟨S512x1024, .f32⟩
  | 43 => ⟨S512x1024, .bf16⟩
  | 44 => ⟨S256x1024, .f32⟩
  | 45 => ⟨S256x8x128, .f32⟩
  | 46 => ⟨S256x8x64, .f32⟩
  | 47 => ⟨S256x512, .f32⟩
  | 48 => ⟨S256x8x64, .f32⟩
  | 49 => ⟨S_, .i32⟩
  | 50 => ⟨S_, .f32⟩
  | 51 => ⟨S256x8x128, .f32⟩
  | 52 => ⟨S256x1024, .f32⟩
  | 53 => ⟨S256x1024, .bf16⟩
  | 54 => ⟨S256x8x64, .f32⟩
  | 55 => ⟨S256x512, .f32⟩
  | 56 => ⟨S512x256, .f32⟩
  | 57 => ⟨S512x256, .bf16⟩
  | 58 => ⟨S8, .f32⟩
  | 59 => ⟨S1x8, .f32⟩
  | 60 => ⟨S_, .i32⟩
  | 61 => ⟨S_, .f32⟩
  | 62 => ⟨S1x128, .f32⟩
  | 63 => ⟨S3x128x8x128, .i32⟩
  | 64 => ⟨S3x128x8x128, .i32⟩
  | 65 => ⟨S3x128x8x128, .i32⟩
  | 66 => ⟨S3x128x8x128, .i32⟩
  | 67 => ⟨S3x128x8x128, .i1⟩
  | 68 => ⟨S_, .i32⟩
  | 69 => ⟨S3x128x8x128, .i32⟩
  | 70 => ⟨S3x128x8x128, .i32⟩
  | 71 => ⟨S3x128x8x128, .i1⟩
  | 72 => ⟨S3x128x8x128, .i1⟩
  | 73 => ⟨S_, .f32⟩
  | 74 => ⟨S_, .f32⟩
  | 75 => ⟨S_, .f32⟩
  | 76 => ⟨S3x128x8x128, .f32⟩
  | 77 => ⟨S3x128x8x128, .f32⟩
  | 78 => ⟨S3x128x8x128, .f32⟩
  | 79 => ⟨S3x128x8x128, .i1⟩
  | 80 => ⟨S_, .i32⟩
  | 81 => ⟨S3x128x8x128, .i32⟩
  | 82 => ⟨S3x128x8x128, .i32⟩
  | 83 => ⟨S3x128x8x128, .i1⟩
  | 84 => ⟨S3x128x8x128, .i1⟩
  | 85 => ⟨S_, .f32⟩
  | 86 => ⟨S_, .f32⟩
  | 87 => ⟨S_, .f32⟩
  | 88 => ⟨S_, .f32⟩
  | 89 => ⟨S3x128x8x128, .f32⟩
  | 90 => ⟨S3x128x8x128, .f32⟩
  | 91 => ⟨S3x128x8x128, .f32⟩
  | 92 => ⟨S1x8x128, .i32⟩
  | 93 => ⟨S_, .i32⟩
  | 94 => ⟨S1x8x128, .i32⟩
  | 95 => ⟨S1x8x128, .i1⟩
  | 96 => ⟨S_, .i32⟩
  | 97 => ⟨S1x8x128, .i32⟩
  | 98 => ⟨S1x8x128, .i1⟩
  | 99 => ⟨S1x8x128, .i1⟩
  | 100 => ⟨S_, .f32⟩
  | 101 => ⟨S_, .f32⟩
  | 102 => ⟨S_, .f32⟩
  | 103 => ⟨S1x8x128, .f32⟩
  | 104 => ⟨S1x8x128, .f32⟩
  | 105 => ⟨S1x8x128, .f32⟩
  | 106 => ⟨S_, .i32⟩
  | 107 => ⟨S1x8x128, .i32⟩
  | 108 => ⟨S1x8x128, .i1⟩
  | 109 => ⟨S_, .i32⟩
  | 110 => ⟨S1x8x128, .i32⟩
  | 111 => ⟨S1x8x128, .i1⟩
  | 112 => ⟨S1x8x128, .i1⟩
  | 113 => ⟨S_, .f32⟩
  | 114 => ⟨S_, .f32⟩
  | 115 => ⟨S_, .f32⟩
  | 116 => ⟨S1x8x128, .f32⟩
  | 117 => ⟨S1x8x128, .f32⟩
  | 118 => ⟨S1x8x128, .f32⟩
  | 119 => ⟨S384x1024, .f32⟩
  | 120 => ⟨S384x1024, .bf16⟩
  | 121 => ⟨S384x1024, .f32⟩
  | 122 => ⟨S384x1024, .bf16⟩
  | 123 => ⟨S1x1024, .f32⟩
  | 124 => ⟨S1x1024, .f32⟩
  | 125 => ⟨S8208, .f32⟩
  | 126 => ⟨S16, .f32⟩
  | 127 => ⟨S_, .f32⟩
  | _ => ⟨S2x8192x1024, .f32⟩

abbrev hbmTy0_1 (i : Nat) : BufTy := match i % 128 with
  | 0 => ⟨S16, .f32⟩
  | 1 => ⟨S16, .f32⟩
  | 2 => ⟨S_, .f32⟩
  | 3 => ⟨S16, .f32⟩
  | 4 => ⟨S16, .f32⟩
  | 5 => ⟨S16, .f32⟩
  | 6 => ⟨S_, .f32⟩
  | 7 => ⟨S16, .f32⟩
  | 8 => ⟨S16, .f32⟩
  | 9 => ⟨S_, .f32⟩
  | 10 => ⟨S16, .f32⟩
  | 11 => ⟨S16, .f32⟩
  | 12 => ⟨S8208x1, .f32⟩
  | 13 => ⟨S1x16, .f32⟩
  | 14 => ⟨S8208x16, .f32⟩
  | 15 => ⟨S8208x16, .f32⟩
  | 16 => ⟨S8208x16, .f32⟩
  | 17 => ⟨S8208x16, .f32⟩
  | 18 => ⟨S8208x16, .f32⟩
  | 19 => ⟨S_, .f32⟩
  | 20 => ⟨S8208x64, .f32⟩
  | 21 => ⟨S_, .f32⟩
  | 22 => ⟨S8208x64, .f32⟩
  | 23 => ⟨S_, .f32⟩
  | 24 => ⟨S8208x32, .f32⟩
  | 25 => ⟨S8208x128, .f32⟩
  | 26 => ⟨S8208x16, .f32⟩
  | 27 => ⟨S8208x128, .f32⟩
  | 28 => ⟨S1024, .f32⟩
  | 29 => ⟨S1x1024, .f32⟩
  | 30 => ⟨S512, .f32⟩
  | 31 => ⟨S1x512, .f32⟩
  | 32 => ⟨S256, .f32⟩
  | 33 => ⟨S1x256, .f32⟩
  | 34 => ⟨S8192x128, .f32⟩
  | 35 => ⟨S8192x128, .f32⟩
  | 36 => ⟨S2x8x8192x128, .bf16⟩
  | 37 => ⟨S2x8x8192x128, .bf16⟩
  | 38 => ⟨S2x8x16x64x512, .bf16⟩
  | 39 => ⟨S2x8x8192x128, .bf16⟩
  | 40 => ⟨S2x8x8192x128, .bf16⟩
  | 41 => ⟨S2x8x16x64x512, .bf16⟩
  | 42 => ⟨S2x8192x128, .f32⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | .local _ .vmem, ⟨0, _⟩ => ⟨S1x512x1024, .f32⟩
  | .local _ .vmem, ⟨1, _⟩ => ⟨S1x512x1024, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S1x128, .f32⟩
  | .local _ .vmem, ⟨7, _⟩ => ⟨S1x1024, .f32⟩
  | .local _ .vmem, ⟨8, _⟩ => ⟨S1024x3072, .bf16⟩
  | .local _ .vmem, ⟨9, _⟩ => ⟨S1x512, .f32⟩
  | .local _ .vmem, ⟨10, _⟩ => ⟨S512x1024, .bf16⟩
  | .local _ .vmem, ⟨11, _⟩ => ⟨S1x256, .f32⟩
  | .local _ .vmem, ⟨12, _⟩ => ⟨S256x1024, .bf16⟩
  | .local _ .vmem, ⟨13, _⟩ => ⟨S512x256, .bf16⟩
  | .local _ .vmem, ⟨14, _⟩ => ⟨S512x1024, .bf16⟩
  | .local _ .vmem, ⟨15, _⟩ => ⟨S1x128, .f32⟩
  | .local _ .vmem, ⟨16, _⟩ => ⟨S384x1024, .bf16⟩
  | .local _ .vmem, ⟨17, _⟩ => ⟨S384x1024, .bf16⟩
  | .local _ .vmem, ⟨18, _⟩ => ⟨S1x1024, .f32⟩
  | .local _ .vmem, ⟨19, _⟩ => ⟨S1x1024, .f32⟩
  | .local _ .vmem, ⟨20, _⟩ => ⟨S1x8x512x128, .bf16⟩
  | .local _ .vmem, ⟨21, _⟩ => ⟨S1x8x512x128, .bf16⟩
  | .local _ .vmem, ⟨22, _⟩ => ⟨S1x8x512x128, .bf16⟩
  | .local _ .vmem, ⟨23, _⟩ => ⟨S1x8x512x128, .bf16⟩
  | .local _ .vmem, ⟨24, _⟩ => ⟨S1x8x1x64x512, .bf16⟩
  | .local _ .vmem, ⟨25, _⟩ => ⟨S1x8x1x64x512, .bf16⟩
  | .local _ .vmem, ⟨26, _⟩ => ⟨S1x8x512x128, .bf16⟩
  | .local _ .vmem, ⟨27, _⟩ => ⟨S1x8x512x128, .bf16⟩
  | .local _ .vmem, ⟨28, _⟩ => ⟨S1x8x512x128, .bf16⟩
  | .local _ .vmem, ⟨29, _⟩ => ⟨S1x8x512x128, .bf16⟩
  | .local _ .vmem, ⟨30, _⟩ => ⟨S1x8x1x64x512, .bf16⟩
  | .local _ .vmem, ⟨31, _⟩ => ⟨S1x8x1x64x512, .bf16⟩
  | .local _ .vmem, ⟨32, _⟩ => ⟨S1x512x128, .f32⟩
  | .local _ .vmem, ⟨33, _⟩ => ⟨S1x512x128, .f32⟩
  | .local _ .vmem, ⟨34, _⟩ => ⟨S8x128, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_c : Ref sig .tc := ⟨.hbm, 22, rfl⟩
abbrev main_call0_v0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c_2 : Ref sig .tc := ⟨.hbm, 28, rfl⟩
abbrev main_call1_v0 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_3 : Ref sig .tc := ⟨.hbm, 39, rfl⟩
abbrev main_call2_v0 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_4 : Ref sig .tc := ⟨.hbm, 49, rfl⟩
abbrev main_call3_v0 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_c_5 : Ref sig .tc := ⟨.hbm, 60, rfl⟩
abbrev main_call4_v0 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_c_6 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_7 : Ref sig .tc := ⟨.hbm, 73, rfl⟩
abbrev main_cst_8 : Ref sig .tc := ⟨.hbm, 74, rfl⟩
abbrev main_call5_v0 : Ref sig .tc := ⟨.hbm, 75, rfl⟩
abbrev main_call5_v1 : Ref sig .tc := ⟨.hbm, 76, rfl⟩
abbrev main_call5_v2 : Ref sig .tc := ⟨.hbm, 77, rfl⟩
abbrev main_v50 : Ref sig .tc := ⟨.hbm, 78, rfl⟩
abbrev main_v51 : Ref sig .tc := ⟨.hbm, 79, rfl⟩
abbrev main_c_9 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_cst_10 : Ref sig .tc := ⟨.hbm, 85, rfl⟩
abbrev main_v56 : Ref sig .tc := ⟨.hbm, 86, rfl⟩
abbrev main_cst_11 : Ref sig .tc := ⟨.hbm, 87, rfl⟩
abbrev main_call6_v0 : Ref sig .tc := ⟨.hbm, 88, rfl⟩
abbrev main_call6_v1 : Ref sig .tc := ⟨.hbm, 89, rfl⟩
abbrev main_call6_v2 : Ref sig .tc := ⟨.hbm, 90, rfl⟩
abbrev main_v57 : Ref sig .tc := ⟨.hbm, 91, rfl⟩
abbrev main_v58 : Ref sig .tc := ⟨.hbm, 92, rfl⟩
abbrev main_c_12 : Ref sig .tc := ⟨.hbm, 93, rfl⟩
abbrev main_v59 : Ref sig .tc := ⟨.hbm, 94, rfl⟩
abbrev main_v60 : Ref sig .tc := ⟨.hbm, 95, rfl⟩
abbrev main_c_13 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_14 : Ref sig .tc := ⟨.hbm, 100, rfl⟩
abbrev main_cst_15 : Ref sig .tc := ⟨.hbm, 101, rfl⟩
abbrev main_call7_v0 : Ref sig .tc := ⟨.hbm, 102, rfl⟩
abbrev main_call7_v1 : Ref sig .tc := ⟨.hbm, 103, rfl⟩
abbrev main_call7_v2 : Ref sig .tc := ⟨.hbm, 104, rfl⟩
abbrev main_v64 : Ref sig .tc := ⟨.hbm, 105, rfl⟩
abbrev main_c_16 : Ref sig .tc := ⟨.hbm, 106, rfl⟩
abbrev main_v65 : Ref sig .tc := ⟨.hbm, 107, rfl⟩
abbrev main_v66 : Ref sig .tc := ⟨.hbm, 108, rfl⟩
abbrev main_c_17 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_cst_18 : Ref sig .tc := ⟨.hbm, 113, rfl⟩
abbrev main_cst_19 : Ref sig .tc := ⟨.hbm, 114, rfl⟩
abbrev main_call8_v0 : Ref sig .tc := ⟨.hbm, 115, rfl⟩
abbrev main_call8_v1 : Ref sig .tc := ⟨.hbm, 116, rfl⟩
abbrev main_call8_v2 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_cst_20 : Ref sig .tc := ⟨.hbm, 127, rfl⟩
abbrev main_v79 : Ref sig .tc := ⟨.hbm, 128, rfl⟩
abbrev main_v80 : Ref sig .tc := ⟨.hbm, 129, rfl⟩
abbrev main_cst_21 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_cst_22 : Ref sig .tc := ⟨.hbm, 134, rfl⟩
abbrev main_v84 : Ref sig .tc := ⟨.hbm, 135, rfl⟩
abbrev main_v85 : Ref sig .tc := ⟨.hbm, 136, rfl⟩
abbrev main_cst_23 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev main_cst_24 : Ref sig .tc := ⟨.hbm, 147, rfl⟩
abbrev main_v95 : Ref sig .tc := ⟨.hbm, 148, rfl⟩
abbrev main_cst_25 : Ref sig .tc := ⟨.hbm, 149, rfl⟩
abbrev main_v96 : Ref sig .tc := ⟨.hbm, 150, rfl⟩
abbrev main_cst_26 : Ref sig .tc := ⟨.hbm, 151, rfl⟩
abbrev main_v97 : Ref sig .tc := ⟨.hbm, 152, rfl⟩
abbrev main_v98 : Ref sig .tc := ⟨.hbm, 153, rfl⟩
abbrev main_v99 : Ref sig .tc := ⟨.hbm, 154, rfl⟩
abbrev main_v100 : Ref sig .tc := ⟨.hbm, 155, rfl⟩
abbrev main_v101 : Ref sig .tc := ⟨.hbm, 156, rfl⟩
abbrev main_v102 : Ref sig .tc := ⟨.hbm, 157, rfl⟩
abbrev main_v103 : Ref sig .tc := ⟨.hbm, 158, rfl⟩
abbrev main_v104 : Ref sig .tc := ⟨.hbm, 159, rfl⟩
abbrev main_v105 : Ref sig .tc := ⟨.hbm, 160, rfl⟩
abbrev main_v106 : Ref sig .tc := ⟨.hbm, 161, rfl⟩
abbrev main_v107 : Ref sig .tc := ⟨.hbm, 162, rfl⟩
abbrev main_v108 : Ref sig .tc := ⟨.hbm, 163, rfl⟩
abbrev main_v109_0 : Ref sig .tc := ⟨.hbm, 164, rfl⟩
abbrev main_v109_1 : Ref sig .tc := ⟨.hbm, 165, rfl⟩
abbrev main_v109_2 : Ref sig .tc := ⟨.hbm, 166, rfl⟩
abbrev main_v109_3 : Ref sig .tc := ⟨.hbm, 167, rfl⟩
abbrev main_v109_4 : Ref sig .tc := ⟨.hbm, 168, rfl⟩
abbrev main_v109_5 : Ref sig .tc := ⟨.hbm, 169, rfl⟩
abbrev main_v109_6 : Ref sig .tc := ⟨.hbm, 170, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg17_1 : Ref sig .tc := ⟨.vmem, 21, rfl⟩
abbrev cc0_stg18_0 : Ref sig .tc := ⟨.vmem, 22, rfl⟩
abbrev cc0_stg18_1 : Ref sig .tc := ⟨.vmem, 23, rfl⟩
abbrev cc0_stg19_0 : Ref sig .tc := ⟨.vmem, 24, rfl⟩
abbrev cc0_stg19_1 : Ref sig .tc := ⟨.vmem, 25, rfl⟩
abbrev cc0_stg20_0 : Ref sig .tc := ⟨.vmem, 26, rfl⟩
abbrev cc0_stg20_1 : Ref sig .tc := ⟨.vmem, 27, rfl⟩
abbrev cc0_stg21_0 : Ref sig .tc := ⟨.vmem, 28, rfl⟩
abbrev cc0_stg21_1 : Ref sig .tc := ⟨.vmem, 29, rfl⟩
abbrev cc0_stg22_0 : Ref sig .tc := ⟨.vmem, 30, rfl⟩
abbrev cc0_stg22_1 : Ref sig .tc := ⟨.vmem, 31, rfl⟩
abbrev cc0_stg23_0 : Ref sig .tc := ⟨.vmem, 32, rfl⟩
abbrev cc0_stg23_1 : Ref sig .tc := ⟨.vmem, 33, rfl⟩
abbrev cc0_scratch0 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem17_1 : DmaSem sig := 21
abbrev cc0_sem18_0 : DmaSem sig := 22
abbrev cc0_sem18_1 : DmaSem sig := 23
abbrev cc0_sem19_0 : DmaSem sig := 24
abbrev cc0_sem19_1 : DmaSem sig := 25
abbrev cc0_sem20_0 : DmaSem sig := 26
abbrev cc0_sem20_1 : DmaSem sig := 27
abbrev cc0_sem21_0 : DmaSem sig := 28
abbrev cc0_sem21_1 : DmaSem sig := 29
abbrev cc0_sem22_0 : DmaSem sig := 30
abbrev cc0_sem22_1 : DmaSem sig := 31
abbrev cc0_sem23_0 : DmaSem sig := 32
abbrev cc0_sem23_1 : DmaSem sig := 33

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_18 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_19 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_20 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_21 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_22 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_23 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x3072 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S512x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S384x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S384x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 2 → Memref sig .tc .vmem S1x8x512x128 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x8x512x128 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x8x1x64x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x8x512x128 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x8x512x128 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x8x1x64x512 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S1x512x128 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]
-- ==== ProjRefIdeal.lean ====
abbrev S2x8192x1024 : Shape := ⟨3, ![2, 8192, 1024]⟩
abbrev S1x128 : Shape := ⟨2, ![1, 128]⟩
abbrev S1x1024 : Shape := ⟨2, ![1, 1024]⟩
abbrev S1x1024x4392 : Shape := ⟨3, ![1, 1024, 4392]⟩
abbrev S1x8 : Shape := ⟨2, ![1, 8]⟩
abbrev S1x512 : Shape := ⟨2, ![1, 512]⟩
abbrev S1x512x768 : Shape := ⟨3, ![1, 512, 768]⟩
abbrev S1x256 : Shape := ⟨2, ![1, 256]⟩
abbrev S1x256x1024 : Shape := ⟨3, ![1, 256, 1024]⟩
abbrev S8208 : Shape := ⟨1, ![8208]⟩
abbrev S16 : Shape := ⟨1, ![16]⟩
abbrev S_ : Shape := ⟨0, ![]⟩
abbrev S8208x1 : Shape := ⟨2, ![8208, 1]⟩
abbrev S1x16 : Shape := ⟨2, ![1, 16]⟩
abbrev S8208x16 : Shape := ⟨2, ![8208, 16]⟩
abbrev S8192x16 : Shape := ⟨2, ![8192, 16]⟩
abbrev S1x8192x1x16 : Shape := ⟨4, ![1, 8192, 1, 16]⟩
abbrev S1024 : Shape := ⟨1, ![1024]⟩
abbrev S2x8192 : Shape := ⟨2, ![2, 8192]⟩
abbrev S2x8192x1 : Shape := ⟨3, ![2, 8192, 1]⟩
abbrev S1x1x1024 : Shape := ⟨3, ![1, 1, 1024]⟩
abbrev S1x1024x512 : Shape := ⟨3, ![1, 1024, 512]⟩
abbrev S1024x512 : Shape := ⟨2, ![1024, 512]⟩
abbrev S2x8192x512 : Shape := ⟨3, ![2, 8192, 512]⟩
abbrev S1x1024x256 : Shape := ⟨3, ![1, 1024, 256]⟩
abbrev S1024x256 : Shape := ⟨2, ![1024, 256]⟩
abbrev S2x8192x256 : Shape := ⟨3, ![2, 8192, 256]⟩
abbrev S1x1024x32 : Shape := ⟨3, ![1, 1024, 32]⟩
abbrev S1024x32 : Shape := ⟨2, ![1024, 32]⟩
abbrev S2x8192x32 : Shape := ⟨3, ![2, 8192, 32]⟩
abbrev S512 : Shape := ⟨1, ![512]⟩
abbrev S1x1x512 : Shape := ⟨3, ![1, 1, 512]⟩
abbrev S512x768 : Shape := ⟨2, ![512, 768]⟩
abbrev S2x8192x768 : Shape := ⟨3, ![2, 8192, 768]⟩
abbrev S2x8192x8x96 : Shape := ⟨4, ![2, 8192, 8, 96]⟩
abbrev S2x8192x8x64 : Shape := ⟨4, ![2, 8192, 8, 64]⟩
abbrev S2x8192x8x32 : Shape := ⟨4, ![2, 8192, 8, 32]⟩
abbrev S2x8192x8x16 : Shape := ⟨4, ![2, 8192, 8, 16]⟩
abbrev S256 : Shape := ⟨1, ![256]⟩
abbrev S1x1x256 : Shape := ⟨3, ![1, 1, 256]⟩
abbrev S256x1024 : Shape := ⟨2, ![256, 1024]⟩
abbrev S2x8192x8x128 : Shape := ⟨4, ![2, 8192, 8, 128]⟩
abbrev S2x8192x1x32 : Shape := ⟨4, ![2, 8192, 1, 32]⟩
abbrev S2x8192x1x16 : Shape := ⟨4, ![2, 8192, 1, 16]⟩
abbrev S2x8x8192x128 : Shape := ⟨4, ![2, 8, 8192, 128]⟩
abbrev S2x16x512x8x64 : Shape := ⟨5, ![2, 16, 512, 8, 64]⟩
abbrev S2x8x16x64x512 : Shape := ⟨5, ![2, 8, 16, 64, 512]⟩

abbrev nBuf : Space → Nat
  | .hbm => 156
  | .vmem => 0
  | .smem => 0
  | _ => 0

abbrev hbmTy0_0 (i : Nat) : BufTy := match i % 128 with
  | 0 => ⟨S2x8192x1024, .f32⟩
  | 1 => ⟨S1x128, .f32⟩
  | 2 => ⟨S1x1024, .f32⟩
  | 3 => ⟨S1x1024x4392, .f32⟩
  | 4 => ⟨S1x8, .f32⟩
  | 5 => ⟨S1x512, .f32⟩
  | 6 => ⟨S1x512x768, .f32⟩
  | 7 => ⟨S1x256, .f32⟩
  | 8 => ⟨S1x256x1024, .f32⟩
  | 9 => ⟨S8208, .f32⟩
  | 10 => ⟨S16, .f32⟩
  | 11 => ⟨S_, .f32⟩
  | 12 => ⟨S16, .f32⟩
  | 13 => ⟨S16, .f32⟩
  | 14 => ⟨S_, .f32⟩
  | 15 => ⟨S16, .f32⟩
  | 16 => ⟨S16, .f32⟩
  | 17 => ⟨S16, .f32⟩
  | 18 => ⟨S_, .f32⟩
  | 19 => ⟨S16, .f32⟩
  | 20 => ⟨S16, .f32⟩
  | 21 => ⟨S_, .f32⟩
  | 22 => ⟨S16, .f32⟩
  | 23 => ⟨S16, .f32⟩
  | 24 => ⟨S8208x1, .f32⟩
  | 25 => ⟨S1x16, .f32⟩
  | 26 => ⟨S8208x16, .f32⟩
  | 27 => ⟨S8208x16, .f32⟩
  | 28 => ⟨S8208x16, .f32⟩
  | 29 => ⟨S8192x16, .f32⟩
  | 30 => ⟨S8192x16, .f32⟩
  | 31 => ⟨S1x8192x1x16, .f32⟩
  | 32 => ⟨S8192x16, .f32⟩
  | 33 => ⟨S1x8192x1x16, .f32⟩
  | 34 => ⟨S1024, .f32⟩
  | 35 => ⟨S2x8192x1024, .f32⟩
  | 36 => ⟨S_, .f32⟩
  | 37 => ⟨S2x8192, .f32⟩
  | 38 => ⟨S2x8192x1, .f32⟩
  | 39 => ⟨S_, .f32⟩
  | 40 => ⟨S2x8192x1, .f32⟩
  | 41 => ⟨S2x8192x1, .f32⟩
  | 42 => ⟨S_, .f32⟩
  | 43 => ⟨S2x8192x1, .f32⟩
  | 44 => ⟨S2x8192x1, .f32⟩
  | 45 => ⟨S2x8192x1, .f32⟩
  | 46 => ⟨S2x8192x1024, .f32⟩
  | 47 => ⟨S2x8192x1024, .f32⟩
  | 48 => ⟨S1x1x1024, .f32⟩
  | 49 => ⟨S2x8192x1024, .f32⟩
  | 50 => ⟨S2x8192x1024, .f32⟩
  | 51 => ⟨S1x1024x512, .f32⟩
  | 52 => ⟨S1024x512, .f32⟩
  | 53 => ⟨S2x8192x512, .f32⟩
  | 54 => ⟨S1x1024x256, .f32⟩
  | 55 => ⟨S1024x256, .f32⟩
  | 56 => ⟨S2x8192x256, .f32⟩
  | 57 => ⟨S1x1024x32, .f32⟩
  | 58 => ⟨S1024x32, .f32⟩
  | 59 => ⟨S2x8192x32, .f32⟩
  | 60 => ⟨S1x1024x512, .f32⟩
  | 61 => ⟨S1024x512, .f32⟩
  | 62 => ⟨S2x8192x512, .f32⟩
  | 63 => ⟨S512, .f32⟩
  | 64 => ⟨S2x8192x512, .f32⟩
  | 65 => ⟨S_, .f32⟩
  | 66 => ⟨S2x8192, .f32⟩
  | 67 => ⟨S2x8192x1, .f32⟩
  | 68 => ⟨S_, .f32⟩
  | 69 => ⟨S2x8192x1, .f32⟩
  | 70 => ⟨S2x8192x1, .f32⟩
  | 71 => ⟨S_, .f32⟩
  | 72 => ⟨S2x8192x1, .f32⟩
  | 73 => ⟨S2x8192x1, .f32⟩
  | 74 => ⟨S2x8192x1, .f32⟩
  | 75 => ⟨S2x8192x512, .f32⟩
  | 76 => ⟨S2x8192x512, .f32⟩
  | 77 => ⟨S1x1x512, .f32⟩
  | 78 => ⟨S2x8192x512, .f32⟩
  | 79 => ⟨S2x8192x512, .f32⟩
  | 80 => ⟨S512x768, .f32⟩
  | 81 => ⟨S2x8192x768, .f32⟩
  | 82 => ⟨S2x8192x8x96, .f32⟩
  | 83 => ⟨S2x8192x8x64, .f32⟩
  | 84 => ⟨S2x8192x8x32, .f32⟩
  | 85 => ⟨S2x8192x8x16, .f32⟩
  | 86 => ⟨S2x8192x8x16, .f32⟩
  | 87 => ⟨S2x8192x8x16, .f32⟩
  | 88 => ⟨S2x8192x8x16, .f32⟩
  | 89 => ⟨S2x8192x8x16, .f32⟩
  | 90 => ⟨S2x8192x8x16, .f32⟩
  | 91 => ⟨S2x8192x8x16, .f32⟩
  | 92 => ⟨S2x8192x8x16, .f32⟩
  | 93 => ⟨S2x8192x8x16, .f32⟩
  | 94 => ⟨S2x8192x8x16, .f32⟩
  | 95 => ⟨S2x8192x8x16, .f32⟩
  | 96 => ⟨S2x8192x8x16, .f32⟩
  | 97 => ⟨S2x8192x8x32, .f32⟩
  | 98 => ⟨S2x8192x8x96, .f32⟩
  | 99 => ⟨S_, .f32⟩
  | 100 => ⟨S2x8192x8x96, .f32⟩
  | 101 => ⟨S2x8192x8x96, .f32⟩
  | 102 => ⟨S256, .f32⟩
  | 103 => ⟨S2x8192x256, .f32⟩
  | 104 => ⟨S_, .f32⟩
  | 105 => ⟨S2x8192, .f32⟩
  | 106 => ⟨S2x8192x1, .f32⟩
  | 107 => ⟨S_, .f32⟩
  | 108 => ⟨S2x8192x1, .f32⟩
  | 109 => ⟨S2x8192x1, .f32⟩
  | 110 => ⟨S_, .f32⟩
  | 111 => ⟨S2x8192x1, .f32⟩
  | 112 => ⟨S2x8192x1, .f32⟩
  | 113 => ⟨S2x8192x1, .f32⟩
  | 114 => ⟨S2x8192x256, .f32⟩
  | 115 => ⟨S2x8192x256, .f32⟩
  | 116 => ⟨S1x1x256, .f32⟩
  | 117 => ⟨S2x8192x256, .f32⟩
  | 118 => ⟨S2x8192x256, .f32⟩
  | 119 => ⟨S256x1024, .f32⟩
  | 120 => ⟨S2x8192x1024, .f32⟩
  | 121 => ⟨S2x8192x8x128, .f32⟩
  | 122 => ⟨S2x8192x1x32, .f32⟩
  | 123 => ⟨S2x8192x1x16, .f32⟩
  | 124 => ⟨S2x8192x1x16, .f32⟩
  | 125 => ⟨S2x8192x1x16, .f32⟩
  | 126 => ⟨S2x8192x1x16, .f32⟩
  | 127 => ⟨S2x8192x1x16, .f32⟩
  | _ => ⟨S2x8192x1024, .f32⟩

abbrev hbmTy0_1 (i : Nat) : BufTy := match i % 128 with
  | 0 => ⟨S2x8192x1x16, .f32⟩
  | 1 => ⟨S2x8192x1x16, .f32⟩
  | 2 => ⟨S2x8192x1x16, .f32⟩
  | 3 => ⟨S2x8192x1x16, .f32⟩
  | 4 => ⟨S2x8192x1x16, .f32⟩
  | 5 => ⟨S2x8192x1x16, .f32⟩
  | 6 => ⟨S2x8192x1x16, .f32⟩
  | 7 => ⟨S2x8192x1x32, .f32⟩
  | 8 => ⟨S2x8192x8x32, .f32⟩
  | 9 => ⟨S2x8192x8x64, .f32⟩
  | 10 => ⟨S2x8192x8x96, .f32⟩
  | 11 => ⟨S_, .i32⟩
  | 12 => ⟨S_, .f32⟩
  | 13 => ⟨S2x8192x8x128, .f32⟩
  | 14 => ⟨S2x8x8192x128, .f32⟩
  | 15 => ⟨S2x8x8192x128, .bf16⟩
  | 16 => ⟨S_, .i32⟩
  | 17 => ⟨S_, .f32⟩
  | 18 => ⟨S2x8192x8x128, .f32⟩
  | 19 => ⟨S2x8x8192x128, .f32⟩
  | 20 => ⟨S2x8x8192x128, .bf16⟩
  | 21 => ⟨S2x8192x8x64, .f32⟩
  | 22 => ⟨S2x16x512x8x64, .f32⟩
  | 23 => ⟨S2x8x16x64x512, .f32⟩
  | 24 => ⟨S2x8x16x64x512, .bf16⟩
  | 25 => ⟨S2x16x512x8x64, .f32⟩
  | 26 => ⟨S2x8x16x64x512, .f32⟩
  | 27 => ⟨S2x8x16x64x512, .bf16⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_cst_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_6 : Ref sig .tc := ⟨.hbm, 65, rfl⟩
abbrev main_v49 : Ref sig .tc := ⟨.hbm, 66, rfl⟩
abbrev main_v50 : Ref sig .tc := ⟨.hbm, 67, rfl⟩
abbrev main_cst_7 : Ref sig .tc := ⟨.hbm, 68, rfl⟩
abbrev main_v51 : Ref sig .tc := ⟨.hbm, 69, rfl⟩
abbrev main_v52 : Ref sig .tc := ⟨.hbm, 70, rfl⟩
abbrev main_cst_8 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_cst_9 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_cst_10 : Ref sig .tc := ⟨.hbm, 104, rfl⟩
abbrev main_v84 : Ref sig .tc := ⟨.hbm, 105, rfl⟩
abbrev main_v85 : Ref sig .tc := ⟨.hbm, 106, rfl⟩
abbrev main_cst_11 : Ref sig .tc := ⟨.hbm, 107, rfl⟩
abbrev main_v86 : Ref sig .tc := ⟨.hbm, 108, rfl⟩
abbrev main_v87 : Ref sig .tc := ⟨.hbm, 109, rfl⟩
abbrev main_cst_12 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_c : Ref sig .tc := ⟨.hbm, 139, rfl⟩
abbrev main_call0_v0 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_c_13 : Ref sig .tc := ⟨.hbm, 144, rfl⟩
abbrev main_call1_v0 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_v124 : Ref sig .tc := ⟨.hbm, 151, rfl⟩
abbrev main_v125 : Ref sig .tc := ⟨.hbm, 152, rfl⟩
abbrev main_v126 : Ref sig .tc := ⟨.hbm, 153, rfl⟩
abbrev main_v127 : Ref sig .tc := ⟨.hbm, 154, rfl⟩
abbrev main_v128 : Ref sig .tc := ⟨.hbm, 155, rfl⟩

abbrev nD : Nat := 1
abbrev τ : Topo := Topo.v7x

variable {F : FTy → Type} [FloatOps F]
-- ==== Proof.Softmax.lean ====
/- The mathematics of the blockwise softmax over the extended reals: a running maximum, a running sum of
   weights and running weighted sums, rescaled block by block, are the maximum and the sums over all keys
   seen so far; and their quotient is the softmax-weighted sum. No program is named here. -/
module

public import Idealize.ShloMosaic.PureOps.Ideal

@[expose] public section

noncomputable section

namespace Cert.Softmax

open Idealize.ShloMosaic Finset

/-- A nonnegative finite factor goes into a finite sum of extended reals. -/
theorem mul_sum_of_nonneg {ι : Type*} (c : EReal) (h0 : 0 ≤ c) (ht : c ≠ ⊤) (s : Finset ι) (f : ι → EReal) :
    c * ∑ k ∈ s, f k = ∑ k ∈ s, c * f k := by
  classical
  induction s using Finset.induction_on with
  | empty => simp
  | insert a s ha ih =>
    rw [sum_insert ha, sum_insert ha, EReal.left_distrib_of_nonneg_of_ne_top h0 ht, ih]

/-- The maximum of finitely many values below infinity is below infinity. -/
theorem sup_ne_top {ι : Type*} (s : Finset ι) (f : ι → EReal) (h : ∀ k ∈ s, f k ≠ ⊤) : s.sup f ≠ ⊤ := by
  refine ne_of_lt ((Finset.sup_lt_iff (by simp)).2 fun k hk => lt_top_iff_ne_top.2 (h k hk))

/-- The maximum over `n + t` keys is the greater of that over the first `n` and that over the next `t`. -/
theorem sup_range_add (f : ℕ → EReal) (n t : ℕ) :
    (range (n + t)).sup f = max ((range n).sup f) ((range t).sup fun i => f (n + i)) := by
  refine le_antisymm (Finset.sup_le fun k hk => ?_) (max_le ?_ ?_)
  · rw [mem_range] at hk
    by_cases h : k < n
    · exact le_max_of_le_left (Finset.le_sup (f := f) (mem_range.2 h))
    · refine le_max_of_le_right ?_
      have := Finset.le_sup (f := fun i => f (n + i)) (mem_range.2 (show k - n < t by omega))
      simpa [show n + (k - n) = k by omega] using this
  · exact Finset.sup_le fun k hk => Finset.le_sup (f := f) (mem_range.2 (by have := mem_range.1 hk; omega))
  · exact Finset.sup_le fun k hk => Finset.le_sup (f := f) (mem_range.2 (by have := mem_range.1 hk; omega))

/-- A maximum over `Fin t` is one over the numbers below `t`. -/
theorem sup_univ_eq_range (t : ℕ) (f : ℕ → EReal) : (univ : Finset (Fin t)).sup (fun i => f i) = (range t).sup f := by
  refine le_antisymm (Finset.sup_le fun k _ => ?_) (Finset.sup_le fun k hk => ?_)
  · exact Finset.le_sup (f := f) (mem_range.2 k.isLt)
  · exact Finset.le_sup (f := fun i : Fin t => f i) (mem_univ ⟨k, mem_range.1 hk⟩)

/-- Folding `max` from minus infinity is the maximum. -/
theorem fold_max_bot {ι : Type*} (s : Finset ι) (f : ι → EReal) : s.fold max ⊥ f = s.sup f := rfl

theorem exp2_nonneg (x : EReal) : 0 ≤ Ideal.exp2 x := by
  induction x with
  | bot => simp
  | top => simp
  | coe r => simp only [Ideal.exp2_coe]; exact_mod_cast Real.rpow_nonneg (by norm_num) r

theorem exp2_ne_top {x : EReal} (h : x ≠ ⊤) : Ideal.exp2 x ≠ ⊤ := by
  induction x with
  | bot => simp
  | top => exact absurd rfl h
  | coe r => simp only [Ideal.exp2_coe]; exact EReal.coe_ne_top _

theorem exp2_ne_bot (x : EReal) : Ideal.exp2 x ≠ ⊥ :=
  ne_of_gt (lt_of_lt_of_le EReal.bot_lt_zero (exp2_nonneg x))

/-- Rescaling a weight from the maximum `a` to the maximum `b`. -/
theorem exp2_rescale (a b : ℝ) (s : EReal) (hs : s ≠ ⊤) :
    Ideal.exp2 ((a : EReal) - b) * Ideal.exp2 (s - a) = Ideal.exp2 (s - b) := by
  induction s with
  | bot => simp
  | top => exact absurd rfl hs
  | coe r =>
    rw [← EReal.coe_sub, ← EReal.coe_sub, ← EReal.coe_sub, Ideal.exp2_coe, Ideal.exp2_coe, Ideal.exp2_coe,
      ← EReal.coe_mul]
    congr 1
    show (2 : ℝ) ^ (a - b) * (2 : ℝ) ^ (r - a) = (2 : ℝ) ^ (r - b)
    rw [← Real.rpow_add (by norm_num)]
    congr 1; ring

/-- What the running triple holds after the first `n` keys with scores `s` and values `v`: the maximum of the
    scores, the sum of the weights `2 ^ (s k - m)`, and the weighted sums of the values. -/
structure Soft {ι : Type*} (s : ℕ → EReal) (v : ℕ → ι → EReal) (n : ℕ) (m l : EReal) (acc : ι → EReal) : Prop where
  max : m = (range n).sup s
  sum : l = ∑ k ∈ range n, Ideal.exp2 (s k - m)
  acc : ∀ d, acc d = ∑ k ∈ range n, Ideal.exp2 (s k - m) * v k d

/-- The scores: none is infinite, and key `0` is not masked. -/
structure Scores (s : ℕ → EReal) : Prop where
  ne_top : ∀ k, s k ≠ ⊤
  zero : s 0 ≠ ⊥

theorem Scores.sup_real {s : ℕ → EReal} (hs : Scores s) {n : ℕ} (hn : 0 < n) :
    ∃ r : ℝ, (range n).sup s = r := by
  have h1 : (range n).sup s ≠ ⊤ := sup_ne_top _ _ fun k _ => hs.ne_top k
  have h2 : (range n).sup s ≠ ⊥ := fun h => by
    have := Finset.le_sup (f := s) (mem_range.2 hn)
    rw [h] at this
    exact hs.zero (le_bot_iff.1 this)
  exact ⟨_, (EReal.coe_toReal h1 h2).symm⟩

/-- ONE BLOCK of `t` further keys: the new maximum, and the sums rescaled and added to. -/
theorem Soft.step {ι : Type*} {s : ℕ → EReal} {v : ℕ → ι → EReal} {n : ℕ} {m l : EReal} {acc : ι → EReal}
    (h : Soft s v n m l acc) (hs : Scores s) (hn : 0 < n) (t : ℕ) {m' l' : EReal} {acc' : ι → EReal}
    (hm : m' = Max.max m ((range t).sup fun i => s (n + i)))
    (hl : l' = Ideal.exp2 (m - m') * l + ∑ i ∈ range t, Ideal.exp2 (s (n + i) - m'))
    (ha : ∀ d, acc' d = Ideal.exp2 (m - m') * acc d + ∑ i ∈ range t, Ideal.exp2 (s (n + i) - m') * v (n + i) d) :
    Soft s v (n + t) m' l' acc' := by
  have hm' : m' = (range (n + t)).sup s := by rw [hm, h.max, sup_range_add]
  obtain ⟨a, ha'⟩ := hs.sup_real hn
  obtain ⟨b, hb'⟩ := hs.sup_real (show 0 < n + t by omega)
  have hma : m = a := h.max.trans ha'
  have hmb : m' = b := hm'.trans hb'
  have h0 := exp2_nonneg (m - m')
  have ht : Ideal.exp2 (m - m') ≠ ⊤ := exp2_ne_top (by rw [hma, hmb, ← EReal.coe_sub]; exact EReal.coe_ne_top _)
  have key : ∀ k, Ideal.exp2 (m - m') * Ideal.exp2 (s k - m) = Ideal.exp2 (s k - m') := fun k => by
    rw [hma, hmb]; exact exp2_rescale a b (s k) (hs.ne_top k)
  refine ⟨hm', ?_, fun d => ?_⟩
  · rw [hl, h.sum, mul_sum_of_nonneg _ h0 ht, sum_range_add]
    simp only [key]
  · rw [ha, h.acc, mul_sum_of_nonneg _ h0 ht, sum_range_add]
    simp only [← mul_assoc, key]

/-- Keys that are all masked after the first `n` change nothing. -/
theorem Soft.mono {ι : Type*} {s : ℕ → EReal} {v : ℕ → ι → EReal} {n : ℕ} {m l : EReal} {acc : ι → EReal}
    (h : Soft s v n m l acc) (t : ℕ) (hbot : ∀ k, n ≤ k → s k = ⊥) : Soft s v (n + t) m l acc := by
  have hz : ∀ i, Ideal.exp2 (s (n + i) - m) = 0 := fun i => by rw [hbot _ (by omega)]; simp
  refine ⟨?_, ?_, fun d => ?_⟩
  · rw [sup_range_add, h.max]
    refine (max_eq_left ?_).symm
    exact Finset.sup_le fun i _ => by rw [hbot _ (by omega)]; exact bot_le
  · rw [sum_range_add, ← h.sum]; simp [hz]
  · rw [sum_range_add, ← h.acc]; simp [hz]

/-- The sum of the weights is a positive real number. -/
theorem Soft.sum_pos {ι : Type*} {s : ℕ → EReal} {v : ℕ → ι → EReal} {n : ℕ} {m l : EReal} {acc : ι → EReal}
    (h : Soft s v n m l acc) (hs : Scores s) (hn : 0 < n) : ∃ r : ℝ, 0 < r ∧ l = r := by
  obtain ⟨a, ha⟩ := hs.sup_real hn
  have hma : m = a := h.max.trans ha
  have hsub : ∀ k, s k - m ≠ ⊤ := fun k => by
    rw [hma]
    have := hs.ne_top k
    induction hk : s k with
    | bot => simp
    | top => exact absurd hk this
    | coe r => rw [← EReal.coe_sub]; exact EReal.coe_ne_top _
  have hreal : ∀ k, ∃ r : ℝ, 0 ≤ r ∧ Ideal.exp2 (s k - m) = r := fun k =>
    ⟨_, EReal.toReal_nonneg (exp2_nonneg _), (EReal.coe_toReal (exp2_ne_top (hsub k)) (exp2_ne_bot _)).symm⟩
  choose f hf0 hf using hreal
  refine ⟨∑ k ∈ range n, f k, ?_, ?_⟩
  · refine sum_pos' (fun k _ => hf0 k) ⟨0, mem_range.2 hn, ?_⟩
    refine lt_of_le_of_ne (hf0 0) fun h0 => ?_
    have h1 := hf 0
    rw [← h0, hma] at h1
    have h3 := hs.ne_top 0
    have h2 := hs.zero
    induction hk : s 0 with
    | bot => exact h2 hk
    | top => exact h3 hk
    | coe r =>
      rw [hk, ← EReal.coe_sub, Ideal.exp2_coe] at h1
      have : (2 : ℝ) ^ (r - a) = 0 := by exact_mod_cast h1
      exact absurd this (Real.rpow_pos_of_pos (by norm_num) _).ne'
  · rw [h.sum]
    simp only [hf]
    exact (map_sum (⟨⟨Real.toEReal, rfl⟩, EReal.coe_add⟩ : ℝ →+ EReal) f (range n)).symm

/-- The quotient of the weighted sum by the sum of the weights is the sum of the values weighted by the
    normalised weights. -/
theorem Soft.div {ι : Type*} {s : ℕ → EReal} {v : ℕ → ι → EReal} {n : ℕ} {m l : EReal} {acc : ι → EReal}
    (h : Soft s v n m l acc) (hs : Scores s) (hn : 0 < n) (d : ι) :
    Ideal.div (acc d) l = ∑ k ∈ range n, Ideal.div (Ideal.exp2 (s k - m)) l * v k d := by
  obtain ⟨r, hr, hl⟩ := h.sum_pos hs hn
  have hne : l ≠ 0 := by rw [hl]; exact_mod_cast hr.ne'
  have hinv : l⁻¹ = ((r⁻¹ : ℝ) : EReal) := by rw [hl, EReal.coe_inv]
  have h0 : 0 ≤ l⁻¹ := by rw [hinv]; exact_mod_cast (inv_pos.2 hr).le
  have ht : l⁻¹ ≠ ⊤ := by rw [hinv]; exact EReal.coe_ne_top _
  simp only [Ideal.div, if_neg hne]
  rw [h.acc, mul_comm, mul_sum_of_nonneg _ h0 ht]
  exact sum_congr rfl fun k _ => by rw [← mul_assoc, mul_comm l⁻¹]

/-- `e ^ (x · log 2) = 2 ^ x`. -/
theorem exp_mul_log_two (x : EReal) : Ideal.exp (x * ((Real.log 2 : ℝ) : EReal)) = Ideal.exp2 x := by
  have hp : (0 : ℝ) < Real.log 2 := Real.log_pos (by norm_num)
  induction x with
  | bot => rw [EReal.bot_mul_coe_of_pos hp]; rfl
  | top => rw [EReal.top_mul_coe_of_pos hp]; rfl
  | coe r =>
    rw [← EReal.coe_mul, Ideal.exp_coe, Ideal.exp2_coe]
    congr 1
    show Real.exp (r * Real.log 2) = (2 : ℝ) ^ r
    rw [Real.rpow_def_of_pos (by norm_num), mul_comm]

/-- Scaling by `log 2` commutes with the maximum. -/
theorem sup_mul_log_two {ι : Type*} (t : Finset ι) (f : ι → EReal) (ht : t.Nonempty) :
    t.sup (fun k => f k * ((Real.log 2 : ℝ) : EReal)) = t.sup f * ((Real.log 2 : ℝ) : EReal) := by
  have hp : (0 : ℝ) < Real.log 2 := Real.log_pos (by norm_num)
  have hmono : Monotone fun x : EReal => x * ((Real.log 2 : ℝ) : EReal) := fun x y h =>
    mul_le_mul_of_nonneg_right h (by exact_mod_cast hp.le)
  rw [← Finset.sup'_eq_sup ht, ← Finset.sup'_eq_sup ht]
  exact (Finset.comp_sup'_eq_sup'_comp ht (fun x : EReal => x * ((Real.log 2 : ℝ) : EReal))
    (fun x y => hmono.map_sup x y)).symm

/-- Scaling by `log 2` distributes over a difference with a real number. -/
theorem sub_mul_log_two (x : EReal) (a : ℝ) :
    x * ((Real.log 2 : ℝ) : EReal) - (a : EReal) * ((Real.log 2 : ℝ) : EReal) = (x - a) * ((Real.log 2 : ℝ) : EReal) := by
  have hp : (0 : ℝ) < Real.log 2 := Real.log_pos (by norm_num)
  induction x with
  | bot => rw [EReal.bot_mul_coe_of_pos hp, EReal.bot_sub, EReal.bot_sub, EReal.bot_mul_coe_of_pos hp]
  | top =>
    rw [← EReal.coe_mul, EReal.top_mul_coe_of_pos hp, EReal.top_sub_coe, EReal.top_sub_coe, EReal.top_mul_coe_of_pos hp]
  | coe r => rw [← EReal.coe_mul, ← EReal.coe_mul, ← EReal.coe_sub, ← EReal.coe_sub, ← EReal.coe_mul]; congr 1; ring

end Cert.Softmax

end
-- ==== Proof.AttnSpec.lean ====
/- Causal attention over meta keys and tokens as one formula: the common value of the kernel and of the
   reference. Keys are numbered meta keys first (`0 … 127`, those from `16` masked), then the tokens (`128 + j`). -/
module

public import proofs.«01_k».proof.Proof.Softmax
public import Idealize.ShloMosaic.Lib.Pointwise

@[expose] public section

noncomputable section

namespace Cert.AttnSpec

open Idealize.ShloMosaic Cert.Softmax Finset

/-- Queries and keys: batch, head, position, feature. -/
abbrev QK := (⟨4, ![2, 8, 8192, 128]⟩ : Shape).Idx → EReal
/-- Values: batch, head, block of keys, feature, key in the block. -/
abbrev VT := (⟨5, ![2, 8, 16, 64, 512]⟩ : Shape).Idx → EReal
/-- Meta keys. -/
abbrev KM := (⟨4, ![1, 8, 128, 128]⟩ : Shape).Idx → EReal
/-- Meta values. -/
abbrev VM := (⟨5, ![1, 8, 1, 64, 128]⟩ : Shape).Idx → EReal

/-- The score of key `n` for the query at position `p`: a dot product, minus infinity where masked. -/
def score (q k : QK) (km : KM) (b : Fin 2) (h : Fin 8) (p : Fin 8192) (n : ℕ) : EReal :=
  if h1 : n < 16 then ∑ d : Fin 128, km (ix4 0 h ⟨n, by omega⟩ d) * q (ix4 b h p d)
  else if h2 : 128 ≤ n ∧ n - 128 ≤ p.val then ∑ d : Fin 128, k (ix4 b h ⟨n - 128, by omega⟩ d) * q (ix4 b h p d)
  else ⊥

/-- Feature `d` of the value of key `n`. -/
def value (vt : VT) (vm : VM) (b : Fin 2) (h : Fin 8) (n : ℕ) (d : Fin 64) : EReal :=
  if h1 : n < 128 then vm (ix5 0 h 0 d ⟨n, h1⟩)
  else if h2 : n - 128 < 8192 then vt (ix5 b h ⟨(n - 128) / 512, by omega⟩ d ⟨(n - 128) % 512, by omega⟩)
  else 0

/-- The greatest score. -/
def top (s : ℕ → EReal) : EReal := (range 8320).sup s

/-- The sum of the weights. -/
def total (s : ℕ → EReal) : EReal := ∑ n ∈ range 8320, Ideal.exp2 (s n - top s)

/-- The softmax-weighted sum over all keys. -/
def attend (s v : ℕ → EReal) : EReal := ∑ n ∈ range 8320, Ideal.div (Ideal.exp2 (s n - top s)) (total s) * v n

/-- The attention output: batch, head, position, feature. -/
def out (q k : QK) (vt : VT) (km : KM) (vm : VM) (b : Fin 2) (h : Fin 8) (p : Fin 8192) (d : Fin 64) : EReal :=
  attend (score q k km b h p) fun n => value vt vm b h n d

/-- An extended real that is no infinity. -/
def Fin' (x : EReal) : Prop := x ≠ ⊤ ∧ x ≠ ⊥

/-- A finite sum of products of finite numbers is finite. -/
theorem sum_mul_finite {ι : Type*} (s : Finset ι) (f g : ι → EReal) (hf : ∀ i ∈ s, Fin' (f i)) (hg : ∀ i ∈ s, Fin' (g i)) :
    Fin' (∑ i ∈ s, f i * g i) := by
  classical
  induction s using Finset.induction_on with
  | empty => simp [Fin']
  | insert a s ha ih =>
    rw [sum_insert ha]
    have h1 := hf a (mem_insert_self _ _)
    have h2 := hg a (mem_insert_self _ _)
    have h3 := ih (fun i hi => hf i (mem_insert_of_mem hi)) (fun i hi => hg i (mem_insert_of_mem hi))
    rw [← EReal.coe_toReal h1.1 h1.2, ← EReal.coe_toReal h2.1 h2.2, ← EReal.coe_toReal h3.1 h3.2, ← EReal.coe_mul, ← EReal.coe_add]
    exact ⟨EReal.coe_ne_top _, EReal.coe_ne_bot _⟩

/-- Finite queries and keys give scores below infinity, and the first meta key is not masked. -/
theorem scores (q k : QK) (km : KM) (hq : ∀ i, Fin' (q i)) (hk : ∀ i, Fin' (k i))
    (hm : ∀ (h : Fin 8) (n : Fin 16) (d : Fin 128), Fin' (km (ix4 0 h ⟨n.val, by omega⟩ d))) (b : Fin 2) (h : Fin 8) (p : Fin 8192) :
    Scores (score q k km b h p) := by
  refine ⟨fun n => ?_, ?_⟩
  · unfold score
    split
    · next h1 => exact (sum_mul_finite _ _ _ (fun d _ => hm h ⟨n, h1⟩ d) (fun d _ => hq _)).1
    · split
      · exact (sum_mul_finite _ _ _ (fun d _ => hk _) (fun d _ => hq _)).1
      · exact bot_ne_top
  · unfold score
    rw [dif_pos (by norm_num)]
    exact (sum_mul_finite _ _ _ (fun d _ => hm h ⟨0, by norm_num⟩ d) (fun d _ => hq _)).2

/-- The quotient of a running triple that has seen every unmasked key is the attention. -/
theorem attend_of_soft {s : ℕ → EReal} {v : ℕ → Fin 64 → EReal} {n : ℕ} {m l : EReal} {acc : Fin 64 → EReal}
    (h : Soft s v n m l acc) (hs : Scores s) (hn : 0 < n) (hle : n ≤ 8320) (hbot : ∀ k, n ≤ k → s k = ⊥) (d : Fin 64) :
    Ideal.div (acc d) l = attend s fun k => v k d := by
  have h' := h.mono (8320 - n) hbot
  rw [show n + (8320 - n) = 8320 by omega] at h'
  rw [h'.div hs (by norm_num)]
  have hm : m = top s := h'.max
  have hl : l = total s := by rw [h'.sum, hm]; rfl
  rw [hm, hl]; rfl

end Cert.AttnSpec

end
-- ==== Proof.AttnPay.lean ====
/- The attention kernel's payload terms read at an index, over the extended reals: scores, the running maximum,
   the rescaled sums, and the quotient. -/
module

public import proofs.«01_k».proof.Proof.Gen.AttnIdeal.Skeleton
public import proofs.«01_k».proof.Proof.Softmax
public import Idealize.ShloMosaic.Lib.Pointwise
public import Idealize.ShloMosaic.Lib.WordCmp
public import Idealize.ShloMosaic.Lib.Pipeline.ValueKit

@[expose] public section

set_option maxRecDepth 16384

noncomputable section

namespace Cert.AttnIdeal.Pay

open Cert.AttnIdeal Cert.AttnIdeal.Gen Idealize.ShloMosaic Idealize.ShloMosaic.TcCoe Idealize.SL.Sem

/-- The word the maximum reductions start from is minus infinity. -/
theorem ofBits_neg_inf : Ideal.ofBits .f32 4286578688#32 = ⊥ := by
  simp [Ideal.ofBits, Ideal.ieee]

/-- The mask constant is minus infinity. -/
theorem named_mask : (Named.named κ "mask" (φ := .f32) 0xF149F2CA#32 : Ideal .f32) = (⊥ : EReal) := by
  simp [Named.named, κ]

/-- A value where `i ≤ r`, the mask elsewhere. -/
theorem select_mask_le (i r : Fin 512) (x : EReal) :
    Scalar.select (IntOp.cmpi .sle (BitVec.ofNat 32 i.val) (BitVec.ofNat 32 r.val)) x
      (Named.named κ "mask" (φ := .f32) 0xF149F2CA#32 : Ideal .f32) = if i.val ≤ r.val then x else (⊥ : EReal) := by
  rw [named_mask, WordCmp.cmpi_sle_ofNat (by norm_num; omega) (by norm_num; omega)]
  unfold Scalar.select
  by_cases h : i.val ≤ r.val <;> simp [h]

/-- A value on the first sixteen rows, the mask on the others. -/
theorem select_mask_lt (i : Fin 128) (x : EReal) :
    Scalar.select (IntOp.cmpi .slt (BitVec.ofNat 32 i.val) 16#32) x
      (Named.named κ "mask" (φ := .f32) 0xF149F2CA#32 : Ideal .f32) = if i.val < 16 then x else (⊥ : EReal) := by
  rw [named_mask, WordCmp.cmpi_slt_ofNat (by norm_num; omega) (by norm_num)]
  unfold Scalar.select
  by_cases h : i.val < 16 <;> simp [h]

set_option maxHeartbeats 1600000 in
theorem pay5_apply (v1 : FVec Ideal S512x128 .bf16) (kb : FVec Ideal S1x1x512x128 .bf16) (i : Fin 512) (r : Fin 512) :
    k0_pay5 (F := Ideal) v1 kb (ix2 i r) = ∑ d : Fin 128, kb (ix4 0 0 i d) * v1 (ix2 r d) := by
  pointwise [k0_pay5]

set_option maxHeartbeats 1600000 in
theorem pay6_apply (v1 : FVec Ideal S512x128 .bf16) (kb : FVec Ideal S1x1x512x128 .bf16) (M : FVec Ideal S1x512 .f32) (r : Fin 512) :
    k0_pay6 (F := Ideal) v1 kb M (ix2 0 r) = max (M (ix2 0 r)) (Finset.univ.sup fun i : Fin 512 => k0_pay5 (F := Ideal) v1 kb (ix2 i r)) := by
  pointwise [k0_pay6]
  rw [ofBits_neg_inf]; rfl

set_option maxHeartbeats 1600000 in
theorem pay8_apply (v1 : FVec Ideal S512x128 .bf16) (kb : FVec Ideal S1x1x512x128 .bf16) (M : FVec Ideal S1x512 .f32) (i r : Fin 512) :
    k0_pay8 (F := Ideal) v1 kb M (ix2 i r) = Ideal.exp2 (k0_pay5 (F := Ideal) v1 kb (ix2 i r) - k0_pay6 (F := Ideal) v1 kb M (ix2 0 r)) := by
  pointwise [k0_pay8]
  rfl

set_option maxHeartbeats 1600000 in
theorem pay7_apply (v1 : FVec Ideal S512x128 .bf16) (kb : FVec Ideal S1x1x512x128 .bf16) (M : FVec Ideal S1x512 .f32) (r : Fin 512) :
    k0_pay7 (F := Ideal) v1 kb M (ix2 0 r) = Ideal.exp2 (M (ix2 0 r) - k0_pay6 (F := Ideal) v1 kb M (ix2 0 r)) := by
  pointwise [k0_pay7]
  rfl

set_option maxHeartbeats 1600000 in
theorem pay9_apply (v1 : FVec Ideal S512x128 .bf16) (kb : FVec Ideal S1x1x512x128 .bf16) (M L : FVec Ideal S1x512 .f32) (r : Fin 512) :
    k0_pay9 (F := Ideal) v1 kb M L (ix2 0 r) = k0_pay7 (F := Ideal) v1 kb M (ix2 0 r) * L (ix2 0 r) + ∑ i : Fin 512, k0_pay8 (F := Ideal) v1 kb M (ix2 i r) := by
  pointwise [k0_pay9]

set_option maxHeartbeats 1600000 in
theorem pay10_apply (v1 : FVec Ideal S512x128 .bf16) (kb : FVec Ideal S1x1x512x128 .bf16) (vb : FVec Ideal S1x1x1x64x512 .bf16)
    (M : FVec Ideal S1x512 .f32) (A : FVec Ideal S64x512 .f32) (d : Fin 64) (r : Fin 512) :
    k0_pay10 (F := Ideal) v1 kb vb M A (ix2 d r) = k0_pay7 (F := Ideal) v1 kb M (ix2 0 r) * A (ix2 d r)
      + ∑ i : Fin 512, vb (ix5 0 0 0 d i) * k0_pay8 (F := Ideal) v1 kb M (ix2 i r) := by
  pointwise [k0_pay10]

set_option maxHeartbeats 1600000 in
theorem pay24_apply (M : FVec Ideal S1x512 .f32) (r : Fin 512) : k0_pay24 (F := Ideal) M (ix2 0 r) = M (ix2 0 r) := by
  pointwise [k0_pay24]

set_option maxHeartbeats 1600000 in
theorem pay18_apply (x0 : FVec Ideal S1x1x512x128 .bf16) (x3 : FVec Ideal S1x1x128x128 .bf16) (i : Fin 128) (r : Fin 512) :
    k0_pay18 (F := Ideal) x0 x3 (ix2 i r) = if i.val < 16 then ∑ d : Fin 128, x3 (ix4 0 0 i d) * k0_pay17 (F := Ideal) x0 (ix2 r d) else (⊥ : EReal) := by
  pointwise [k0_pay18]
  exact select_mask_lt i _

set_option maxHeartbeats 1600000 in
theorem pay17_apply (x0 : FVec Ideal S1x1x512x128 .bf16) (r : Fin 512) (d : Fin 128) : k0_pay17 (F := Ideal) x0 (ix2 r d) = x0 (ix4 0 0 r d) := by
  pointwise [k0_pay17]

set_option maxHeartbeats 1600000 in
theorem pay23_apply (x0 : FVec Ideal S1x1x512x128 .bf16) (x3 : FVec Ideal S1x1x128x128 .bf16) (r : Fin 512) :
    k0_pay23 (F := Ideal) x0 x3 (ix2 0 r) = Finset.univ.sup fun i : Fin 128 => k0_pay18 (F := Ideal) x0 x3 (ix2 i r) := by
  pointwise [k0_pay23, k0_pay19]
  rw [ofBits_neg_inf]; rfl

set_option maxHeartbeats 1600000 in
theorem pay20_apply (x0 : FVec Ideal S1x1x512x128 .bf16) (x3 : FVec Ideal S1x1x128x128 .bf16) (i : Fin 128) (r : Fin 512) :
    k0_pay20 (F := Ideal) x0 x3 (ix2 i r) = Ideal.exp2 (k0_pay18 (F := Ideal) x0 x3 (ix2 i r) - k0_pay23 (F := Ideal) x0 x3 (ix2 0 r)) := by
  pointwise [k0_pay20, k0_pay23]
  rfl

set_option maxHeartbeats 1600000 in
theorem pay21_apply (x0 : FVec Ideal S1x1x512x128 .bf16) (x3 : FVec Ideal S1x1x128x128 .bf16) (r : Fin 512) :
    k0_pay21 (F := Ideal) x0 x3 (ix2 0 r) = ∑ i : Fin 128, k0_pay20 (F := Ideal) x0 x3 (ix2 i r) := by
  pointwise [k0_pay21]

set_option maxHeartbeats 1600000 in
theorem pay22_apply (x0 : FVec Ideal S1x1x512x128 .bf16) (x3 : FVec Ideal S1x1x128x128 .bf16) (x4 : FVec Ideal S1x1x1x64x128 .bf16)
    (d : Fin 64) (r : Fin 512) :
    k0_pay22 (F := Ideal) x0 x3 x4 (ix2 d r) = ∑ i : Fin 128, x4 (ix5 0 0 0 d i) * k0_pay20 (F := Ideal) x0 x3 (ix2 i r) := by
  pointwise [k0_pay22]

set_option maxHeartbeats 1600000 in
theorem pay26_apply (v1 : FVec Ideal S512x128 .bf16) (kb : FVec Ideal S1x1x512x128 .bf16) (i : Fin 512) (r : Fin 512) :
    k0_pay26 (F := Ideal) v1 kb (ix2 i r) = if i.val ≤ r.val then ∑ d : Fin 128, kb (ix4 0 0 i d) * v1 (ix2 r d) else (⊥ : EReal) := by
  pointwise [k0_pay26]
  exact select_mask_le i r _

set_option maxHeartbeats 1600000 in
theorem pay27_apply (v1 : FVec Ideal S512x128 .bf16) (kb : FVec Ideal S1x1x512x128 .bf16) (M : FVec Ideal S1x512 .f32) (r : Fin 512) :
    k0_pay27 (F := Ideal) v1 kb M (ix2 0 r) = max (M (ix2 0 r)) (Finset.univ.sup fun i : Fin 512 => k0_pay26 (F := Ideal) v1 kb (ix2 i r)) := by
  pointwise [k0_pay27]
  rw [ofBits_neg_inf]; rfl

set_option maxHeartbeats 1600000 in
theorem pay29_apply (v1 : FVec Ideal S512x128 .bf16) (kb : FVec Ideal S1x1x512x128 .bf16) (M : FVec Ideal S1x512 .f32) (i r : Fin 512) :
    k0_pay29 (F := Ideal) v1 kb M (ix2 i r) = Ideal.exp2 (k0_pay26 (F := Ideal) v1 kb (ix2 i r) - k0_pay27 (F := Ideal) v1 kb M (ix2 0 r)) := by
  pointwise [k0_pay29]
  rfl

set_option maxHeartbeats 1600000 in
theorem pay28_apply (v1 : FVec Ideal S512x128 .bf16) (kb : FVec Ideal S1x1x512x128 .bf16) (M : FVec Ideal S1x512 .f32) (r : Fin 512) :
    k0_pay28 (F := Ideal) v1 kb M (ix2 0 r) = Ideal.exp2 (M (ix2 0 r) - k0_pay27 (F := Ideal) v1 kb M (ix2 0 r)) := by
  pointwise [k0_pay28]
  rfl

set_option maxHeartbeats 1600000 in
theorem pay31_apply (v1 : FVec Ideal S512x128 .bf16) (kb : FVec Ideal S1x1x512x128 .bf16) (M L : FVec Ideal S1x512 .f32) (r : Fin 512) :
    k0_pay31 (F := Ideal) v1 kb M L (ix2 0 r) = k0_pay28 (F := Ideal) v1 kb M (ix2 0 r) * L (ix2 0 r) + ∑ i : Fin 512, k0_pay29 (F := Ideal) v1 kb M (ix2 i r) := by
  pointwise [k0_pay31]

set_option maxHeartbeats 1600000 in
theorem pay30_apply (v1 : FVec Ideal S512x128 .bf16) (kb : FVec Ideal S1x1x512x128 .bf16) (vb : FVec Ideal S1x1x1x64x512 .bf16)
    (M : FVec Ideal S1x512 .f32) (d : Fin 64) (r : Fin 512) :
    k0_pay30 (F := Ideal) v1 kb vb M (ix2 d r) = ∑ i : Fin 512, vb (ix5 0 0 0 d i) * k0_pay29 (F := Ideal) v1 kb M (ix2 i r) := by
  pointwise [k0_pay30]

set_option maxHeartbeats 1600000 in
/-- The stored quotient, from the rescaled state and the diagonal block's sums. -/
theorem pay4_apply (al : FVec Ideal S1x512 .f32) (pv A : FVec Ideal S64x512 .f32) (L : FVec Ideal S1x512 .f32) (d : Fin 64) (r : Fin 512) :
    k0_pay4 (F := Ideal) (k0_pay2 (F := Ideal) al pv A) (k0_pay1 L) (ix3 0 d r)
      = Ideal.div (al (ix2 0 r) * A (ix2 d r) + pv (ix2 d r)) (L (ix2 0 r)) := by
  pointwise [k0_pay4, k0_pay2, k0_pay1]

end Cert.AttnIdeal.Pay

end
-- ==== Proof.AttnBlock.lean ====
/- What one grid point of the attention kernel computes: the running maximum, sum and weighted sums after the
   meta keys, after each earlier block of keys, and after the diagonal block, over the kernel's own payload terms. -/
module

public import proofs.«01_k».proof.Proof.Gen.AttnIdeal.Frame
public import Idealize.ShloMosaic.Lib.Pipeline.ValueKit
public import Idealize.ShloMosaic.Lib.VecWindow

@[expose] public section

set_option maxRecDepth 16384

noncomputable section

namespace Cert.AttnIdeal.Block

open Cert.AttnIdeal Cert.AttnIdeal.Gen Idealize.ShloMosaic Idealize.ShloMosaic.TcCoe Idealize.SL.Sem

variable {F : FTy → Type} [FloatOps F] [Named F]

/-- Query block `n` runs the loop over earlier key blocks `n` times. -/
theorem trips_prefix : ∀ n : Fin 16, Scf.trips (0#32) (Scalar.addi (0#32) (Scalar.muli (Scalar.divsi (Scalar.subi
    (BitVec.ofNat 32 n.val) 0#32) 1#32) 1#32)) 1#32 = n.val := by decide +kernel

/-- The remainder loop (the step divides the range) never runs. -/
theorem trips_rest : ∀ n : Fin 16, Scf.trips (Scalar.addi (0#32) (Scalar.muli (Scalar.divsi (Scalar.subi
    (BitVec.ofNat 32 n.val) 0#32) 1#32) 1#32)) (Scalar.addi (0#32) (Scalar.subi (BitVec.ofNat 32 n.val) 0#32)) 1#32 = 0 := by
  decide +kernel

/-- The block of keys the loop reads on trip `k`. -/
def keyLoad (i : grid0.Coords) (k : Fin (k0_t1_loop i).trips) (x1 : Vec F S1x1x8192x128 .bf16) : Vec F S1x1x512x128 .bf16 :=
  View.ld x1 (Rect.unit (k0_off1 i k) ![1, 1, 512, 128] (k0_off1_inb i k))

/-- The block of values the loop reads on trip `k`. -/
def valLoad (i : grid0.Coords) (k : Fin (k0_t1_loop i).trips) (x2 : Vec F S1x1x16x64x512 .bf16) : Vec F S1x1x1x64x512 .bf16 :=
  View.ld x2 (Rect.unit (k0_off2 i k) ![1, 1, 1, 64, 512] (k0_off2_inb i k))

/-- The running state: maximum, sum of weights, weighted sums of values. -/
abbrev St (F : FTy → Type) := FVec F S1x512 .f32 × FVec F S1x512 .f32 × FVec F S64x512 .f32

/-- The state after the meta keys. -/
def st0 (x0 : Vec F S1x1x512x128 .bf16) (x3 : Vec F S1x1x128x128 .bf16) (x4 : Vec F S1x1x1x64x128 .bf16) : St F :=
  (k0_pay23 x0 x3, k0_pay21 x0 x3, k0_pay22 x0 x3 x4)

/-- The state after one more block of keys. -/
def stStep (v1 : FVec F S512x128 .bf16) (kb : Vec F S1x1x512x128 .bf16) (vb : Vec F S1x1x1x64x512 .bf16) (s : St F) : St F :=
  (k0_pay24 (k0_pay6 v1 kb s.1), k0_pay9 v1 kb s.1 s.2.1, k0_pay10 v1 kb vb s.1 s.2.2)

/-- The state after `n` blocks of keys. -/
def stAt (i : grid0.Coords) (v1 : FVec F S512x128 .bf16) (x1 : Vec F S1x1x8192x128 .bf16) (x2 : Vec F S1x1x16x64x512 .bf16) (s : St F) :
    ℕ → St F
  | 0 => s
  | n + 1 => if h : n < (k0_t1_loop i).trips then stStep v1 (keyLoad i ⟨n, h⟩ x1) (valLoad i ⟨n, h⟩ x2) (stAt i v1 x1 x2 s n)
      else stAt i v1 x1 x2 s n

variable (m : (ℓ : Loc nD τ sig) → Buf (Elt F) ℓ)

set_option maxHeartbeats 1600000 in
/-- ONE TRIP stores the step of what it finds. -/
theorem trip_eq (c : Dev nD) (t : Fin cfg0.N) (i : grid0.Coords) (a2 : BitVec 32) (v1 : FVec F S512x128 .bf16) (v29 : FVec F S1x512 .f32)
    (x1 : Vec F S1x1x8192x128 .bf16) (x2 : Vec F S1x1x16x64x512 .bf16) (k : Fin (k0_t1_loop i).trips)
    (f9 : BufTy.Contents (Elt F) scM0_0.view.ty) (f10 : BufTy.Contents (Elt F) scM0_1.view.ty) (f11 : BufTy.Contents (Elt F) scM0_2.view.ty)
    (s : St F) (h9 : scM0_0.view.read (Elt F) f9 = s.1) (h10 : scM0_1.view.read (Elt F) f10 = s.2.1) (h11 : scM0_2.view.read (Elt F) f11 = s.2.2) :
    tripL_k0_t1 (F := F) Variants.none c none i (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) a2 v1 v29 ((hs0_1 t).unread x1) ((hs0_2 t).unread x2) k f9 f10 f11
      = ([⟨Rect.unit ![0, 0] ![1, 512] inb_S1x512_S1x512_0_0, (stStep v1 (keyLoad i k x1) (valLoad i k x2) s).1⟩],
         [⟨Rect.unit ![0, 0] ![1, 512] inb_S1x512_S1x512_0_0, (stStep v1 (keyLoad i k x1) (valLoad i k x2) s).2.1⟩],
         [⟨Rect.unit ![0, 0] ![64, 512] inb_S64x512_S64x512_0_0, (stStep v1 (keyLoad i k x1) (valLoad i k x2) s).2.2⟩]) := by
  have e9 : View.readAt (Elt F) scM0_0.view (Rect.unit ![0, 0] S1x512.size inb_S1x512_S1x512_0_0).toLoadRect f9 = s.1 :=
    (View.readAt_full _ _ _).trans h9
  have e10 : View.readAt (Elt F) scM0_1.view (Rect.unit ![0, 0] S1x512.size inb_S1x512_S1x512_0_0).toLoadRect f10 = s.2.1 :=
    (View.readAt_full _ _ _).trans h10
  have e11 : View.readAt (Elt F) scM0_2.view (Rect.unit ![0, 0] S64x512.size inb_S64x512_S64x512_0_0).toLoadRect f11 = s.2.2 :=
    (View.readAt_full _ _ _).trans h11
  have ek : View.readAt (Elt F) (ms0_1 t).view (Rect.unit (k0_off1 i k) ![1, 1, 512, 128] (k0_off1_inb i k)).toLoadRect ((hs0_1 t).unread x1)
      = keyLoad i k x1 := by rw [View.readAt_eq_ld, (hs0_1 t).read_unread]; rfl
  have ev : View.readAt (Elt F) (ms0_2 t).view (Rect.unit (k0_off2 i k) ![1, 1, 1, 64, 512] (k0_off2_inb i k)).toLoadRect ((hs0_2 t).unread x2)
      = valLoad i k x2 := by rw [View.readAt_eq_ld, (hs0_2 t).read_unread]; rfl
  unfold stStep
  dsimp only
  rw [← e9, ← e10, ← e11, ← ek, ← ev]
  unfold tripL_k0_t1 trip_k0_t1
  rfl

/-- The contents the loop starts from: the state `s`, stored whole. -/
abbrev G9 (s : St F) : BufTy.Contents (Elt F) scM0_0.view.ty :=
  (View.whole cc0_scratch0).writes (Elt F) (View.whole cc0_scratch0).junk [⟨Rect.unit ![0, 0] ![1, 512] inb_S1x512_S1x512_0_0, s.1⟩]
abbrev G10 (s : St F) : BufTy.Contents (Elt F) scM0_1.view.ty :=
  (View.whole cc0_scratch1).writes (Elt F) (View.whole cc0_scratch1).junk [⟨Rect.unit ![0, 0] ![1, 512] inb_S1x512_S1x512_0_0, s.2.1⟩]
abbrev G11 (s : St F) : BufTy.Contents (Elt F) scM0_2.view.ty :=
  (View.whole cc0_scratch2).writes (Elt F) (View.whole cc0_scratch2).junk [⟨Rect.unit ![0, 0] ![64, 512] inb_S64x512_S64x512_0_0, s.2.2⟩]

/-- The pieces the first `n` trips write, from the state `s`. -/
abbrev pieces (c : Dev nD) (t : Fin cfg0.N) (i : grid0.Coords) (a2 : BitVec 32) (v1 : FVec F S512x128 .bf16) (v29 : FVec F S1x512 .f32)
    (x1 : Vec F S1x1x8192x128 .bf16) (x2 : Vec F S1x1x16x64x512 .bf16) (s : St F) (n : ℕ) :=
  pb_k0_t1 (F := F) Variants.none c none i (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) a2 v1 v29 ((hs0_1 t).unread x1) ((hs0_2 t).unread x2) (G9 s) (G10 s) (G11 s) n

set_option maxHeartbeats 1600000 in
/-- After `n` trips the three scratch arrays read the state after `n` blocks of keys. -/
theorem read_pieces (c : Dev nD) (t : Fin cfg0.N) (i : grid0.Coords) (a2 : BitVec 32) (v1 : FVec F S512x128 .bf16) (v29 : FVec F S1x512 .f32)
    (x1 : Vec F S1x1x8192x128 .bf16) (x2 : Vec F S1x1x16x64x512 .bf16) (s : St F) (n : ℕ) (hn : n ≤ (k0_t1_loop i).trips) :
    scM0_0.view.read (Elt F) (scM0_0.view.writes (Elt F) (G9 s) (pieces c t i a2 v1 v29 x1 x2 s n).1) = (stAt i v1 x1 x2 s n).1
    ∧ scM0_1.view.read (Elt F) (scM0_1.view.writes (Elt F) (G10 s) (pieces c t i a2 v1 v29 x1 x2 s n).2.1) = (stAt i v1 x1 x2 s n).2.1
    ∧ scM0_2.view.read (Elt F) (scM0_2.view.writes (Elt F) (G11 s) (pieces c t i a2 v1 v29 x1 x2 s n).2.2) = (stAt i v1 x1 x2 s n).2.2 := by
  induction n with
  | zero =>
    unfold pieces
    rw [pb_k0_t1]
    exact ⟨View.read_writes_full _ _ _ _ _, View.read_writes_full _ _ _ _ _, View.read_writes_full _ _ _ _ _⟩
  | succ n ih =>
    obtain ⟨h9, h10, h11⟩ := ih (by omega)
    unfold pieces at h9 h10 h11 ⊢
    rw [show n + 1 = (⟨n, hn⟩ : Fin (k0_t1_loop i).trips).val + 1 from rfl, pb_k0_t1_succ,
      trip_eq c t i a2 v1 v29 x1 x2 ⟨n, hn⟩ _ _ _ (stAt i v1 x1 x2 s n) h9 h10 h11]
    rw [stAt, dif_pos (show n < (k0_t1_loop i).trips from hn)]
    exact ⟨View.read_writes_full _ _ _ _ _, View.read_writes_full _ _ _ _ _, View.read_writes_full _ _ _ _ _⟩

/-- The same, as the loads after the loop state it. -/
theorem readCov_pieces (c : Dev nD) (t : Fin cfg0.N) (i : grid0.Coords) (a2 : BitVec 32) (v1 : FVec F S512x128 .bf16) (v29 : FVec F S1x512 .f32)
    (x1 : Vec F S1x1x8192x128 .bf16) (x2 : Vec F S1x1x16x64x512 .bf16) (s : St F) (n : ℕ) (hn : n ≤ (k0_t1_loop i).trips) :
    (View.whole cc0_scratch0).readCov ((pieces c t i a2 v1 v29 x1 x2 s n).1 ++ [⟨Rect.unit ![0, 0] ![1, 512] inb_S1x512_S1x512_0_0, s.1⟩])
        (Rect.unit ![0, 0] ![1, 512] inb_S1x512_S1x512_0_0).toLoadRect = (stAt i v1 x1 x2 s n).1
    ∧ (View.whole cc0_scratch1).readCov ((pieces c t i a2 v1 v29 x1 x2 s n).2.1 ++ [⟨Rect.unit ![0, 0] ![1, 512] inb_S1x512_S1x512_0_0, s.2.1⟩])
        (Rect.unit ![0, 0] ![1, 512] inb_S1x512_S1x512_0_0).toLoadRect = (stAt i v1 x1 x2 s n).2.1
    ∧ (View.whole cc0_scratch2).readCov ((pieces c t i a2 v1 v29 x1 x2 s n).2.2 ++ [⟨Rect.unit ![0, 0] ![64, 512] inb_S64x512_S64x512_0_0, s.2.2⟩])
        (Rect.unit ![0, 0] ![64, 512] inb_S64x512_S64x512_0_0).toLoadRect = (stAt i v1 x1 x2 s n).2.2 := by
  obtain ⟨h9, h10, h11⟩ := read_pieces c t i a2 v1 v29 x1 x2 s n hn
  refine ⟨?_, ?_, ?_⟩
  · unfold View.readCov; rw [View.writes_append]; exact (View.readAt_full _ _ _).trans h9
  · unfold View.readCov; rw [View.writes_append]; exact (View.readAt_full _ _ _).trans h10
  · unfold View.readCov; rw [View.writes_append]; exact (View.readAt_full _ _ _).trans h11

/-- The block of keys on the diagonal. -/
def keyDiag (i : grid0.Coords) (x1 : Vec F S1x1x8192x128 .bf16) : Vec F S1x1x512x128 .bf16 :=
  View.ld x1 (Rect.unit (k0_off5 i) ![1, 1, 512, 128] (k0_off5_inb i))

/-- The block of values on the diagonal. -/
def valDiag (i : grid0.Coords) (x2 : Vec F S1x1x16x64x512 .bf16) : Vec F S1x1x1x64x512 .bf16 :=
  View.ld x2 (Rect.unit (k0_off6 i) ![1, 1, 1, 64, 512] (k0_off6_inb i))

/-- What the diagonal block makes of the state, and the quotient stored. -/
def finish (v1 : FVec F S512x128 .bf16) (kb : Vec F S1x1x512x128 .bf16) (vb : Vec F S1x1x1x64x512 .bf16) (s : St F) : FVec F S1x64x512 .bf16 :=
  k0_pay4 (k0_pay2 (k0_pay28 v1 kb s.1) (k0_pay30 v1 kb vb s.1) s.2.2) (k0_pay1 (k0_pay31 v1 kb s.1 s.2.1))

/-- `finish` of a state given by its three parts. -/
theorem finish_congr (v1 : FVec F S512x128 .bf16) (kb : Vec F S1x1x512x128 .bf16) (vb : Vec F S1x1x1x64x512 .bf16) {s : St F}
    {a b : FVec F S1x512 .f32} {d : FVec F S64x512 .f32} (ha : a = s.1) (hb : b = s.2.1) (hd : d = s.2.2) :
    k0_pay4 (k0_pay2 (k0_pay28 v1 kb a) (k0_pay30 v1 kb vb a) d) (k0_pay1 (k0_pay31 v1 kb a b)) = finish v1 kb vb s := by
  subst ha hb hd; rfl

set_option maxHeartbeats 1600000 in
/-- WHAT POINT `t` LEAVES in the output block: the diagonal block's quotient over the state after the earlier blocks. -/
theorem outsAt0_eq (c : Dev nD) (t : Fin cfg0.N) :
    outsAt0 m c t = finish (k0_pay17 (iblk m c 0 t)) (keyDiag (grid0.coords t) (iblk m c 1 t)) (valDiag (grid0.coords t) (iblk m c 2 t))
      (stAt (grid0.coords t) (k0_pay17 (iblk m c 0 t)) (iblk m c 1 t) (iblk m c 2 t)
        (st0 (iblk m c 0 t) (iblk m c 3 t) (iblk m c 4 t)) (grid0.coords t 2).val) := by
  obtain ⟨h9, h10, h11⟩ := readCov_pieces c t (grid0.coords t) (BitVec.ofNat 32 (grid0.coords t 2).val) (k0_pay17 (iblk m c 0 t))
    (k0_pay23 (iblk m c 0 t) (iblk m c 3 t)) (iblk m c 1 t) (iblk m c 2 t) (st0 (iblk m c 0 t) (iblk m c 3 t) (iblk m c 4 t))
    (grid0.coords t 2).val (le_of_eq (trips_prefix (grid0.coords t 2)).symm)
  unfold outsAt0
  frame_out
  rw [trips_rest (grid0.coords t 2)]
  simp only [pb_k0_t2, List.nil_append]
  rw [trips_prefix (grid0.coords t 2)]
  unfold pieces G9 G10 G11 at h9 h10 h11
  unfold st0 at h9 h10 h11 ⊢
  dsimp only at h9 h10 h11
  rw [h9, h10, h11]
  rfl

end Cert.AttnIdeal.Block

end
-- ==== Proof.AttnState.lean ====
/- What one grid point of the attention kernel computes, over the extended reals: its running state follows the
   softmax over the keys seen so far, and the block it stores is the attention of its queries. -/
module

public import proofs.«01_k».proof.Proof.AttnSpec
public import proofs.«01_k».proof.Proof.AttnPay
public import proofs.«01_k».proof.Proof.AttnBlock

@[expose] public section

set_option maxRecDepth 16384

noncomputable section

namespace Cert.AttnIdeal.State

open Cert.AttnIdeal Cert.AttnIdeal.Gen Cert.AttnIdeal.Block Cert.AttnIdeal.Pay Cert.AttnSpec Cert.Softmax
open Idealize.ShloMosaic Idealize.ShloMosaic.TcCoe Idealize.SL.Sem

/-- The row the keys of trip `k` start at. -/
theorem start_key : ∀ k : Fin 16, (Scalar.muli (Scf.iv 0#32 1#32 k.val) 512#32).toNat = 512 * k.val := by decide

/-- The block trip `k` reads of the values. -/
theorem start_val : ∀ k : Fin 16, (Scf.iv 0#32 1#32 k.val).toNat = k.val := by decide

/-- The keys of trip `k`. -/
theorem keyLoad_apply (i : grid0.Coords) (k : Fin (k0_t1_loop i).trips) (hk : k.val < 16) (x1 : Vec Ideal S1x1x8192x128 .bf16) (j : Fin 512) (d : Fin 128) :
    keyLoad (F := Ideal) i k x1 (ix4 0 0 j d) = x1 (ix4 0 0 ⟨512 * k.val + j.val, by omega⟩ d) := by
  have hs : (Scalar.muli (Scf.iv 0#32 1#32 k.val) 512#32).toNat = 512 * k.val := start_key ⟨k.val, hk⟩
  refine congrArg x1 (funext fun a => Fin.ext ?_)
  fin_cases a
  · rfl
  · rfl
  · show (Scalar.muli (Scf.iv 0#32 1#32 k.val) 512#32).toNat + 1 * j.val = 512 * k.val + j.val
    omega
  · show 0 + 1 * d.val = d.val
    omega

/-- The values of trip `k`. -/
theorem valLoad_apply (i : grid0.Coords) (k : Fin (k0_t1_loop i).trips) (hk : k.val < 16) (x2 : Vec Ideal S1x1x16x64x512 .bf16) (d : Fin 64) (j : Fin 512) :
    valLoad (F := Ideal) i k x2 (ix5 0 0 0 d j) = x2 (ix5 0 0 ⟨k.val, hk⟩ d j) := by
  have hs : (Scf.iv 0#32 1#32 k.val).toNat = k.val := start_val ⟨k.val, hk⟩
  refine congrArg x2 (funext fun a => Fin.ext ?_)
  fin_cases a
  · rfl
  · rfl
  · show (Scf.iv 0#32 1#32 k.val).toNat + 1 * 0 = k.val
    omega
  · show 0 + 1 * d.val = d.val
    omega
  · show 0 + 1 * j.val = j.val
    omega

/-- The row the keys of the diagonal block start at, and its number. -/
theorem start_diag : ∀ n : Fin 16, (Scalar.muli (BitVec.ofNat 32 n.val) 512#32).toNat = 512 * n.val ∧ (BitVec.ofNat 32 n.val).toNat = n.val := by decide

/-- The keys of the diagonal block. -/
theorem keyDiag_apply (i : grid0.Coords) (n : Fin 16) (hn : (i 2).val = n.val) (x1 : Vec Ideal S1x1x8192x128 .bf16) (j : Fin 512) (d : Fin 128) :
    keyDiag (F := Ideal) i x1 (ix4 0 0 j d) = x1 (ix4 0 0 ⟨512 * n.val + j.val, by omega⟩ d) := by
  have hs := (start_diag n).1
  rw [← hn] at hs
  refine congrArg x1 (funext fun a => Fin.ext ?_)
  fin_cases a
  · rfl
  · rfl
  · show (Scalar.muli (BitVec.ofNat 32 (i 2).val) 512#32).toNat + 1 * j.val = 512 * n.val + j.val
    omega
  · show 0 + 1 * d.val = d.val
    omega

/-- The values of the diagonal block. -/
theorem valDiag_apply (i : grid0.Coords) (n : Fin 16) (hn : (i 2).val = n.val) (x2 : Vec Ideal S1x1x16x64x512 .bf16) (d : Fin 64) (j : Fin 512) :
    valDiag (F := Ideal) i x2 (ix5 0 0 0 d j) = x2 (ix5 0 0 n d j) := by
  have hs := (start_diag n).2
  rw [← hn] at hs
  refine congrArg x2 (funext fun a => Fin.ext ?_)
  fin_cases a
  · rfl
  · rfl
  · show (BitVec.ofNat 32 (i 2).val).toNat + 1 * 0 = n.val
    omega
  · show 0 + 1 * d.val = d.val
    omega
  · show 0 + 1 * j.val = j.val
    omega

/-- The blocks a grid point reads: those of batch `b`, head `h` and query block `n`. -/
structure Reads (q k : QK) (vt : VT) (km : KM) (vm : VM) (b : Fin 2) (h : Fin 8) (n : Fin 16)
    (x0 : FVec Ideal S1x1x512x128 .bf16) (x1 : Vec Ideal S1x1x8192x128 .bf16) (x2 : Vec Ideal S1x1x16x64x512 .bf16)
    (x3 : FVec Ideal S1x1x128x128 .bf16) (x4 : FVec Ideal S1x1x1x64x128 .bf16) : Prop where
  q : ∀ (r : Fin 512) (d : Fin 128), x0 (ix4 0 0 r d) = q (ix4 b h ⟨512 * n.val + r.val, by omega⟩ d)
  k : ∀ (j : Fin 8192) (d : Fin 128), x1 (ix4 0 0 j d) = k (ix4 b h j d)
  v : ∀ (g : Fin 16) (d : Fin 64) (j : Fin 512), x2 (ix5 0 0 g d j) = vt (ix5 b h g d j)
  km : ∀ (j : Fin 128) (d : Fin 128), x3 (ix4 0 0 j d) = km (ix4 0 h j d)
  vm : ∀ (d : Fin 64) (j : Fin 128), x4 (ix5 0 0 0 d j) = vm (ix5 0 h 0 d j)

variable {q k : QK} {vt : VT} {km : KM} {vm : VM} {b : Fin 2} {h : Fin 8} {n : Fin 16}
    {x0 : FVec Ideal S1x1x512x128 .bf16} {x1 : Vec Ideal S1x1x8192x128 .bf16} {x2 : Vec Ideal S1x1x16x64x512 .bf16}
    {x3 : FVec Ideal S1x1x128x128 .bf16} {x4 : FVec Ideal S1x1x1x64x128 .bf16}

/-- The scores of the query in column `r` of query block `n`. -/
abbrev sc (q k : QK) (km : KM) (b : Fin 2) (h : Fin 8) (n : Fin 16) (r : Fin 512) : ℕ → EReal :=
  score q k km b h ⟨512 * n.val + r.val, by omega⟩

/-- The running state has seen the first `N` keys. -/
def Seen (q k : QK) (vt : VT) (km : KM) (vm : VM) (b : Fin 2) (h : Fin 8) (n : Fin 16) (N : ℕ) (s : St Ideal) : Prop :=
  ∀ r : Fin 512, Soft (sc q k km b h n r) (value vt vm b h) N (s.1 (ix2 0 r)) (s.2.1 (ix2 0 r)) fun d => s.2.2 (ix2 d r)

/-- The scores of the meta keys. -/
theorem score_meta (hx : Reads q k vt km vm b h n x0 x1 x2 x3 x4) (i : Fin 128) (r : Fin 512) :
    k0_pay18 (F := Ideal) x0 x3 (ix2 i r) = sc q k km b h n r i.val := by
  rw [pay18_apply]
  unfold sc score
  split
  · refine Finset.sum_congr rfl fun d _ => ?_
    rw [pay17_apply, hx.q, hx.km]
  · rw [dif_neg (by omega)]

/-- The state after the meta keys. -/
theorem seen_meta (hx : Reads q k vt km vm b h n x0 x1 x2 x3 x4) : Seen q k vt km vm b h n 128 (st0 (F := Ideal) x0 x3 x4) := by
  intro r
  have hm : k0_pay23 (F := Ideal) x0 x3 (ix2 0 r) = (Finset.range 128).sup (sc q k km b h n r) := by
    rw [pay23_apply, ← sup_univ_eq_range]
    simp only [score_meta hx]
  have hl : k0_pay21 (F := Ideal) x0 x3 (ix2 0 r)
      = ∑ i ∈ Finset.range 128, Ideal.exp2 (sc q k km b h n r i - k0_pay23 (F := Ideal) x0 x3 (ix2 0 r)) := by
    rw [pay21_apply, Finset.sum_range]
    refine Finset.sum_congr rfl fun i _ => ?_
    rw [pay20_apply, score_meta hx]
  have ha : ∀ d, k0_pay22 (F := Ideal) x0 x3 x4 (ix2 d r)
      = ∑ i ∈ Finset.range 128, Ideal.exp2 (sc q k km b h n r i - k0_pay23 (F := Ideal) x0 x3 (ix2 0 r)) * value vt vm b h i d := fun d => by
    rw [pay22_apply, Finset.sum_range]
    refine Finset.sum_congr rfl fun i _ => ?_
    rw [pay20_apply, score_meta hx, hx.vm, mul_comm]
    unfold value
    rw [dif_pos i.isLt]
  have key : Soft (sc q k km b h n r) (value vt vm b h) 128 (k0_pay23 (F := Ideal) x0 x3 (ix2 0 r)) (k0_pay21 (F := Ideal) x0 x3 (ix2 0 r))
      (fun d => k0_pay22 (F := Ideal) x0 x3 x4 (ix2 d r)) := ⟨hm, hl, ha⟩
  unfold st0
  dsimp only
  exact key

/-- The value of key `j` of block `g`. -/
theorem value_block (g : Fin 16) (j : Fin 512) (d : Fin 64) : value vt vm b h (128 + 512 * g.val + j.val) d = vt (ix5 b h g d j) := by
  unfold value
  rw [dif_neg (by omega), dif_pos (by omega)]
  congr 1
  have e1 : (⟨(128 + 512 * g.val + j.val - 128) / 512, by omega⟩ : Fin 16) = g := Fin.ext (by dsimp only; omega)
  have e2 : (⟨(128 + 512 * g.val + j.val - 128) % 512, by omega⟩ : Fin 512) = j := Fin.ext (by dsimp only; omega)
  rw [e1, e2]

/-- The score of key `j` of block `g`. -/
theorem score_block (g : Fin 16) (j r : Fin 512) : sc q k km b h n r (128 + 512 * g.val + j.val)
    = if 512 * g.val + j.val ≤ 512 * n.val + r.val then
        ∑ d : Fin 128, k (ix4 b h ⟨512 * g.val + j.val, by omega⟩ d) * q (ix4 b h ⟨512 * n.val + r.val, by omega⟩ d) else ⊥ := by
  unfold sc score
  rw [dif_neg (by omega)]
  have e : 128 + 512 * g.val + j.val - 128 = 512 * g.val + j.val := by omega
  by_cases hle : 512 * g.val + j.val ≤ 512 * n.val + r.val
  · rw [dif_pos ⟨by omega, by dsimp only; omega⟩, if_pos hle]
    refine Finset.sum_congr rfl fun d _ => ?_
    have e1 : (⟨128 + 512 * g.val + j.val - 128, by omega⟩ : Fin 8192) = ⟨512 * g.val + j.val, by omega⟩ := Fin.ext e
    rw [e1]
  · rw [dif_neg (by dsimp only; omega), if_neg hle]

/-- ONE EARLIER BLOCK of keys. -/
theorem seen_step (hx : Reads q k vt km vm b h n x0 x1 x2 x3 x4) (hs : ∀ p, Scores (score q k km b h p)) (g : Fin 16) (hg : g.val < n.val)
    (kb : Vec Ideal S1x1x512x128 .bf16) (vb : Vec Ideal S1x1x1x64x512 .bf16)
    (hk : ∀ j d, kb (ix4 0 0 j d) = k (ix4 b h ⟨512 * g.val + j.val, by omega⟩ d)) (hv : ∀ d j, vb (ix5 0 0 0 d j) = vt (ix5 b h g d j))
    (s : St Ideal) (h0 : Seen q k vt km vm b h n (128 + 512 * g.val) s) :
    Seen q k vt km vm b h n (128 + 512 * g.val + 512) (stStep (F := Ideal) (k0_pay17 x0) kb vb s) := by
  intro r
  have h5 : ∀ i : Fin 512, k0_pay5 (F := Ideal) (k0_pay17 x0) kb (ix2 i r) = sc q k km b h n r (128 + 512 * g.val + i.val) := fun i => by
    rw [pay5_apply, score_block, if_pos (by omega)]
    refine Finset.sum_congr rfl fun d _ => ?_
    rw [hk, pay17_apply, hx.q]
  have h6 : k0_pay6 (F := Ideal) (k0_pay17 x0) kb s.1 (ix2 0 r)
      = max (s.1 (ix2 0 r)) ((Finset.range 512).sup fun i => sc q k km b h n r (128 + 512 * g.val + i)) := by
    rw [pay6_apply, ← sup_univ_eq_range]
    simp only [h5]
  refine (h0 r).step (hs _) (by omega) 512 ?_ ?_ fun d => ?_
  · show k0_pay24 (F := Ideal) (k0_pay6 (F := Ideal) (k0_pay17 x0) kb s.1) (ix2 0 r) = _
    rw [pay24_apply, h6]
  · show k0_pay9 (F := Ideal) (k0_pay17 x0) kb s.1 s.2.1 (ix2 0 r)
      = Ideal.exp2 (s.1 (ix2 0 r) - k0_pay24 (F := Ideal) (k0_pay6 (F := Ideal) (k0_pay17 x0) kb s.1) (ix2 0 r)) * s.2.1 (ix2 0 r)
        + ∑ i ∈ Finset.range 512, Ideal.exp2 (sc q k km b h n r (128 + 512 * g.val + i) - k0_pay24 (F := Ideal) (k0_pay6 (F := Ideal) (k0_pay17 x0) kb s.1) (ix2 0 r))
    rw [pay9_apply, pay7_apply, pay24_apply, Finset.sum_range]
    simp only [pay8_apply, h5]
  · show k0_pay10 (F := Ideal) (k0_pay17 x0) kb vb s.1 s.2.2 (ix2 d r)
      = Ideal.exp2 (s.1 (ix2 0 r) - k0_pay24 (F := Ideal) (k0_pay6 (F := Ideal) (k0_pay17 x0) kb s.1) (ix2 0 r)) * s.2.2 (ix2 d r)
        + ∑ i ∈ Finset.range 512, Ideal.exp2 (sc q k km b h n r (128 + 512 * g.val + i) - k0_pay24 (F := Ideal) (k0_pay6 (F := Ideal) (k0_pay17 x0) kb s.1) (ix2 0 r))
          * value vt vm b h (128 + 512 * g.val + i) d
    rw [pay10_apply, pay7_apply, pay24_apply, Finset.sum_range]
    refine congrArg₂ (· + ·) rfl (Finset.sum_congr rfl fun i _ => ?_)
    rw [pay8_apply, h5, hv, value_block, mul_comm]

/-- The state before the diagonal block: every earlier block of keys has been seen. -/
theorem seen_blocks (hx : Reads q k vt km vm b h n x0 x1 x2 x3 x4) (hs : ∀ p, Scores (score q k km b h p)) (i : grid0.Coords)
    (ht : (k0_t1_loop i).trips = n.val) (s : St Ideal) (h0 : Seen q k vt km vm b h n 128 s) :
    ∀ g : ℕ, g ≤ n.val → Seen q k vt km vm b h n (128 + 512 * g) (stAt (F := Ideal) i (k0_pay17 x0) x1 x2 s g) := by
  intro g
  induction g with
  | zero => intro _; exact h0
  | succ g ih =>
    intro hg
    have hlt : g < (k0_t1_loop i).trips := by omega
    have e : stAt (F := Ideal) i (k0_pay17 x0) x1 x2 s (g + 1)
        = stStep (F := Ideal) (k0_pay17 x0) (keyLoad i ⟨g, hlt⟩ x1) (valLoad i ⟨g, hlt⟩ x2) (stAt (F := Ideal) i (k0_pay17 x0) x1 x2 s g) := by
      rw [stAt, dif_pos hlt]
    rw [e]
    have hn := n.isLt
    refine seen_step hx hs ⟨g, by omega⟩ hg _ _ (fun j d => ?_) (fun d j => ?_) _ (ih (by omega))
    · rw [keyLoad_apply i _ (by dsimp only; omega), hx.k]
    · rw [valLoad_apply i _ (by dsimp only; omega), hx.v]

/-- THE STORED BLOCK: after the diagonal block the quotient is the attention. -/
theorem finish_apply (hx : Reads q k vt km vm b h n x0 x1 x2 x3 x4) (hs : ∀ p, Scores (score q k km b h p))
    (kb : Vec Ideal S1x1x512x128 .bf16) (vb : Vec Ideal S1x1x1x64x512 .bf16)
    (hk : ∀ j d, kb (ix4 0 0 j d) = k (ix4 b h ⟨512 * n.val + j.val, by omega⟩ d)) (hv : ∀ d j, vb (ix5 0 0 0 d j) = vt (ix5 b h n d j))
    (s : St Ideal) (h0 : Seen q k vt km vm b h n (128 + 512 * n.val) s) (d : Fin 64) (r : Fin 512) :
    finish (F := Ideal) (k0_pay17 x0) kb vb s (ix3 0 d r) = out q k vt km vm b h ⟨512 * n.val + r.val, by omega⟩ d := by
  have h5 : ∀ i : Fin 512, k0_pay26 (F := Ideal) (k0_pay17 x0) kb (ix2 i r) = sc q k km b h n r (128 + 512 * n.val + i.val) := fun i => by
    rw [pay26_apply, score_block]
    refine if_congr ⟨fun _ => by omega, fun _ => by omega⟩ (Finset.sum_congr rfl fun d _ => ?_) rfl
    rw [hk, pay17_apply, hx.q]
  have h6 : k0_pay27 (F := Ideal) (k0_pay17 x0) kb s.1 (ix2 0 r)
      = max (s.1 (ix2 0 r)) ((Finset.range 512).sup fun i => sc q k km b h n r (128 + 512 * n.val + i)) := by
    rw [pay27_apply, ← sup_univ_eq_range]
    simp only [h5]
  have key : Soft (sc q k km b h n r) (value vt vm b h) (128 + 512 * n.val + 512) (k0_pay27 (F := Ideal) (k0_pay17 x0) kb s.1 (ix2 0 r))
      (k0_pay31 (F := Ideal) (k0_pay17 x0) kb s.1 s.2.1 (ix2 0 r))
      (fun d => k0_pay28 (F := Ideal) (k0_pay17 x0) kb s.1 (ix2 0 r) * s.2.2 (ix2 d r) + k0_pay30 (F := Ideal) (k0_pay17 x0) kb vb s.1 (ix2 d r)) := by
    refine (h0 r).step (hs _) (by omega) 512 h6 ?_ fun d => ?_
    · rw [pay31_apply, pay28_apply, Finset.sum_range]
      simp only [pay29_apply, h5]
    · rw [pay30_apply, pay28_apply, Finset.sum_range]
      refine congrArg₂ (· + ·) rfl (Finset.sum_congr rfl fun i _ => ?_)
      rw [pay29_apply, h5, hv, value_block, mul_comm]
  unfold finish
  rw [pay4_apply]
  have hn := n.isLt
  refine attend_of_soft key (hs _) (by omega) (by omega) (fun j hj => ?_) d
  unfold sc score
  rw [dif_neg (by omega), dif_neg (by dsimp only; omega)]

end Cert.AttnIdeal.State

end
-- ==== Proof.AttnArray.lean ====
/- The attention kernel's result array: entry `(b, 64·h + d, p)` is the attention of batch `b`, head `h`, feature
   `d`, for the query at position `p`. -/
module

public import proofs.«01_k».proof.Proof.AttnState
public import proofs.«01_k».proof.Proof.Gen.AttnIdeal.Value
public import Idealize.ShloMosaic.Lib.Claim

@[expose] public section

set_option maxRecDepth 16384

noncomputable section

namespace Cert.AttnIdeal.Array

open Cert.AttnIdeal Cert.AttnIdeal.Gen Cert.AttnIdeal.Block Cert.AttnIdeal.State Cert.AttnSpec Cert.Softmax
open Idealize.ShloMosaic Idealize.ShloMosaic.TcCoe Idealize.SL.Sem

variable (m : (ℓ : Loc nD τ sig) → Buf (Elt Ideal) ℓ) (c : Dev nD)

/-- The batch, the head and the block of queries of a grid point. -/
def bt (t : Fin cfg0.N) : Fin 2 := grid0.coords t 0
def hd (t : Fin cfg0.N) : Fin 8 := grid0.coords t 1
def qb (t : Fin cfg0.N) : Fin 16 := grid0.coords t 2

/-- The block each window moves at a grid point. -/
theorem idx : ∀ t : Fin cfg0.N,
    win0_0.index t = ![(bt t).val, (hd t).val, (qb t).val, 0] ∧ win0_1.index t = ![(bt t).val, (hd t).val, 0, 0]
    ∧ win0_2.index t = ![(bt t).val, (hd t).val, 0, 0, 0] ∧ win0_3.index t = ![0, (hd t).val, 0, 0]
    ∧ win0_4.index t = ![0, (hd t).val, 0, 0, 0] ∧ win0_5.index t = ![(bt t).val, (hd t).val, (qb t).val] :=
  (by decide +kernel : ∀ t : Fin grid0.N, _)

/-- The queries of a point. -/
theorem read0 (t : Fin cfg0.N) (r : Fin 512) (d : Fin 128) : (iblk m c 0 t : FVec Ideal S1x1x512x128 .bf16) (ix4 0 0 r d)
    = (m (c, main_arg0) : FVec Ideal S2x8x8192x128 .bf16) (ix4 (bt t) (hd t) ⟨512 * (qb t).val + r.val, by omega⟩ d) := by
  blk_point [iblk, V, idx t]

/-- The keys of a point. -/
theorem read1 (t : Fin cfg0.N) (j : Fin 8192) (d : Fin 128) : (iblk m c 1 t : FVec Ideal S1x1x8192x128 .bf16) (ix4 0 0 j d)
    = (m (c, main_arg1) : FVec Ideal S2x8x8192x128 .bf16) (ix4 (bt t) (hd t) j d) := by
  blk_point [iblk, V, idx t]

/-- The values of a point. -/
theorem read2 (t : Fin cfg0.N) (g : Fin 16) (d : Fin 64) (j : Fin 512) : (iblk m c 2 t : FVec Ideal S1x1x16x64x512 .bf16) (ix5 0 0 g d j)
    = (m (c, main_arg2) : FVec Ideal S2x8x16x64x512 .bf16) (ix5 (bt t) (hd t) g d j) := by
  blk_point [iblk, V, idx t]

/-- The meta keys of a point. -/
theorem read3 (t : Fin cfg0.N) (j : Fin 128) (d : Fin 128) : (iblk m c 3 t : FVec Ideal S1x1x128x128 .bf16) (ix4 0 0 j d)
    = (m (c, main_arg3) : FVec Ideal S1x8x128x128 .bf16) (ix4 0 (hd t) j d) := by
  blk_point [iblk, V, idx t]

/-- The meta values of a point. -/
theorem read4 (t : Fin cfg0.N) (d : Fin 64) (j : Fin 128) : (iblk m c 4 t : FVec Ideal S1x1x1x64x128 .bf16) (ix5 0 0 0 d j)
    = (m (c, main_arg4) : FVec Ideal S1x8x1x64x128 .bf16) (ix5 0 (hd t) 0 d j) := by
  blk_point [iblk, V, idx t]

/-- A point reads the blocks of its batch, head and block of queries. -/
theorem reads (t : Fin cfg0.N) : Reads (m (c, main_arg0)) (m (c, main_arg1)) (m (c, main_arg2)) (m (c, main_arg3)) (m (c, main_arg4))
    (bt t) (hd t) (qb t) (iblk m c 0 t) (iblk m c 1 t) (iblk m c 2 t) (iblk m c 3 t) (iblk m c 4 t) :=
  ⟨read0 m c t, read1 m c t, read2 m c t, read3 m c t, read4 m c t⟩

/-- What the finite arguments give: every row of scores has no infinity above, and its first key unmasked. -/
abbrev AllScores : Prop := ∀ b h p, Scores (score (m (c, main_arg0)) (m (c, main_arg1)) (m (c, main_arg3)) b h p)

/-- The block a point stores. -/
theorem block_apply (hs : AllScores m c) (t : Fin cfg0.N) (d : Fin 64) (r : Fin 512) :
    (outsAt0 m c t : FVec Ideal S1x64x512 .bf16) (ix3 0 d r)
      = out (m (c, main_arg0)) (m (c, main_arg1)) (m (c, main_arg2)) (m (c, main_arg3)) (m (c, main_arg4)) (bt t) (hd t)
          ⟨512 * (qb t).val + r.val, by omega⟩ d := by
  rw [outsAt0_eq]
  have hx := reads m c t
  refine finish_apply hx (hs _ _) _ _ (fun j d => ?_) (fun d j => ?_) _ ?_ d r
  · rw [keyDiag_apply _ (qb t) rfl, hx.k]
  · rw [valDiag_apply _ (qb t) rfl, hx.v]
  · exact seen_blocks hx (hs _ _) _ (trips_prefix (qb t)) _ (seen_meta hx) _ le_rfl

/-- The result array. -/
def result : S2x512x8192.Idx → EReal := fun i =>
  out (m (c, main_arg0)) (m (c, main_arg1)) (m (c, main_arg2)) (m (c, main_arg3)) (m (c, main_arg4))
    (i 0) ⟨(i 1).val / 64, by have : (i 1).val < 512 := (i 1).isLt; omega⟩ (i 2) ⟨(i 1).val % 64, by omega⟩

/-- THE KERNEL'S RESULT. -/
theorem final (hs : AllScores m c) : (dats m 0 c).arrAt 5 cfg0.N = result m c := by
  refine (dats m 0 c).arrAt_eq_of_covers 5 (result m c) (by decide +kernel) fun t hf y => ?_
  blk_simp
  rw [after0_5]
  have hy : y = ix3 0 (y 1) (y 2) := by
    funext a; fin_cases a
    · exact Fin.ext (Nat.lt_one_iff.1 (y 0).isLt)
    · rfl
    · rfl
  have h1 : (y 1).val < 64 := (y 1).isLt
  have h2 : (y 2).val < 512 := (y 2).isLt
  have he : (win0_5.blk t).view.emb y = ix3 (bt t) ⟨64 * (hd t).val + (y 1).val, by have := (hd t).isLt; omega⟩
      ⟨512 * (qb t).val + (y 2).val, by have := (qb t).isLt; omega⟩ := by
    blk_ext [idx t]
  rw [he]
  refine ((congrArg (outsAt0 m c t) hy).trans (block_apply m c hs t (y 1) (y 2))).trans ?_
  have e1 : (64 * (hd t).val + (y 1).val) / 64 = (hd t).val := by omega
  have e2 : (64 * (hd t).val + (y 1).val) % 64 = (y 1).val := by omega
  have g1 : (⟨(64 * (hd t).val + (y 1).val) / 64, by omega⟩ : Fin 8) = hd t := Fin.ext e1
  have g2 : (⟨(64 * (hd t).val + (y 1).val) % 64, by omega⟩ : Fin 64) = y 1 := Fin.ext e2
  exact (congrArg₂ (fun h d => out (m (c, main_arg0)) (m (c, main_arg1)) (m (c, main_arg2)) (m (c, main_arg3)) (m (c, main_arg4)) (bt t) h
    ⟨512 * (qb t).val + (y 2).val, by omega⟩ d) g1 g2).symm

end Cert.AttnIdeal.Array

end
-- ==== Proof.AttnRef.lean ====
/- The attention reference's result, step by step: padded keys and values, masked scores, softmax, weighted sum,
   each read at an index. -/
module

public import proofs.«01_k».proof.Proof.AttnSpec
public import proofs.«01_k».proof.Proof.Gen.AttnRefIdeal.Run
public import Idealize.ShloMosaic.Lib.Pointwise
public import Idealize.ShloMosaic.Lib.WordCmp

@[expose] public section

set_option maxRecDepth 16384

noncomputable section

namespace Cert.AttnRefIdeal.Steps

open Cert.AttnRefIdeal Cert.AttnRefIdeal.Gen Idealize.ShloMosaic Idealize.ShloMosaic.TcCoe Idealize.SL.Sem

variable {F : FTy → Type} [FloatOps F]

/-- The keys in the reference's order: 112 rows of padding, the 16 meta keys, the tokens. -/
def keys (k : FVec F S2x8x8192x128 .bf16) (km : FVec F S1x8x128x128 .bf16) : FVec F S2x8x8320x128 .f32 :=
  concatenate S2x8x8320x128 2 [⟨S2x8x112x128, ((broadcastInDim S2x8x112x128 ![] bcast_S_S2x8x112x128 (constant S_ .f32 0x00000000#32)) : (⟨S2x8x112x128, .f32⟩ : BufTy).Contents (Elt F))⟩,
    ⟨S2x8x16x128, ((broadcastInDim S2x8x16x128 ![0, 1, 2, 3] bcast_S1x8x16x128_S2x8x16x128_0_1_2_3 (extf .f32 (extractStridedSlice S1x8x16x128 ![0, 0, 0, 0] km slices_S1x8x128x128_S1x8x16x128_0_0_0_0) bitsLt_bf16_f32)) : (⟨S2x8x16x128, .f32⟩ : BufTy).Contents (Elt F))⟩,
    ⟨S2x8x8192x128, ((extf .f32 k bitsLt_bf16_f32) : (⟨S2x8x8192x128, .f32⟩ : BufTy).Contents (Elt F))⟩] concatenates_S2x8x112x128_S2x8x16x128_S2x8x8192x128_S2x8x8320x128_d2

/-- The values in the same order. -/
def vals (vt : FVec F S2x8x16x64x512 .bf16) (vm : FVec F S1x8x1x64x128 .bf16) : FVec F S2x8x8320x64 .f32 :=
  concatenate S2x8x8320x64 2 [⟨S2x8x112x64, ((broadcastInDim S2x8x112x64 ![] bcast_S_S2x8x112x64 (constant S_ .f32 0x00000000#32)) : (⟨S2x8x112x64, .f32⟩ : BufTy).Contents (Elt F))⟩,
    ⟨S2x8x16x64, ((broadcastInDim S2x8x16x64 ![0, 1, 2, 3] bcast_S1x8x16x64_S2x8x16x64_0_1_2_3 (extf .f32 (transpose S1x8x16x64 [0, 1, 3, 2] (shapeCast _ (extractStridedSlice S1x8x1x64x16 ![0, 0, 0, 0, 0] vm slices_S1x8x1x64x128_S1x8x1x64x16_0_0_0_0_0) shapeCasts_S1x8x1x64x16_S1x8x64x16) transposes_S1x8x64x16_S1x8x16x64_0_1_3_2) bitsLt_bf16_f32)) : (⟨S2x8x16x64, .f32⟩ : BufTy).Contents (Elt F))⟩,
    ⟨S2x8x8192x64, ((extf .f32 (shapeCast _ (transpose S2x8x16x512x64 [0, 1, 2, 4, 3] vt transposes_S2x8x16x64x512_S2x8x16x512x64_0_1_2_4_3) shapeCasts_S2x8x16x512x64_S2x8x8192x64) bitsLt_bf16_f32) : (⟨S2x8x8192x64, .f32⟩ : BufTy).Contents (Elt F))⟩] concatenates_S2x8x112x64_S2x8x16x64_S2x8x8192x64_S2x8x8320x64_d2

/-- Which keys a query attends to. -/
def mask : IVec S8192x8320 1 :=
  andi (cmpi .sle (broadcastInDim S8192x8320 ![0, 1] bcast_S1x8320_S8192x8320_0_1 (broadcastInDim S1x8320 ![1] bcast_S8320_S1x8320_1 (iotaInDim S8320 32 0))) (broadcastInDim S8192x8320 ![0, 1] bcast_S8192x1_S8192x8320_0_1 (broadcastInDim S8192x1 ![0] bcast_S8192_S8192x1_0 (addi (broadcastInDim S8192 ![] bcast_S_S8192 (constantI S_ 32 128#32)) (iotaInDim S8192 32 0)))))
    (broadcastInDim S8192x8320 ![0, 1] bcast_S1x8320_S8192x8320_0_1 (broadcastInDim S1x8320 ![1] bcast_S8320_S1x8320_1 (cmpi .sge (iotaInDim S8320 32 0) (broadcastInDim S8320 ![] bcast_S_S8320 (constantI S_ 32 112#32)))))

/-- The masked scores, of keys `kp`. -/
def scores (q : FVec F S2x8x8192x128 .bf16) (kp : FVec F S2x8x8320x128 .f32) : FVec F S2x8x8192x8320 .f32 :=
  select (broadcastInDim S2x8x8192x8320 ![0, 1, 2, 3] bcast_S1x1x8192x8320_S2x8x8192x8320_0_1_2_3 (broadcastInDim S1x1x8192x8320 ![2, 3] bcast_S8192x8320_S1x1x8192x8320_2_3 mask))
    (mulf (Host.dotGeneral dot_S2x8x8192x128_S2x8x8320x128_S2x8x8192x8320_3_3_2_2_01_01 none (extf .f32 q bitsLt_bf16_f32) kp) (broadcastInDim S2x8x8192x8320 ![] bcast_S_S2x8x8192x8320 (Host.log (constant S_ .f32 0x40000000#32))))
    (broadcastInDim S2x8x8192x8320 ![] bcast_S_S2x8x8192x8320 (id (constant S_ .f32 0xFF800000#32)))

/-- The greatest score of each query. -/
def top (s : FVec F S2x8x8192x8320 .f32) : FVec F S2x8x8192 .f32 :=
  maximumf (broadcastInDim S2x8x8192 ![] bcast_S_S2x8x8192 (constant S_ .f32 0xFF800000#32)) (Host.reduce FloatOps.maximumf s (constant S_ .f32 0xFF800000#32) reducesTo_S2x8x8192x8320_S2x8x8192_d3 h_S_)

/-- A number per query, for every key. -/
def spread (x : FVec F S2x8x8192 .f32) : FVec F S2x8x8192x8320 .f32 :=
  broadcastInDim S2x8x8192x8320 ![0, 1, 2, 3] bcast_S2x8x8192x1_S2x8x8192x8320_0_1_2_3 (broadcastInDim S2x8x8192x1 ![0, 1, 2] bcast_S2x8x8192_S2x8x8192x1_0_1_2 x)

/-- The exponentials. -/
def expo (s : FVec F S2x8x8192x8320 .f32) : FVec F S2x8x8192x8320 .f32 := Host.exp (subf s (spread (top s)))

/-- The sums of the exponentials. -/
def total (e : FVec F S2x8x8192x8320 .f32) : FVec F S2x8x8192 .f32 :=
  Host.reduceAdd e (constant S_ .f32 0x00000000#32) reducesTo_S2x8x8192x8320_S2x8x8192_d3 h_S_

/-- The weighted sums, laid out as the result. -/
def weigh (e : FVec F S2x8x8192x8320 .f32) (vp : FVec F S2x8x8320x64 .f32) : FVec F S2x512x8192 .bf16 :=
  truncf .bf16 (shapeCast _ (transpose S2x8x64x8192 [0, 1, 3, 2] (Host.dotGeneral dot_S2x8x8192x8320_S2x8x8320x64_S2x8x8192x64_3_2_2_3_01_01 none (Host.divf e (spread (total e))) vp) transposes_S2x8x8192x64_S2x8x64x8192_0_1_3_2) shapeCasts_S2x8x64x8192_S2x512x8192) bitsLt_bf16_f32

/-- The reference's result is these steps. -/
theorem res_eq (m : (ℓ : Loc nD τ sig) → Buf (Elt F) ℓ) (c : Dev nD) :
    Value.res_main_v51 m c = weigh (expo (scores (m ((c.tc : Thread nD τ).loc main_arg0)) (keys (m ((c.tc : Thread nD τ).loc main_arg1)) (m ((c.tc : Thread nD τ).loc main_arg3)))))
      (vals (m ((c.tc : Thread nD τ).loc main_arg2)) (m ((c.tc : Thread nD τ).loc main_arg4))) := by
  unfold Value.res_main_v51 weigh expo scores keys vals total spread top mask
  rfl

/-- A maximum over the last of four axes, at sizes left open. -/
theorem reduceMax_apply {A B C D : ℕ} (x : FVec Ideal ⟨4, ![A, B, C, D]⟩ .f32) (init : FVec Ideal S_ .f32)
    (h' : Shape.ReducesTo ⟨4, ![A, B, C, D]⟩ [3] ⟨3, ![A, B, C]⟩) (h : Shape.Reduces ⟨4, ![A, B, C, D]⟩ [3] ⟨3, ![A, B, C]⟩) (hu : 0 < S_.numel)
    (a : Fin A) (b : Fin B) (c : Fin C) :
    Host.reduce (FloatOps.maximumf (F := Ideal) (φ := .f32)) x init h' hu (ix3 a b c)
      = (Finset.univ : Finset (Fin D)).fold max (init (Shape.Idx.first hu)) fun n => x (ix4 a b c n) := by
  rw [Host.reduce_eq_fold_single _ x init h' h hu]
  have e : ∀ n : Fin D, h.lift (ix3 a b c) n = ix4 a b c n := fun n => by
    funext e
    apply Fin.ext
    refine (Shape.Reduces.lift_val h (ix3 a b c) n e).trans ?_
    fin_cases e <;> rfl
  exact congrArg (fun f => Finset.fold max (init (Shape.Idx.first hu)) f Finset.univ) (funext fun n => congrArg x (e n))

/-- The word of minus infinity. -/
theorem ofBits_neg_inf : Ideal.ofBits .f32 4286578688#32 = ⊥ := by
  simp [Ideal.ofBits, Ideal.ieee]

/-- A maximum over the last of four axes, met with one more number, at sizes left open. -/
theorem topOpen {A B C D : ℕ} (bc : S_.BroadcastsInDim ⟨3, ![A, B, C]⟩ ![]) (x : FVec Ideal ⟨4, ![A, B, C, D]⟩ .f32) (init : FVec Ideal S_ .f32)
    (h' : Shape.ReducesTo ⟨4, ![A, B, C, D]⟩ [3] ⟨3, ![A, B, C]⟩) (h : Shape.Reduces ⟨4, ![A, B, C, D]⟩ [3] ⟨3, ![A, B, C]⟩) (hu : 0 < S_.numel)
    (a : Fin A) (b : Fin B) (c : Fin C) :
    maximumf (broadcastInDim ⟨3, ![A, B, C]⟩ ![] bc init) (Host.reduce (FloatOps.maximumf (F := Ideal) (φ := .f32)) x init h' hu) (ix3 a b c)
      = max (broadcastInDim ⟨3, ![A, B, C]⟩ ![] bc init (ix3 a b c)) ((Finset.univ : Finset (Fin D)).fold max (init (Shape.Idx.first hu)) fun n => x (ix4 a b c n)) := by
  rw [← reduceMax_apply x init h' h hu]
  rfl

/-- The greatest score at an index. -/
theorem top_apply (s : FVec Ideal S2x8x8192x8320 .f32) (b : Fin 2) (h : Fin 8) (p : Fin 8192) :
    top s (ix3 b h p) = Finset.univ.sup fun n : Fin 8320 => s (ix4 b h p n) := by
  have e := topOpen bcast_S_S2x8x8192 s (constant S_ .f32 0xFF800000#32) reducesTo_S2x8x8192x8320_S2x8x8192_d3 (by decide) h_S_ b h p
  have e3 : (constant S_ .f32 0xFF800000#32 : FVec Ideal S_ .f32) (Shape.Idx.first h_S_) = ⊥ := ofBits_neg_inf
  have e4 : broadcastInDim S2x8x8192 ![] bcast_S_S2x8x8192 (constant S_ .f32 0xFF800000#32 : FVec Ideal S_ .f32) (ix3 b h p) = ⊥ := ofBits_neg_inf
  unfold top
  refine e.trans ?_
  rw [e3, e4, Cert.Softmax.fold_max_bot]
  exact max_eq_right bot_le

set_option maxHeartbeats 1600000 in
/-- A key at an index. -/
theorem keys_apply (k : FVec Ideal S2x8x8192x128 .bf16) (km : FVec Ideal S1x8x128x128 .bf16) (b : Fin 2) (h : Fin 8) (n : Fin 8320) (d : Fin 128) :
    keys k km (ix4 b h n d) = if h1 : n.val < 112 then (0 : EReal) else if h2 : n.val < 128 then km (ix4 0 h ⟨n.val - 112, by omega⟩ d)
      else k (ix4 b h ⟨n.val - 128, by omega⟩ d) := by
  pointwise [keys]
  split
  · rfl
  · split
    · rw [dif_pos (by omega)]
    · rw [dif_neg (by omega)]
      have e : (⟨n.val - 112 - 16, by omega⟩ : Fin 8192) = ⟨n.val - 128, by omega⟩ := Fin.ext (by dsimp only; omega)
      rw [e]

set_option maxHeartbeats 1600000 in
/-- A value at an index. -/
theorem vals_apply (vt : FVec Ideal S2x8x16x64x512 .bf16) (vm : FVec Ideal S1x8x1x64x128 .bf16) (b : Fin 2) (h : Fin 8) (n : Fin 8320) (d : Fin 64) :
    vals vt vm (ix4 b h n d) = if h1 : n.val < 112 then (0 : EReal) else if h2 : n.val < 128 then vm (ix5 0 h 0 d ⟨n.val - 112, by omega⟩)
      else vt (ix5 b h ⟨(n.val - 128) / 512, by omega⟩ d ⟨(n.val - 128) % 512, by omega⟩) := by
  pointwise [vals]
  split
  · rfl
  · split
    · rw [dif_pos (by omega)]
    · rw [dif_neg (by omega)]
      have e : (⟨(n.val - 112 - 16) / 512, by omega⟩ : Fin 16) = ⟨(n.val - 128) / 512, by omega⟩ := Fin.ext (by dsimp only; omega)
      have e' : (⟨(n.val - 112 - 16) % 512, by omega⟩ : Fin 512) = ⟨(n.val - 128) % 512, by omega⟩ := Fin.ext (by dsimp only; omega)
      rw [e, e']

/-- The mask word, decided. -/
theorem select_mask (n : Fin 8320) (p : Fin 8192) (x y : EReal) :
    Scalar.select (IntOp.andi (IntOp.cmpi CmpIPredicate.sle (BitVec.ofNat 32 n.val) (IntOp.addi (128#32) (BitVec.ofNat 32 p.val)))
        (IntOp.cmpi CmpIPredicate.sge (BitVec.ofNat 32 n.val) 112#32)) x y = if 112 ≤ n.val ∧ n.val ≤ 128 + p.val then x else y := by
  have e : IntOp.addi (128#32) (BitVec.ofNat 32 p.val) = BitVec.ofNat 32 (128 + p.val) := by
    unfold IntOp.addi; exact (BitVec.ofNat_add _ _).symm
  rw [e, WordCmp.cmpi_sle_ofNat (by omega) (by omega), WordCmp.cmpi_sge_ofNat (by omega) (by omega)]
  by_cases h1 : n.val ≤ 128 + p.val <;> by_cases h2 : 112 ≤ n.val <;> simp [h1, h2, Scalar.select, IntOp.andi]

/-- The logarithm of two. -/
theorem log_two : Ideal.log (Ideal.ofBits .f32 1073741824#32) = ((Real.log 2 : ℝ) : EReal) := by
  have e : Ideal.ofBits .f32 1073741824#32 = ((2 : ℝ) : EReal) := by simp [Ideal.ofBits, Ideal.ieee, -EReal.coe_mul]; norm_num
  rw [e]
  show (if (2 : ℝ) ≤ 0 then (⊥ : EReal) else ((Real.log 2 : ℝ) : EReal)) = _
  rw [if_neg (by norm_num)]

set_option maxHeartbeats 1600000 in
/-- A score at an index. -/
theorem scores_apply (q : FVec Ideal S2x8x8192x128 .bf16) (kp : FVec Ideal S2x8x8320x128 .f32) (b : Fin 2) (h : Fin 8) (p : Fin 8192) (n : Fin 8320) :
    scores q kp (ix4 b h p n) = if 112 ≤ n.val ∧ n.val ≤ 128 + p.val then
      (∑ d : Fin 128, q (ix4 b h p d) * kp (ix4 b h n d)) * ((Real.log 2 : ℝ) : EReal) else (⊥ : EReal) := by
  pointwise [scores, mask]
  rw [select_mask, log_two]
  refine if_congr Iff.rfl rfl ?_
  show Ideal.ofBits .f32 4286578688#32 = ⊥
  simp [Ideal.ofBits, Ideal.ieee]

set_option maxHeartbeats 1600000 in
/-- An exponential at an index. -/
theorem expo_apply (s : FVec Ideal S2x8x8192x8320 .f32) (b : Fin 2) (h : Fin 8) (p : Fin 8192) (n : Fin 8320) :
    expo s (ix4 b h p n) = Ideal.exp (s (ix4 b h p n) - top s (ix3 b h p)) := by
  pointwise [expo, spread]

set_option maxHeartbeats 1600000 in
/-- A sum of exponentials. -/
theorem total_apply (e : FVec Ideal S2x8x8192x8320 .f32) (b : Fin 2) (h : Fin 8) (p : Fin 8192) :
    total e (ix3 b h p) = ∑ n : Fin 8320, e (ix4 b h p n) := by
  pointwise [total]

set_option maxHeartbeats 1600000 in
/-- The result at an index. -/
theorem weigh_apply (e : FVec Ideal S2x8x8192x8320 .f32) (vp : FVec Ideal S2x8x8320x64 .f32) (b : Fin 2) (r : Fin 512) (p : Fin 8192) :
    weigh e vp (ix3 b r p) = ∑ n : Fin 8320, Ideal.div (e (ix4 b ⟨r.val / 64, by omega⟩ p n)) (total e (ix3 b ⟨r.val / 64, by omega⟩ p))
      * vp (ix4 b ⟨r.val / 64, by omega⟩ n ⟨r.val % 64, by omega⟩) := by
  pointwise [weigh, spread]

end Cert.AttnRefIdeal.Steps

end
-- ==== Proof.AttnRefValue.lean ====
/- The reference computes the attention: its scores are the natural-logarithm scores over the same keys in another
   order, the 112 rows of padding among the masked ones. -/
module

public import proofs.«01_k».proof.Proof.AttnRef

@[expose] public section

set_option maxRecDepth 16384

noncomputable section

namespace Cert.AttnRefIdeal.Steps

open Cert.AttnRefIdeal Cert.AttnRefIdeal.Gen Idealize.ShloMosaic Idealize.ShloMosaic.TcCoe Idealize.SL.Sem
open Cert.AttnSpec (score value attend)

/-- Where the reference's key `n` stands in the order of the specification. -/
def pos (n : ℕ) : ℕ := if n < 112 then n + 16 else if n < 128 then n - 112 else n

/-- And back. -/
def unpos (n : ℕ) : ℕ := if n < 16 then n + 112 else if n < 128 then n - 16 else n

theorem pos_mem (n : ℕ) (hn : n ∈ Finset.range 8320) : pos n ∈ Finset.range 8320 := by
  rw [Finset.mem_range] at *; unfold pos; split <;> [omega; (split <;> omega)]

theorem unpos_mem (n : ℕ) (hn : n ∈ Finset.range 8320) : unpos n ∈ Finset.range 8320 := by
  rw [Finset.mem_range] at *; unfold unpos; split <;> [omega; (split <;> omega)]

theorem unpos_pos (n : ℕ) : unpos (pos n) = n := by
  unfold pos unpos
  by_cases h1 : n < 112
  · rw [if_pos h1, if_neg (by omega), if_pos (by omega)]; omega
  · by_cases h2 : n < 128
    · rw [if_neg h1, if_pos h2, if_pos (by omega)]; omega
    · rw [if_neg h1, if_neg h2, if_neg (by omega), if_neg h2]

theorem pos_unpos (n : ℕ) : pos (unpos n) = n := by
  unfold pos unpos
  by_cases h1 : n < 16
  · rw [if_pos h1, if_neg (by omega), if_pos (by omega)]; omega
  · by_cases h2 : n < 128
    · rw [if_neg h1, if_pos h2, if_pos (by omega)]; omega
    · rw [if_neg h1, if_neg h2, if_neg (by omega), if_neg h2]

/-- A sum over all keys, in either order. -/
theorem sum_pos (f : ℕ → EReal) : ∑ n ∈ Finset.range 8320, f (pos n) = ∑ n ∈ Finset.range 8320, f n :=
  Finset.sum_nbij' pos unpos pos_mem unpos_mem (fun n _ => unpos_pos n) (fun n _ => pos_unpos n) fun _ _ => rfl

/-- A maximum over all keys, in either order. -/
theorem sup_pos (f : ℕ → EReal) : (Finset.range 8320).sup (fun n => f (pos n)) = (Finset.range 8320).sup f := by
  refine le_antisymm (Finset.sup_le fun n hn => Finset.le_sup (f := f) (pos_mem n hn)) (Finset.sup_le fun n hn => ?_)
  have h := Finset.le_sup (f := fun n => f (pos n)) (unpos_mem n hn)
  simpa only [pos_unpos] using h

variable (q k : FVec Ideal S2x8x8192x128 .bf16) (vt : FVec Ideal S2x8x16x64x512 .bf16) (km : FVec Ideal S1x8x128x128 .bf16)
  (vm : FVec Ideal S1x8x1x64x128 .bf16)

/-- The reference's scores. -/
theorem scores_eq (b : Fin 2) (h : Fin 8) (p : Fin 8192) (n : Fin 8320) :
    scores q (keys k km) (ix4 b h p n) = score q k km b h p (pos n.val) * ((Real.log 2 : ℝ) : EReal) := by
  have hlog : (0 : ℝ) < Real.log 2 := Real.log_pos (by norm_num)
  have hbot : (⊥ : EReal) * ((Real.log 2 : ℝ) : EReal) = ⊥ := EReal.bot_mul_coe_of_pos hlog
  rw [scores_apply]
  unfold score pos
  by_cases h1 : n.val < 112
  · rw [if_neg (by omega), if_pos h1, dif_neg (by omega), dif_neg (by omega), hbot]
  · by_cases h2 : n.val < 128
    · rw [if_pos (by omega), if_neg h1, if_pos h2, dif_pos (by omega)]
      refine congrArg (· * _) (Finset.sum_congr rfl fun d _ => ?_)
      rw [keys_apply, dif_neg h1, dif_pos h2, mul_comm]
    · rw [if_neg h1, if_neg h2, dif_neg (by omega)]
      by_cases h3 : n.val ≤ 128 + p.val
      · rw [if_pos ⟨by omega, h3⟩, dif_pos ⟨by omega, by omega⟩]
        refine congrArg (· * _) (Finset.sum_congr rfl fun d _ => ?_)
        rw [keys_apply, dif_neg h1, dif_neg h2, mul_comm]
      · rw [if_neg (by omega), dif_neg (by omega), hbot]

/-- The reference's greatest score. -/
theorem top_eq (b : Fin 2) (h : Fin 8) (p : Fin 8192) :
    top (scores q (keys k km)) (ix3 b h p) = Cert.AttnSpec.top (score q k km b h p) * ((Real.log 2 : ℝ) : EReal) := by
  rw [top_apply]
  simp only [scores_eq]
  rw [Cert.Softmax.sup_univ_eq_range 8320 fun n => score q k km b h p (pos n) * ((Real.log 2 : ℝ) : EReal),
    Cert.Softmax.sup_mul_log_two _ _ ⟨0, by simp⟩, sup_pos (score q k km b h p)]
  rfl

variable (b : Fin 2) (h : Fin 8) (p : Fin 8192) (hs : Cert.Softmax.Scores (score q k km b h p))
include hs

/-- The reference's exponentials. -/
theorem expo_eq (n : Fin 8320) : expo (scores q (keys k km)) (ix4 b h p n)
    = Ideal.exp2 (score q k km b h p (pos n.val) - Cert.AttnSpec.top (score q k km b h p)) := by
  obtain ⟨a, ha⟩ := hs.sup_real (show 0 < 8320 by norm_num)
  have ha' : Cert.AttnSpec.top (score q k km b h p) = a := ha
  rw [expo_apply, scores_eq, top_eq, ha', Cert.Softmax.sub_mul_log_two, Cert.Softmax.exp_mul_log_two]

/-- The reference's sums of exponentials. -/
theorem total_eq : total (expo (scores q (keys k km))) (ix3 b h p) = Cert.AttnSpec.total (score q k km b h p) := by
  rw [total_apply]
  simp only [expo_eq q k km b h p hs]
  rw [← Finset.sum_range fun n => Ideal.exp2 (score q k km b h p (pos n) - Cert.AttnSpec.top (score q k km b h p)),
    sum_pos fun n => Ideal.exp2 (score q k km b h p n - Cert.AttnSpec.top (score q k km b h p))]
  rfl

omit hs in
/-- A masked key has no weight. -/
theorem weight_padding (hs : Cert.Softmax.Scores (score q k km b h p)) (n : ℕ) (hn : score q k km b h p n = ⊥) (x : EReal) :
    Ideal.div (Ideal.exp2 (score q k km b h p n - Cert.AttnSpec.top (score q k km b h p))) (Cert.AttnSpec.total (score q k km b h p)) * x = 0 := by
  have S : Cert.Softmax.Soft (score q k km b h p) (fun _ (_ : Unit) => 0) 8320 (Cert.AttnSpec.top (score q k km b h p))
      (Cert.AttnSpec.total (score q k km b h p)) (fun _ => ∑ n ∈ Finset.range 8320, Ideal.exp2 (score q k km b h p n - Cert.AttnSpec.top (score q k km b h p)) * 0) :=
    ⟨rfl, rfl, fun _ => rfl⟩
  obtain ⟨r, hr, hl⟩ := S.sum_pos hs (by norm_num)
  have hne : Cert.AttnSpec.total (score q k km b h p) ≠ 0 := by rw [hl]; exact_mod_cast hr.ne'
  have h0 : Ideal.exp2 (⊥ - Cert.AttnSpec.top (score q k km b h p)) = 0 := by simp
  rw [hn, h0]
  unfold Ideal.div
  rw [if_neg hne, zero_mul, zero_mul]

omit hs in
/-- THE REFERENCE'S RESULT is the attention. -/
theorem weigh_eq (r : Fin 512) (hs : Cert.Softmax.Scores (score q k km b ⟨r.val / 64, by omega⟩ p)) :
    weigh (expo (scores q (keys k km))) (vals vt vm) (ix3 b r p)
      = Cert.AttnSpec.out q k vt km vm b ⟨r.val / 64, by omega⟩ p ⟨r.val % 64, by omega⟩ := by
  rw [weigh_apply]
  generalize (⟨r.val / 64, by omega⟩ : Fin 8) = h at *
  generalize (⟨r.val % 64, by omega⟩ : Fin 64) = d
  rw [total_eq q k km b h p hs]
  unfold Cert.AttnSpec.out attend
  rw [← sum_pos fun n => Ideal.div (Ideal.exp2 (score q k km b h p n - Cert.AttnSpec.top (score q k km b h p))) (Cert.AttnSpec.total (score q k km b h p))
    * value vt vm b h n d, Finset.sum_range]
  refine Finset.sum_congr rfl fun n _ => ?_
  rw [expo_eq q k km b h p hs]
  by_cases h1 : n.val < 112
  · have hb : score q k km b h p (pos n.val) = ⊥ := by
      unfold score pos
      rw [if_pos h1, dif_neg (by omega), dif_neg (by omega)]
    rw [weight_padding q k km b h p hs _ hb, weight_padding q k km b h p hs _ hb]
  · refine congrArg₂ (· * ·) rfl ?_
    rw [vals_apply, dif_neg h1]
    unfold value pos
    rw [if_neg h1]
    by_cases h2 : n.val < 128
    · rw [dif_pos h2, if_pos h2, dif_pos (by omega)]
    · rw [dif_neg h2, if_neg h2, dif_neg h2, dif_pos (by omega)]

end Cert.AttnRefIdeal.Steps

end
-- ==== Proof.AttnPre.lean ====
/- The precondition of the attention's claim, read back: every query and every key is a real number, and so is every
   meta key among the sixteen that are in use. -/
module

public import proofs.«01_k».proof.Proof.AttnSpec
public import proofs.«01_k».proof.Pre_finite
public import Idealize.ShloMosaic.Lib.ReduceAll
public import Idealize.ShloMosaic.Lib.Pointwise

@[expose] public section

set_option maxRecDepth 16384

noncomputable section

namespace Cert.AttnPre

open Cert.Pre_finite Idealize.ShloMosaic Cert.AttnSpec

/-- The shape relations the predicate states. -/
theorem facts : Cert.Pre_finite.Facts where
  bitsLt_bf16_f32 := by decide
  bcast_S_S2x8x8192x128 := by decide
  reducesTo_S2x8x8192x128_S_d0_1_2_3 := by decide
  h_S_ := by decide
  slices_S1x8x128x128_S1x8x16x128_0_0_0_0 := by decide
  bcast_S_S1x8x16x128 := by decide
  reducesTo_S1x8x16x128_S_d0_1_2_3 := by decide

/-- An extended real whose absolute value is below `+∞` is a real number. -/
theorem fin_of_olt (x : EReal)
    (h : FloatOps.cmpf (F := Ideal) (φ := .f32) .olt (FloatOps.hostAbsf (F := Ideal) (φ := .f32) x) (FloatOps.ofBits (F := Ideal) .f32 0x7F800000#32) = 1#1) :
    Fin' x := by
  have htop : Ideal.ofBits .f32 0x7F800000#32 = ⊤ := by simp [Ideal.ofBits, Ideal.ieee]
  have h' : Ideal.cmp .olt (max x (-x)) (Ideal.ofBits .f32 0x7F800000#32) = 1#1 := h
  rw [htop] at h'
  unfold Ideal.cmp at h'
  constructor
  · rintro rfl; simp at h'
  · rintro rfl; simp at h'

/-- Two words of one bit whose conjunction is 1 are 1. -/
theorem and_one (a b : BitVec 1) (h : IntOp.andi a b = 1#1) : a = 1#1 ∧ b = 1#1 := by
  revert a b; decide

/-- The slice of the meta keys in use, at an index. -/
theorem slice_apply (km : FVec Ideal S1x8x128x128 .bf16) (hs : S1x8x128x128.Slices ![0, 0, 0, 0] S1x8x16x128) (hb : FTy.bits .bf16 < FTy.bits .f32)
    (a : Fin 8) (n : Fin 16) (d : Fin 128) :
    extf (F := Ideal) .f32 (extractStridedSlice S1x8x16x128 ![0, 0, 0, 0] km hs) hb (ix4 0 a n d) = km (ix4 0 a ⟨n.val, by omega⟩ d) := by
  pointwise []

/-- The precondition says that the queries, the keys and the meta keys in use are real numbers. -/
theorem fin_of_pre [Cert.Pre_finite.Facts] (q k : FVec Ideal S2x8x8192x128 .bf16) (vt : FVec Ideal S2x8x16x64x512 .bf16)
    (km : FVec Ideal S1x8x128x128 .bf16) (vm : FVec Ideal S1x8x1x64x128 .bf16) (h : Cert.Pre_finite.fn (F := Ideal) q k vt km vm = fun _ => 1#1) :
    (∀ i, Fin' (q i)) ∧ (∀ i, Fin' (k i)) ∧ ∀ (a : Fin 8) (n : Fin 16) (d : Fin 128), Fin' (km (ix4 0 a ⟨n.val, by omega⟩ d)) := by
  have e := congrFun h (fun d => d.elim0)
  obtain ⟨e1, e3⟩ := and_one _ _ e
  obtain ⟨e1, e2⟩ := and_one _ _ e1
  haveI : Subsingleton S_.Idx := ⟨fun a b => funext fun d => d.elim0⟩
  refine ⟨fun i => fin_of_olt _ (Host.reduce_andi_all _ _ _ _ _ e1 i), fun i => fin_of_olt _ (Host.reduce_andi_all _ _ _ _ _ e2 i), fun a n d => ?_⟩
  have e4 := fin_of_olt _ (Host.reduce_andi_all _ _ _ _ _ e3 (ix4 0 a n d))
  exact (slice_apply km _ _ a n d) ▸ e4

end Cert.AttnPre

end
-- ==== Proof.AttnFinal.lean ====
/- The attention's claim: at the ideal instance, the kernel's result array and the reference's are the same. -/
module

public import proofs.«01_k».proof.Proof.AttnArray
public import proofs.«01_k».proof.Proof.AttnRefValue
public import proofs.«01_k».proof.Proof.AttnPre
public import proofs.«01_k».proof.Defs

@[expose] public section

set_option maxRecDepth 16384

noncomputable section

namespace Cert.AttnFinal

open Idealize.ShloMosaic Idealize.ShloMosaic.TcCoe Idealize.SL.Sem

/-- The constant the kernel gives to a masked score stands for minus infinity. -/
theorem preserves : Cert.preserves_Attn_AttnIdeal :=
  IdealRules.named_const.statement Cert.AttnIdeal.κ "mask" .f32 0xF149F2CA#32 ⊥ rfl

/-- Under the precondition every row of scores is a row of `Softmax.Scores`. -/
theorem allScores [Cert.Pre_finite.Facts] (m : (ℓ : Loc Cert.AttnIdeal.nD Cert.AttnIdeal.τ Cert.AttnIdeal.sig) → Buf (Elt Ideal) ℓ)
    (hpre : Cert.Pre_AttnIdeal_finite m) (c : Dev Cert.AttnIdeal.nD) : Cert.AttnIdeal.Array.AllScores m c := by
  obtain ⟨hq, hk, hm⟩ := Cert.AttnPre.fin_of_pre _ _ _ _ _ (hpre c)
  exact fun b h p => Cert.AttnSpec.scores _ _ _ hq hk hm b h p

/-- The reference's result, of equal arguments, is the kernel's array. -/
theorem result_eq (m : (ℓ : Loc Cert.AttnIdeal.nD Cert.AttnIdeal.τ Cert.AttnIdeal.sig) → Buf (Elt Ideal) ℓ)
    (c : Dev Cert.AttnIdeal.nD) (hs : Cert.AttnIdeal.Array.AllScores m c) :
    Cert.AttnRefIdeal.Steps.weigh (F := Ideal) (Cert.AttnRefIdeal.Steps.expo (Cert.AttnRefIdeal.Steps.scores (m (c, Cert.AttnIdeal.main_arg0))
        (Cert.AttnRefIdeal.Steps.keys (m (c, Cert.AttnIdeal.main_arg1)) (m (c, Cert.AttnIdeal.main_arg3)))))
      (Cert.AttnRefIdeal.Steps.vals (m (c, Cert.AttnIdeal.main_arg2)) (m (c, Cert.AttnIdeal.main_arg4)))
      = Cert.AttnIdeal.Array.result m c := by
  funext i
  have hi : i = ix3 (i 0) (i 1) (i 2) := by
    funext a; fin_cases a <;> rfl
  refine (congrArg _ hi).trans ((Cert.AttnRefIdeal.Steps.weigh_eq (m (c, Cert.AttnIdeal.main_arg0)) (m (c, Cert.AttnIdeal.main_arg1))
    (m (c, Cert.AttnIdeal.main_arg2)) (m (c, Cert.AttnIdeal.main_arg3)) (m (c, Cert.AttnIdeal.main_arg4)) (i 0) (i 2) (i 1) (hs _ _ _)).trans ?_)
  rfl

set_option maxHeartbeats 1600000 in
/-- THE ATTENTION'S CLAIM. -/
theorem algebraic [Cert.Pre_finite.Facts] : Cert.algebraic_AttnIdeal_AttnRefIdeal_pre_finite := by
  pair_intro
  · run_from Cert.AttnIdeal.Value.run_blocks m g
  · run_from Cert.AttnRefIdeal.Value.run m' g'
    refine (Cert.AttnRefIdeal.Steps.res_eq m' c).trans ?_
    obtain ⟨e0, e1, e2, e3, e4⟩ := hagree c
    rw [e0, e1, e2, e3, e4]
    exact (result_eq m c (allScores m hpre c)).trans (Cert.AttnIdeal.Array.final m c (allScores m hpre c)).symm

end Cert.AttnFinal

end
-- ==== Proof.MoeSpec.lean ====
/- The mathematics of the mixture of experts: each expert is a gated unit, its hidden activations weighted by the token's
   combination weight; the experts' sum joins the residual stream, which is then normalised. -/
module

public import Idealize.ShloMosaic.Lib.Pointwise
public import Idealize.ShloMosaic.Lib.Pipeline.ValueKit

@[expose] public section

set_option maxRecDepth 16384

noncomputable section

namespace Cert.MoeSpec

open Idealize.ShloMosaic

/-- The tokens. -/
abbrev TOK : Type := FVec Ideal ⟨2, ![16384, 1024]⟩ .bf16
/-- The combination weights, 32 of the 128 lanes in use. -/
abbrev COMB : Type := FVec Ideal ⟨2, ![16384, 128]⟩ .f32
/-- The residual stream. -/
abbrev RES : Type := FVec Ideal ⟨2, ![16384, 1024]⟩ .f32
/-- Gate or up weights, four groups of eight experts. -/
abbrev WIDE : Type := FVec Ideal ⟨5, ![1, 4, 8, 1024, 256]⟩ .f32
/-- Down weights. -/
abbrev TALL : Type := FVec Ideal ⟨5, ![1, 4, 8, 256, 1024]⟩ .f32
/-- The gains of the norm. -/
abbrev GAIN : Type := FVec Ideal ⟨1, ![1024]⟩ .f32

/-- A token's product with one column of expert `e`'s weights. -/
def proj (x : TOK) (w : WIDE) (p : Fin 16384) (e : Fin 32) (f : Fin 256) : EReal :=
  ∑ k : Fin 1024, x (ix2 p k) * w (ix5 0 ⟨e.val / 8, by omega⟩ ⟨e.val % 8, by omega⟩ k f)

/-- A token's hidden activation: the gate through the sigmoid unit, times the up product, times the combination weight. -/
def hidden (x : TOK) (cb : COMB) (wg wu : WIDE) (p : Fin 16384) (e : Fin 32) (f : Fin 256) : EReal :=
  ((proj x wg p e f * Ideal.logistic (proj x wg p e f)) * proj x wu p e f) * cb (ix2 p ⟨e.val, by omega⟩)

/-- Expert `e`'s contribution to feature `d` of a token. -/
def expert (x : TOK) (cb : COMB) (wg wu : WIDE) (wd : TALL) (p : Fin 16384) (e : Fin 32) (d : Fin 1024) : EReal :=
  ∑ f : Fin 256, hidden x cb wg wu p e f * wd (ix5 0 ⟨e.val / 8, by omega⟩ ⟨e.val % 8, by omega⟩ f d)

/-- The residual stream after the experts. -/
def stream (x : TOK) (cb : COMB) (h : RES) (wg wu : WIDE) (wd : TALL) (p : Fin 16384) (d : Fin 1024) : EReal :=
  h (ix2 p d) + ∑ e : Fin 32, expert x cb wg wu wd p e d

/-- A row divided by its root mean square (its mean of squares a little above zero), with a gain. -/
def rms (s : Fin 1024 → EReal) (g : EReal) (d : Fin 1024) : EReal :=
  s d * Ideal.rsqrt (Ideal.div (∑ k : Fin 1024, s k * s k) (Ideal.ofBits FTy.f32 0x44800000#32) + Ideal.ofBits FTy.f32 0x358637BD#32) * g

/-- The layer's result. -/
def out (x : TOK) (cb : COMB) (h : RES) (wg wu : WIDE) (wd : TALL) (fn : GAIN) (p : Fin 16384) (d : Fin 1024) : EReal :=
  rms (stream x cb h wg wu wd p) (fn (ix1 d)) d

end Cert.MoeSpec

end
-- ==== Proof.MoeBlock.lean ====
/- What one point of the expert kernel computes, entry by entry: the accumulator gains one expert's contribution, and
   the last point normalises the residual stream plus the accumulator. -/
module

public import proofs.«01_k».proof.Proof.Gen.MoeIdeal.Value
public import proofs.«01_k».proof.Proof.MoeSpec
public import Idealize.ShloMosaic.Lib.Pointwise
public import Idealize.ShloMosaic.Lib.Pipeline.ValueKit

@[expose] public section

set_option maxRecDepth 16384

noncomputable section

namespace Cert.MoeIdeal.Block

open Cert.MoeIdeal Cert.MoeIdeal.Gen
open Idealize.ShloMosaic Idealize.ShloMosaic.TcCoe Idealize.SL.Sem

/-- The reset stores zero. -/
theorem zero_apply (r d : Fin 1024) : k0_pay3 (F := Ideal) (ix2 r d) = (0 : EReal) := by
  pointwise [k0_pay3]

/-- The accumulator is stored as it is. -/
theorem store_apply (x : FVec Ideal S1024x1024 .f32) (r d : Fin 1024) : k0_pay1 (F := Ideal) x (ix2 r d) = x (ix2 r d) := by
  pointwise [k0_pay1]

/-- Of the 128 lanes, only the expert's own is taken. -/
theorem lane_sum (e : Fin 32) (n : ℕ) (hn : n = e.val) (v : Fin 128 → EReal) :
    ∑ l : Fin 128, Scalar.select (IntOp.cmpi .eq (BitVec.ofNat 32 l.val) (BitVec.ofNat 32 n)) (v l) 0 = v ⟨e.val, by omega⟩ := by
  subst hn
  rw [Finset.sum_eq_single (⟨e.val, by omega⟩ : Fin 128)]
  · simp [Scalar.select, IntOp.cmpi]
  · intro l _ hl
    have h1 : l.val ≠ e.val := fun h => hl (Fin.ext h)
    have h2 : ¬ (BitVec.ofNat 32 l.val = BitVec.ofNat 32 e.val) := fun h => h1 (by
      have := congrArg BitVec.toNat h
      rw [BitVec.toNat_ofNat, BitVec.toNat_ofNat, Nat.mod_eq_of_lt (by omega), Nat.mod_eq_of_lt (by omega)] at this
      exact this)
    have h3 : (BitVec.ofNat 32 l.val == BitVec.ofNat 32 e.val) = false := beq_eq_false_iff_ne.mpr h2
    simp [Scalar.select, IntOp.cmpi, h3]
  · intro h; exact absurd (Finset.mem_univ _) h

/-- One expert's contribution to a block of tokens, from the block's windows. -/
def part (e : Fin 32) (x : FVec Ideal S1024x1024 .bf16) (wg wu : FVec Ideal S1x1024x256 .f32) (cb : FVec Ideal S1024x128 .f32)
    (wd : FVec Ideal S1x256x1024 .f32) (r d : Fin 1024) : EReal :=
  ∑ f : Fin 256, ((((∑ k : Fin 1024, x (ix2 r k) * wg (ix3 0 k f)) * Ideal.logistic (∑ k : Fin 1024, x (ix2 r k) * wg (ix3 0 k f)))
    * ∑ k : Fin 1024, x (ix2 r k) * wu (ix3 0 k f)) * cb (ix2 r ⟨e.val, by omega⟩)) * wd (ix3 0 f d)

set_option maxHeartbeats 1600000 in
/-- One step adds the expert's contribution to the accumulator. -/
theorem step_apply (i : grid0.Coords) (e : Fin 32) (hi : (i 1).val = e.val) (x : FVec Ideal S1024x1024 .bf16) (wg wu : FVec Ideal S1x1024x256 .f32)
    (cb : FVec Ideal S1024x128 .f32) (acc : FVec Ideal S1024x1024 .f32) (wd : FVec Ideal S1x256x1024 .f32) (r d : Fin 1024) :
    k0_pay4 (F := Ideal) i x wg wu cb acc wd (ix2 r d) = (acc (ix2 r d) + part e x wg wu cb wd r d : EReal) := by
  pointwise [k0_pay4]
  unfold part
  simp only [lane_sum e _ hi fun l => cb (ix2 r l)]

set_option maxHeartbeats 1600000 in
/-- The end: the residual stream plus the accumulator, normalised. -/
theorem end_apply (h acc : FVec Ideal S1024x1024 .f32) (fn : FVec Ideal S1x1024 .f32) (r d : Fin 1024) :
    k0_pay2 (F := Ideal) h acc fn (ix2 r d) = Cert.MoeSpec.rms (fun k => (h (ix2 r k) + acc (ix2 r k) : EReal)) (fn (ix2 0 d)) d := by
  pointwise [k0_pay2]
  rfl

set_option maxHeartbeats 1600000 in
/-- At the first expert the accumulator starts from zero. -/
theorem acc_first (m : (ℓ : Loc nD τ sig) → Buf (Elt Ideal) ℓ) (c : Dev nD) (t : Fin cfg0.N) (h0 : t.val % 32 = 0) :
    (outsAt0 m c t.val t.isLt).2 = k0_pay1 (k0_pay4 (grid0.coords t) (iblk m c 0 t) (iblk m c 3 t) (iblk m c 4 t) (iblk m c 1 t) (k0_pay3 (F := Ideal)) (iblk m c 5 t)) := by
  rw [outsAt0_A m c t h0 (by omega)]
  frame_out

set_option maxHeartbeats 1600000 in
/-- At a later expert it goes on from what the point before left. -/
theorem acc_next (m : (ℓ : Loc nD τ sig) → Buf (Elt Ideal) ℓ) (c : Dev nD) (t : Fin cfg0.N) (h0 : ¬ t.val % 32 = 0) :
    (outsAt0 m c t.val t.isLt).2 = k0_pay1 (k0_pay4 (grid0.coords t) (iblk m c 0 t) (iblk m c 3 t) (iblk m c 4 t) (iblk m c 1 t)
      (outsAt0 m c (t.val - 1) (Nat.lt_of_le_of_lt (Nat.sub_le _ _) t.isLt)).2 (iblk m c 5 t)) := by
  by_cases h1 : t.val % 32 = 31
  · rw [outsAt0_C m c t h0 h1]
    frame_out
    exact congrArg (fun a => k0_pay1 (k0_pay4 _ _ _ _ _ a _)) ((Memref.isWhole_whole _).read_unread _)
  · rw [outsAt0_B m c t h0 h1]
    frame_out
    exact congrArg (fun a => k0_pay1 (k0_pay4 _ _ _ _ _ a _)) ((Memref.isWhole_whole _).read_unread _)

set_option maxHeartbeats 1600000 in
/-- At the last expert the block is the normalised sum of the residual stream and the accumulator. -/
theorem out_last (m : (ℓ : Loc nD τ sig) → Buf (Elt Ideal) ℓ) (c : Dev nD) (t : Fin cfg0.N) (h1 : t.val % 32 = 31) :
    (outsAt0 m c t.val t.isLt).1 = k0_pay2 (iblk m c 2 t) (outsAt0 m c t.val t.isLt).2 (iblk m c 6 t) := by
  have h0 : ¬ t.val % 32 = 0 := by omega
  rw [outsAt0_C m c t h0 h1]
  frame_out

end Cert.MoeIdeal.Block

end
-- ==== Proof.MoeArray.lean ====
/- The expert kernel's result array: row `p` is the normalised residual stream of token `p` after the 32 experts. -/
module

public import proofs.«01_k».proof.Proof.MoeBlock

@[expose] public section

set_option maxRecDepth 16384

noncomputable section

namespace Cert.MoeIdeal.Array

open Cert.MoeIdeal Cert.MoeIdeal.Gen Cert.MoeIdeal.Block Cert.MoeSpec
open Idealize.ShloMosaic Idealize.ShloMosaic.TcCoe Idealize.SL.Sem

variable (m : (ℓ : Loc nD τ sig) → Buf (Elt Ideal) ℓ) (c : Dev nD)

/-- Where each window stands at a point: the block of tokens `t / 32`, the expert `t % 32`. -/
theorem idx : ∀ t : Fin cfg0.N, win0_0.index t = ![t.val / 32, 0] ∧ win0_1.index t = ![t.val / 32, 0]
    ∧ win0_2.index t = ![t.val / 32, 0] ∧ win0_3.index t = ![t.val % 32, 0, 0] ∧ win0_4.index t = ![t.val % 32, 0, 0]
    ∧ win0_5.index t = ![t.val % 32, 0, 0] ∧ win0_6.index t = ![0, 0] ∧ win0_7.index t = ![t.val / 32, 0] :=
  (by decide +kernel : ∀ t : Fin grid0.N, _)

/-- The second coordinate of a point is its expert. -/
theorem coord : ∀ t : Fin cfg0.N, (grid0.coords t 1).val = t.val % 32 :=
  (by decide +kernel : ∀ t : Fin grid0.N, _)

/-- The grid has 512 points. -/
theorem lt_512 (t : Fin cfg0.N) : t.val < 512 := lt_of_lt_of_eq t.isLt (show cfg0.N = 512 from N_0)

/-- The block of tokens of a point. -/
def blk (t : Fin cfg0.N) : Fin 16 := ⟨t.val / 32, by have := lt_512 t; omega⟩

/-- The expert of a point. -/
def ex (t : Fin cfg0.N) : Fin 32 := ⟨t.val % 32, by omega⟩

/-- Token `r` of the point's block. -/
def tok (t : Fin cfg0.N) (r : Fin 1024) : Fin 16384 := ⟨1024 * (t.val / 32) + r.val, by have := lt_512 t; omega⟩

/-- The tokens of a point. -/
theorem read0 (t : Fin cfg0.N) (r k : Fin 1024) : (iblk m c 0 t : FVec Ideal S1024x1024 .bf16) (ix2 r k)
    = (m (c, main_arg0) : FVec Ideal S16384x1024 .bf16) (ix2 (tok t r) k) := by
  unfold tok
  blk_point [iblk, V, idx t]

/-- The combination weights of a point. -/
theorem read1 (t : Fin cfg0.N) (r : Fin 1024) (l : Fin 128) : (iblk m c 1 t : FVec Ideal S1024x128 .f32) (ix2 r l)
    = (m (c, main_arg1) : FVec Ideal S16384x128 .f32) (ix2 (tok t r) l) := by
  unfold tok
  blk_point [iblk, V, idx t]

/-- The residual stream of a point. -/
theorem read2 (t : Fin cfg0.N) (r k : Fin 1024) : (iblk m c 2 t : FVec Ideal S1024x1024 .f32) (ix2 r k)
    = (m (c, main_arg2) : FVec Ideal S16384x1024 .f32) (ix2 (tok t r) k) := by
  unfold tok
  blk_point [iblk, V, idx t]

/-- Expert `e` of the 32 is expert `e % 8` of group `e / 8`. -/
theorem wide_reshape (w : FVec Ideal S1x4x8x1024x256 .f32) (e : Fin 32) (k : Fin 1024) (f : Fin 256) :
    shapeCast S32x1024x256 (shapeCast S4x8x1024x256 w shapeCasts_S1x4x8x1024x256_S4x8x1024x256) shapeCasts_S4x8x1024x256_S32x1024x256 (ix3 e k f)
      = w (ix5 0 ⟨e.val / 8, by omega⟩ ⟨e.val % 8, by omega⟩ k f) := by
  pointwise []

/-- The same of the down weights. -/
theorem tall_reshape (w : FVec Ideal S1x4x8x256x1024 .f32) (e : Fin 32) (f : Fin 256) (d : Fin 1024) :
    shapeCast S32x256x1024 (shapeCast S4x8x256x1024 w shapeCasts_S1x4x8x256x1024_S4x8x256x1024) shapeCasts_S4x8x256x1024_S32x256x1024 (ix3 e f d)
      = w (ix5 0 ⟨e.val / 8, by omega⟩ ⟨e.val % 8, by omega⟩ f d) := by
  pointwise []

/-- The gains as one row. -/
theorem gain_reshape (w : FVec Ideal S1024 .f32) (d : Fin 1024) : shapeCast S1x1024 w shapeCasts_S1024_S1x1024 (ix2 0 d) = w (ix1 d) := by
  pointwise []

/-- The gate weights of a point. -/
theorem read3 (t : Fin cfg0.N) (k : Fin 1024) (f : Fin 256) : (iblk m c 3 t : FVec Ideal S1x1024x256 .f32) (ix3 0 k f)
    = (m (c, main_arg3) : FVec Ideal S1x4x8x1024x256 .f32) (ix5 0 ⟨(ex t).val / 8, by omega⟩ ⟨(ex t).val % 8, by omega⟩ k f) := by
  have he : (win0_3.blk t).view.emb (ix3 0 k f) = (ix3 (ex t) k f : S32x1024x256.Idx) := by
    unfold ex
    blk_ext [idx t]
  refine Eq.trans ?_ (wide_reshape (m (c, main_arg3)) (ex t) k f)
  blk_simp [iblk]
  entry_read
  exact congrArg _ he

/-- The up weights of a point. -/
theorem read4 (t : Fin cfg0.N) (k : Fin 1024) (f : Fin 256) : (iblk m c 4 t : FVec Ideal S1x1024x256 .f32) (ix3 0 k f)
    = (m (c, main_arg4) : FVec Ideal S1x4x8x1024x256 .f32) (ix5 0 ⟨(ex t).val / 8, by omega⟩ ⟨(ex t).val % 8, by omega⟩ k f) := by
  have he : (win0_4.blk t).view.emb (ix3 0 k f) = (ix3 (ex t) k f : S32x1024x256.Idx) := by
    unfold ex
    blk_ext [idx t]
  refine Eq.trans ?_ (wide_reshape (m (c, main_arg4)) (ex t) k f)
  blk_simp [iblk]
  entry_read
  exact congrArg _ he

/-- The down weights of a point. -/
theorem read5 (t : Fin cfg0.N) (f : Fin 256) (d : Fin 1024) : (iblk m c 5 t : FVec Ideal S1x256x1024 .f32) (ix3 0 f d)
    = (m (c, main_arg5) : FVec Ideal S1x4x8x256x1024 .f32) (ix5 0 ⟨(ex t).val / 8, by omega⟩ ⟨(ex t).val % 8, by omega⟩ f d) := by
  have he : (win0_5.blk t).view.emb (ix3 0 f d) = (ix3 (ex t) f d : S32x256x1024.Idx) := by
    unfold ex
    blk_ext [idx t]
  refine Eq.trans ?_ (tall_reshape (m (c, main_arg5)) (ex t) f d)
  blk_simp [iblk]
  entry_read
  exact congrArg _ he

/-- The gains. -/
theorem read6 (t : Fin cfg0.N) (d : Fin 1024) : (iblk m c 6 t : FVec Ideal S1x1024 .f32) (ix2 0 d)
    = (m (c, main_arg6) : FVec Ideal S1024 .f32) (ix1 d) := by
  have he : (win0_6.blk t).view.emb (ix2 0 d) = (ix2 0 d : S1x1024.Idx) := by
    blk_ext [idx t]
  refine Eq.trans ?_ (gain_reshape (m (c, main_arg6)) d)
  blk_simp [iblk]
  entry_read
  exact congrArg _ he

/-- What a point adds to the accumulator. -/
def term (t : Fin cfg0.N) (i : S1024x1024.Idx) : EReal :=
  expert (m (c, main_arg0)) (m (c, main_arg1)) (m (c, main_arg3)) (m (c, main_arg4)) (m (c, main_arg5)) (tok t (i 0)) (ex t) (i 1)

/-- A point's contribution, from its windows, is its expert's contribution to its tokens. -/
theorem part_eq (t : Fin cfg0.N) (r d : Fin 1024) :
    part (ex t) (iblk m c 0 t) (iblk m c 3 t) (iblk m c 4 t) (iblk m c 1 t) (iblk m c 5 t) r d = term m c t (ix2 r d) := by
  unfold part term expert Cert.MoeSpec.hidden proj
  refine Finset.sum_congr rfl fun f _ => ?_
  rw [read1, read5]
  simp only [read0, read3, read4]
  rfl

/-- An index of a block is its two coordinates. -/
theorem eta2 (i : S1024x1024.Idx) : i = ix2 (i 0) (i 1) := by
  funext a; fin_cases a <;> rfl

/-- Two numbers name every index of a block. -/
theorem exists_ix2 (i : S1024x1024.Idx) : ∃ r d : Fin 1024, i = ix2 r d := ⟨i 0, i 1, eta2 i⟩

/-- The accumulator after a point that starts a block of tokens. -/
theorem acc0 (t : Fin cfg0.N) (h0 : t.val % 32 = 0) (i : S1024x1024.Idx) :
    ((outsAt0 m c t.val t.isLt).2 : FVec Ideal S1024x1024 .f32) i = (0 : EReal) + term m c t i := by
  obtain ⟨r, d, rfl⟩ := exists_ix2 i
  rw [acc_first m c t h0, store_apply, step_apply _ (ex t) (coord t), zero_apply, part_eq]

/-- The accumulator after any other point. -/
theorem accS (t : Fin cfg0.N) (h0 : ¬ t.val % 32 = 0) (i : S1024x1024.Idx) :
    ((outsAt0 m c t.val t.isLt).2 : FVec Ideal S1024x1024 .f32) i
      = ((outsAt0 m c (t.val - 1) (Nat.lt_of_le_of_lt (Nat.sub_le _ _) t.isLt)).2 : FVec Ideal S1024x1024 .f32) i + term m c t i := by
  obtain ⟨r, d, rfl⟩ := exists_ix2 i
  rw [acc_next m c t h0, store_apply, step_apply _ (ex t) (coord t), part_eq]

/-- The accumulator after a block's last point: the sum over the 32 experts. -/
theorem acc_total (t : Fin cfg0.N) (h1 : t.val % 32 = 31) (r d : Fin 1024) :
    ((outsAt0 m c t.val t.isLt).2 : FVec Ideal S1024x1024 .f32) (ix2 r d)
      = ∑ e : Fin 32, expert (m (c, main_arg0)) (m (c, main_arg1)) (m (c, main_arg3)) (m (c, main_arg4)) (m (c, main_arg5)) (tok t r) e d := by
  have key := Pipeline.eq_sum_fin_of_reset_step_apply_of_flush (M := EReal) (fun n h => ((outsAt0 m c n h).2 : S1024x1024.Idx → EReal)) 32 (fun _ => 0)
    (term m c) (acc0 m c) (accS m c) t h1 (ix2 r d)
  rw [zero_add] at key
  refine key.trans (Finset.sum_congr rfl fun s _ => ?_)
  have hb := Pipeline.run_point_lt_of_flush t h1 s
  have e1 : tok (⟨32 * (t.val / 32) + s.val, hb⟩ : Fin cfg0.N) r = tok t r := Fin.ext (by unfold tok; dsimp only; omega)
  have e2 : ex (⟨32 * (t.val / 32) + s.val, hb⟩ : Fin cfg0.N) = s := Fin.ext (by unfold ex; dsimp only; omega)
  unfold term
  rw [e2]
  exact congrArg (fun p => expert _ _ _ _ _ p s d) e1

/-- The block a last point writes. -/
theorem block_apply (t : Fin cfg0.N) (h1 : t.val % 32 = 31) (r d : Fin 1024) :
    ((outsAt0 m c t.val t.isLt).1 : FVec Ideal S1024x1024 .f32) (ix2 r d)
      = out (m (c, main_arg0)) (m (c, main_arg1)) (m (c, main_arg2)) (m (c, main_arg3)) (m (c, main_arg4)) (m (c, main_arg5)) (m (c, main_arg6)) (tok t r) d := by
  rw [out_last m c t h1, end_apply, read6]
  unfold out stream
  simp only [acc_total m c t h1, read2]

/-- The result array. -/
def result : S16384x1024.Idx → EReal := fun i =>
  out (m (c, main_arg0)) (m (c, main_arg1)) (m (c, main_arg2)) (m (c, main_arg3)) (m (c, main_arg4)) (m (c, main_arg5)) (m (c, main_arg6)) (i 0) (i 1)

/-- THE KERNEL'S RESULT. -/
theorem final : (dats m 0 c).arrAt 7 cfg0.N = result m c := by
  refine (dats m 0 c).arrAt_eq_of_covers 7 (result m c) (by decide +kernel) fun t hf y => ?_
  blk_simp
  rw [after0_7]
  have h1 : t.val % 32 = 31 := (flush0_7 t).mp hf
  have he : (win0_7.blk t).view.emb y = ix2 (tok t (y 0)) (y 1) := by
    have b0 : (y 0).val < 1024 := (y 0).isLt
    have b1 : (y 1).val < 1024 := (y 1).isLt
    unfold tok
    blk_ext [idx t]
  rw [he]
  exact (congrArg (outsAt0 m c t.val t.isLt).1 (eta2 y)).trans (block_apply m c t h1 (y 0) (y 1))

end Cert.MoeIdeal.Array

end
-- ==== Proof.MoeRef.lean ====
/- The expert reference's steps: one group of eight experts, the four groups' sum, the norm of the residual stream. -/
module

public import proofs.«01_k».proof.Proof.Gen.MoeRefIdeal.Run
public import proofs.«01_k».proof.Proof.MoeSpec
public import Idealize.ShloMosaic.Lib.Pointwise

@[expose] public section

set_option maxRecDepth 16384

noncomputable section

namespace Cert.MoeRefIdeal.Steps

open Cert.MoeRefIdeal Cert.MoeRefIdeal.Gen Idealize.ShloMosaic Idealize.ShloMosaic.TcCoe Idealize.SL.Sem

variable {F : FTy → Type} [FloatOps F]

/-- One group's gate or up weights. -/
def wide (o : Fin 5 → ℕ) (hs : S1x4x8x1024x256.Slices o S1x1x8x1024x256) (w : FVec F S1x4x8x1024x256 .f32) : FVec F S8x1024x256 .f32 :=
  shapeCast _ (extractStridedSlice S1x1x8x1024x256 o w hs) shapeCasts_S1x1x8x1024x256_S8x1024x256

/-- One group's down weights. -/
def tall (o : Fin 5 → ℕ) (hs : S1x4x8x256x1024.Slices o S1x1x8x256x1024) (w : FVec F S1x4x8x256x1024 .f32) : FVec F S8x256x1024 .f32 :=
  shapeCast _ (extractStridedSlice S1x1x8x256x1024 o w hs) shapeCasts_S1x1x8x256x1024_S8x256x1024

/-- One group's combination weights. -/
def comb (o : Fin 3 → ℕ) (hs : S16384x4x8.Slices o S16384x1x8) (cb : FVec F S16384x128 .f32) : FVec F S16384x8 .f32 :=
  shapeCast _ (extractStridedSlice S16384x1x8 o (shapeCast _ (extractStridedSlice S16384x32 ![0, 0] cb slices_S16384x128_S16384x32_0_0) shapeCasts_S16384x32_S16384x4x8) hs) shapeCasts_S16384x1x8_S16384x8

/-- A product of the tokens with one group's weights. -/
def proj (x : FVec F S16384x1024 .bf16) (w : FVec F S8x1024x256 .f32) : FVec F S16384x8x256 .f32 :=
  Host.dotGeneral dot_S16384x1024_S8x1024x256_S16384x8x256_1_1_0_02_n_n none (extf .f32 x bitsLt_bf16_f32) w

/-- The hidden activations of a group. -/
def hidden (a b : FVec F S16384x8x256 .f32) (cg : FVec F S16384x8 .f32) : FVec F S16384x8x256 .f32 :=
  mulf (mulf (mulf a (Host.divf (broadcastInDim S16384x8x256 ![] bcast_S_S16384x8x256 (constant S_ .f32 0x3F800000#32)) (addf (broadcastInDim S16384x8x256 ![] bcast_S_S16384x8x256 (constant S_ .f32 0x3F800000#32)) (Host.exp (Host.negf a))))) b)
    (broadcastInDim S16384x8x256 ![0, 1, 2] bcast_S16384x8x1_S16384x8x256_0_1_2 (broadcastInDim S16384x8x1 ![0, 1] bcast_S16384x8_S16384x8x1_0_1 cg))

/-- A group's contribution. -/
def down (h : FVec F S16384x8x256 .f32) (w : FVec F S8x256x1024 .f32) : FVec F S16384x1024 .f32 :=
  Host.dotGeneral dot_S16384x8x256_S8x256x1024_S16384x1024_12_01_0_2_n_n none h w

/-- One group. -/
def group (o5 : Fin 5 → ℕ) (o3 : Fin 3 → ℕ) (hw : S1x4x8x1024x256.Slices o5 S1x1x8x1024x256) (ht : S1x4x8x256x1024.Slices o5 S1x1x8x256x1024)
    (hc : S16384x4x8.Slices o3 S16384x1x8) (x : FVec F S16384x1024 .bf16) (cb : FVec F S16384x128 .f32) (wg wu : FVec F S1x4x8x1024x256 .f32)
    (wd : FVec F S1x4x8x256x1024 .f32) : FVec F S16384x1024 .f32 :=
  down (hidden (proj x (wide o5 hw wg)) (proj x (wide o5 hw wu)) (comb o3 hc cb)) (tall o5 ht wd)

/-- The experts' sum. -/
def experts (x : FVec F S16384x1024 .bf16) (cb : FVec F S16384x128 .f32) (wg wu : FVec F S1x4x8x1024x256 .f32) (wd : FVec F S1x4x8x256x1024 .f32) :
    FVec F S16384x1024 .f32 :=
  addf (addf (addf (addf (broadcastInDim S16384x1024 ![] bcast_S_S16384x1024 (constant S_ .f32 0x00000000#32))
    (group ![0, 0, 0, 0, 0] ![0, 0, 0] slices_S1x4x8x1024x256_S1x1x8x1024x256_0_0_0_0_0 slices_S1x4x8x256x1024_S1x1x8x256x1024_0_0_0_0_0 slices_S16384x4x8_S16384x1x8_0_0_0 x cb wg wu wd))
    (group ![0, 1, 0, 0, 0] ![0, 1, 0] slices_S1x4x8x1024x256_S1x1x8x1024x256_0_1_0_0_0 slices_S1x4x8x256x1024_S1x1x8x256x1024_0_1_0_0_0 slices_S16384x4x8_S16384x1x8_0_1_0 x cb wg wu wd))
    (group ![0, 2, 0, 0, 0] ![0, 2, 0] slices_S1x4x8x1024x256_S1x1x8x1024x256_0_2_0_0_0 slices_S1x4x8x256x1024_S1x1x8x256x1024_0_2_0_0_0 slices_S16384x4x8_S16384x1x8_0_2_0 x cb wg wu wd))
    (group ![0, 3, 0, 0, 0] ![0, 3, 0] slices_S1x4x8x1024x256_S1x1x8x1024x256_0_3_0_0_0 slices_S1x4x8x256x1024_S1x1x8x256x1024_0_3_0_0_0 slices_S16384x4x8_S16384x1x8_0_3_0 x cb wg wu wd)

/-- The norm. -/
def norm (h : FVec F S16384x1024 .f32) (g : FVec F S1024 .f32) : FVec F S16384x1024 .f32 :=
  mulf (mulf h (broadcastInDim S16384x1024 ![0, 1] bcast_S16384x1_S16384x1024_0_1 (Host.rsqrt (addf (Host.divf (broadcastInDim S16384x1 ![0] bcast_S16384_S16384x1_0 (Host.reduceAdd (mulf h h) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32))))))
    (broadcastInDim S16384x1024 ![0, 1] bcast_S1x1024_S16384x1024_0_1 (broadcastInDim S1x1024 ![1] bcast_S1024_S1x1024_1 g))

/-- The reference's result is these steps. -/
theorem res_eq (m : (ℓ : Loc nD τ sig) → Buf (Elt F) ℓ) (c : Dev nD) :
    Value.res_main_v85 m c = norm (addf (m ((c.tc : Thread nD τ).loc main_arg2)) (experts (m ((c.tc : Thread nD τ).loc main_arg0)) (m ((c.tc : Thread nD τ).loc main_arg1))
      (m ((c.tc : Thread nD τ).loc main_arg3)) (m ((c.tc : Thread nD τ).loc main_arg4)) (m ((c.tc : Thread nD τ).loc main_arg5)))) (m ((c.tc : Thread nD τ).loc main_arg6)) := by
  unfold Value.res_main_v85 norm experts group down hidden proj comb tall wide
  rfl

/-- A group's wide weights at an index. -/
theorem wide_apply (g : Fin 4) (hs : S1x4x8x1024x256.Slices ![0, g.val, 0, 0, 0] S1x1x8x1024x256) (w : FVec Ideal S1x4x8x1024x256 .f32)
    (e : Fin 8) (k : Fin 1024) (f : Fin 256) : wide ![0, g.val, 0, 0, 0] hs w (ix3 e k f) = w (ix5 0 g e k f) := by
  pointwise [wide]

/-- A group's tall weights at an index. -/
theorem tall_apply (g : Fin 4) (hs : S1x4x8x256x1024.Slices ![0, g.val, 0, 0, 0] S1x1x8x256x1024) (w : FVec Ideal S1x4x8x256x1024 .f32)
    (e : Fin 8) (f : Fin 256) (d : Fin 1024) : tall ![0, g.val, 0, 0, 0] hs w (ix3 e f d) = w (ix5 0 g e f d) := by
  pointwise [tall]

/-- A group's combination weights at an index. -/
theorem comb_apply (g : Fin 4) (hs : S16384x4x8.Slices ![0, g.val, 0] S16384x1x8) (cb : FVec Ideal S16384x128 .f32)
    (p : Fin 16384) (e : Fin 8) : comb ![0, g.val, 0] hs cb (ix2 p e) = cb (ix2 p ⟨g.val * 8 + e.val, by omega⟩) := by
  pointwise [comb]

/-- A projection at an index. -/
theorem proj_apply (x : FVec Ideal S16384x1024 .bf16) (w : FVec Ideal S8x1024x256 .f32) (p : Fin 16384) (e : Fin 8) (f : Fin 256) :
    proj x w (ix3 p e f) = ∑ k : Fin 1024, x (ix2 p k) * w (ix3 e k f) := by
  pointwise [proj]

/-- The hidden activations at an index. -/
theorem hidden_apply (a b : FVec Ideal S16384x8x256 .f32) (cg : FVec Ideal S16384x8 .f32) (p : Fin 16384) (e : Fin 8) (f : Fin 256) :
    hidden a b cg (ix3 p e f) = ((a (ix3 p e f) * Ideal.logistic (a (ix3 p e f))) * b (ix3 p e f)) * cg (ix2 p e) := by
  pointwise [hidden]
  rfl

/-- A contribution at an index. -/
theorem down_apply (h : FVec Ideal S16384x8x256 .f32) (w : FVec Ideal S8x256x1024 .f32) (p : Fin 16384) (d : Fin 1024) :
    down h w (ix2 p d) = ∑ e : Fin 8, ∑ f : Fin 256, h (ix3 p e f) * w (ix3 e f d) := by
  pointwise [down]

/-- The norm at an index. -/
theorem norm_apply (h : FVec Ideal S16384x1024 .f32) (g : FVec Ideal S1024 .f32) (p : Fin 16384) (d : Fin 1024) :
    norm h g (ix2 p d) = h (ix2 p d) * Ideal.rsqrt (Ideal.div (∑ x : Fin 1024, h (ix2 p x) * h (ix2 p x)) (Ideal.ofBits FTy.f32 0x44800000#32)
      + Ideal.ofBits FTy.f32 0x358637BD#32) * g (ix1 d) := by
  pointwise [norm]

/-- A group's contribution is its eight experts'. -/
theorem group_apply (g : Fin 4) (hw : S1x4x8x1024x256.Slices ![0, g.val, 0, 0, 0] S1x1x8x1024x256)
    (ht : S1x4x8x256x1024.Slices ![0, g.val, 0, 0, 0] S1x1x8x256x1024) (hc : S16384x4x8.Slices ![0, g.val, 0] S16384x1x8)
    (x : FVec Ideal S16384x1024 .bf16) (cb : FVec Ideal S16384x128 .f32) (wg wu : FVec Ideal S1x4x8x1024x256 .f32)
    (wd : FVec Ideal S1x4x8x256x1024 .f32) (p : Fin 16384) (d : Fin 1024) :
    group ![0, g.val, 0, 0, 0] ![0, g.val, 0] hw ht hc x cb wg wu wd (ix2 p d)
      = ∑ e : Fin 8, Cert.MoeSpec.expert x cb wg wu wd p ⟨g.val * 8 + e.val, by omega⟩ d := by
  unfold group
  rw [down_apply]
  refine Finset.sum_congr rfl fun e _ => ?_
  have h1 : (⟨(g.val * 8 + e.val) / 8, by omega⟩ : Fin 4) = g := Fin.ext (by dsimp only; omega)
  have h2 : (⟨(g.val * 8 + e.val) % 8, by omega⟩ : Fin 8) = e := Fin.ext (by dsimp only; omega)
  unfold Cert.MoeSpec.expert Cert.MoeSpec.hidden Cert.MoeSpec.proj
  dsimp only
  rw [h1, h2]
  refine Finset.sum_congr rfl fun f _ => ?_
  rw [hidden_apply, proj_apply, proj_apply, comb_apply, tall_apply]
  simp only [wide_apply]

/-- The four groups' sum is the sum over the 32 experts. -/
theorem experts_apply (x : FVec Ideal S16384x1024 .bf16) (cb : FVec Ideal S16384x128 .f32) (wg wu : FVec Ideal S1x4x8x1024x256 .f32)
    (wd : FVec Ideal S1x4x8x256x1024 .f32) (p : Fin 16384) (d : Fin 1024) :
    experts x cb wg wu wd (ix2 p d) = ∑ e : Fin 32, Cert.MoeSpec.expert x cb wg wu wd p e d := by
  have h0 : (broadcastInDim S16384x1024 ![] bcast_S_S16384x1024 (constant (F := Ideal) S_ .f32 0x00000000#32)) (ix2 p d) = (0 : EReal) := by
    pointwise []
  have e : experts x cb wg wu wd (ix2 p d) = (((broadcastInDim S16384x1024 ![] bcast_S_S16384x1024 (constant (F := Ideal) S_ .f32 0x00000000#32)) (ix2 p d)
      + group ![0, (0 : Fin 4).val, 0, 0, 0] ![0, (0 : Fin 4).val, 0] _ _ _ x cb wg wu wd (ix2 p d)
      + group ![0, (1 : Fin 4).val, 0, 0, 0] ![0, (1 : Fin 4).val, 0] _ _ _ x cb wg wu wd (ix2 p d)
      + group ![0, (2 : Fin 4).val, 0, 0, 0] ![0, (2 : Fin 4).val, 0] _ _ _ x cb wg wu wd (ix2 p d)
      + group ![0, (3 : Fin 4).val, 0, 0, 0] ![0, (3 : Fin 4).val, 0] _ _ _ x cb wg wu wd (ix2 p d) : EReal)) := rfl
  rw [e, h0, group_apply, group_apply, group_apply, group_apply, zero_add]
  rw [← Fin.sum_mul_add_congr (S := 4) (n := 8) (f := fun e : Fin 32 => Cert.MoeSpec.expert x cb wg wu wd p e d)
    (F := fun g e => Cert.MoeSpec.expert x cb wg wu wd p ⟨g.val * 8 + e.val, by omega⟩ d) fun s k hl => by with_reducible rfl]
  rw [Fin.sum_univ_four]

/-- A sum of two arrays at an index. -/
theorem add_apply (a b : FVec Ideal S16384x1024 .f32) (i : S16384x1024.Idx) : addf a b i = (a i + b i : EReal) := rfl

/-- The reference's result at an index. -/
theorem result_apply (x : FVec Ideal S16384x1024 .bf16) (cb : FVec Ideal S16384x128 .f32) (h : FVec Ideal S16384x1024 .f32)
    (wg wu : FVec Ideal S1x4x8x1024x256 .f32) (wd : FVec Ideal S1x4x8x256x1024 .f32) (g : FVec Ideal S1024 .f32) (p : Fin 16384) (d : Fin 1024) :
    norm (addf h (experts x cb wg wu wd)) g (ix2 p d) = Cert.MoeSpec.out x cb h wg wu wd g p d := by
  have e : ∀ k, (addf h (experts x cb wg wu wd)) (ix2 p k) = Cert.MoeSpec.stream x cb h wg wu wd p k := fun k => by
    rw [add_apply, experts_apply]
    unfold Cert.MoeSpec.stream
    with_reducible rfl
  rw [norm_apply]
  unfold Cert.MoeSpec.out Cert.MoeSpec.rms
  simp only [e]

end Cert.MoeRefIdeal.Steps

end
-- ==== Proof.MoeFinal.lean ====
/- The experts' claim: at the ideal instance, the kernel's result array and the reference's are the same. -/
module

public import proofs.«01_k».proof.Proof.MoeArray
public import proofs.«01_k».proof.Proof.MoeRef
public import proofs.«01_k».proof.Defs
public import Idealize.ShloMosaic.Lib.Claim

@[expose] public section

set_option maxRecDepth 16384

noncomputable section

namespace Cert.MoeFinal

open Idealize.ShloMosaic Idealize.ShloMosaic.TcCoe Idealize.SL.Sem

/-- The reference's result, of equal arguments, is the kernel's array. -/
theorem result_eq (m : (ℓ : Loc Cert.MoeIdeal.nD Cert.MoeIdeal.τ Cert.MoeIdeal.sig) → Buf (Elt Ideal) ℓ) (c : Dev Cert.MoeIdeal.nD) :
    Cert.MoeRefIdeal.Steps.norm (F := Ideal) (addf (m (c, Cert.MoeIdeal.main_arg2)) (Cert.MoeRefIdeal.Steps.experts (m (c, Cert.MoeIdeal.main_arg0))
        (m (c, Cert.MoeIdeal.main_arg1)) (m (c, Cert.MoeIdeal.main_arg3)) (m (c, Cert.MoeIdeal.main_arg4)) (m (c, Cert.MoeIdeal.main_arg5))))
      (m (c, Cert.MoeIdeal.main_arg6))
      = Cert.MoeIdeal.Array.result m c := by
  funext i
  have hi : i = ix2 (i 0) (i 1) := by
    funext a; fin_cases a <;> rfl
  exact (congrArg _ hi).trans (Cert.MoeRefIdeal.Steps.result_apply (m (c, Cert.MoeIdeal.main_arg0)) (m (c, Cert.MoeIdeal.main_arg1))
    (m (c, Cert.MoeIdeal.main_arg2)) (m (c, Cert.MoeIdeal.main_arg3)) (m (c, Cert.MoeIdeal.main_arg4)) (m (c, Cert.MoeIdeal.main_arg5))
    (m (c, Cert.MoeIdeal.main_arg6)) (i 0) (i 1))

set_option maxHeartbeats 1600000 in
/-- THE EXPERTS' CLAIM. -/
theorem algebraic : Cert.algebraic_MoeIdeal_MoeRefIdeal := by
  pair_intro
  · run_from Cert.MoeIdeal.Value.run_blocks m g
  · run_from Cert.MoeRefIdeal.Value.run m' g'
    refine (Cert.MoeRefIdeal.Steps.res_eq m' c).trans ?_
    obtain ⟨e0, e1, e2, e3, e4, e5, e6⟩ := hagree c
    rw [e0, e1, e2, e3, e4, e5, e6]
    exact (result_eq m c).trans (Cert.MoeIdeal.Array.final m c).symm

end Cert.MoeFinal

end
-- ==== Proof.MergeSpec.lean ====
/- The mathematics of the merge: the two attentions' outputs, each through its projection and its gate, are added, projected
   once more and join the residual stream; the stream is then normalised for the experts. -/
module

public import proofs.«01_k».proof.Proof.MoeSpec

@[expose] public section

set_option maxRecDepth 16384

noncomputable section

namespace Cert.MergeSpec

open Idealize.ShloMosaic Cert.MoeSpec

/-- The residual stream: two batches of 8192 tokens. -/
abbrev RES3 : Type := FVec Ideal ⟨3, ![2, 8192, 1024]⟩ .f32
/-- An attention's output, features before tokens. -/
abbrev ATT : Type := FVec Ideal ⟨3, ![2, 512, 8192]⟩ .bf16
/-- The gains of a norm. -/
abbrev ROW : Type := FVec Ideal ⟨2, ![1, 1024]⟩ .f32
/-- The projections into the block, the gates' among them. -/
abbrev WIN : Type := FVec Ideal ⟨3, ![1, 1024, 4392]⟩ .f32
/-- An attention's projection. -/
abbrev WATT : Type := FVec Ideal ⟨3, ![1, 512, 1024]⟩ .f32
/-- The projection out of the block. -/
abbrev WOUT : Type := FVec Ideal ⟨3, ![1, 1024, 1024]⟩ .f32

/-- A token's gate: the sigmoid of the normalised token's product with one column of the projections. -/
def gate (x : RES3) (g : ROW) (w : WIN) (b : Fin 2) (s : Fin 8192) (j : Fin 4392) : EReal :=
  Ideal.logistic (∑ k : Fin 1024, rms (fun k => x (ix3 b s k)) (g (ix2 0 k)) k * w (ix3 0 k j))

/-- An attention's output for a token, projected. -/
def proj (y : ATT) (w : WATT) (b : Fin 2) (s : Fin 8192) (d : Fin 1024) : EReal :=
  ∑ k : Fin 512, y (ix3 b k s) * w (ix3 0 k d)

/-- The gated sum of the two attentions. -/
def merged (x : RES3) (ya yb : ATT) (g : ROW) (w : WIN) (wa wb : WATT) (b : Fin 2) (s : Fin 8192) (d : Fin 1024) : EReal :=
  gate x g w b s ⟨2344 + d.val, by omega⟩ * proj ya wa b s d + gate x g w b s ⟨3368 + d.val, by omega⟩ * proj yb wb b s d

/-- The residual stream after the attentions. -/
def stream (x : RES3) (ya yb : ATT) (g : ROW) (w : WIN) (wa wb : WATT) (wo : WOUT) (b : Fin 2) (s : Fin 8192) (d : Fin 1024) : EReal :=
  x (ix3 b s d) + ∑ k : Fin 1024, merged x ya yb g w wa wb b s k * wo (ix3 0 k d)

/-- The tokens the experts read: the stream, normalised. -/
def token (x : RES3) (ya yb : ATT) (g : ROW) (w : WIN) (wa wb : WATT) (wo : WOUT) (fn : ROW) (b : Fin 2) (s : Fin 8192) (d : Fin 1024) : EReal :=
  rms (stream x ya yb g w wa wb wo b s) (fn (ix2 0 d)) d

end Cert.MergeSpec

end
-- ==== Proof.MergeBlock.lean ====
/- The merge kernel's stored values for a block of tokens, entry by entry: the stream and the normalised tokens. -/
module

public import proofs.«01_k».proof.Proof.Gen.MergeIdeal.Skeleton
public import proofs.«01_k».proof.Proof.MergeSpec
public import Idealize.ShloMosaic.Lib.Pointwise
public import Idealize.ShloMosaic.Lib.Pipeline.ValueKit

@[expose] public section

set_option maxRecDepth 16384

noncomputable section

namespace Cert.MergeIdeal.Block

open Cert.MergeIdeal Cert.MergeIdeal.Gen Cert.MoeSpec
open Idealize.ShloMosaic Idealize.ShloMosaic.TcCoe Idealize.SL.Sem

/-- A block of the stream, one batch at a time. -/
theorem pay2_apply (x : FVec Ideal S1x512x1024 .f32) (r : Fin 512) (d : Fin 1024) :
    k0_pay2 (F := Ideal) x (ix2 r d) = x (ix3 0 r d) := by
  pointwise [k0_pay2]

set_option maxHeartbeats 1600000 in
/-- The gates before the sigmoid. -/
theorem pay3_apply (x : FVec Ideal S1x512x1024 .f32) (g : FVec Ideal S1x1024 .f32) (w : FVec Ideal S1024x2048 .bf16) (r : Fin 512) (j : Fin 2048) :
    k0_pay3 (F := Ideal) x g w (ix2 r j) = ∑ k : Fin 1024, rms (fun k => x (ix3 0 r k)) (g (ix2 0 k)) k * w (ix2 k j) := by
  pointwise [k0_pay3, k0_pay2]
  rfl

set_option maxHeartbeats 1600000 in
/-- The second attention's output, projected. -/
theorem pay4_apply (y : FVec Ideal S1x512x512 .bf16) (w : FVec Ideal S512x1024 .bf16) (r : Fin 512) (d : Fin 1024) :
    k0_pay4 (F := Ideal) y w (ix2 r d) = ∑ k : Fin 512, y (ix3 0 k r) * w (ix2 k d) := by
  pointwise [k0_pay4]

set_option maxHeartbeats 1600000 in
/-- The first attention's output, projected and gated. -/
theorem pay5_apply (x : FVec Ideal S1x512x1024 .f32) (g : FVec Ideal S1x1024 .f32) (w : FVec Ideal S1024x2048 .bf16)
    (y : FVec Ideal S1x512x512 .bf16) (wa : FVec Ideal S512x1024 .bf16) (r : Fin 512) (d : Fin 1024) :
    k0_pay5 (F := Ideal) x g w y wa (ix2 r d)
      = Ideal.logistic (k0_pay3 (F := Ideal) x g w (ix2 r ⟨d.val, by omega⟩)) * ∑ k : Fin 512, y (ix3 0 k r) * wa (ix2 k d) := by
  pointwise [k0_pay5]

set_option maxHeartbeats 1600000 in
/-- The second gate. -/
theorem pay6_apply (x : FVec Ideal S1x512x1024 .f32) (g : FVec Ideal S1x1024 .f32) (w : FVec Ideal S1024x2048 .bf16) (r : Fin 512) (d : Fin 1024) :
    k0_pay6 (F := Ideal) x g w (ix2 r d) = Ideal.logistic (k0_pay3 (F := Ideal) x g w (ix2 r ⟨1024 + d.val, by omega⟩)) := by
  pointwise [k0_pay6]

set_option maxHeartbeats 1600000 in
/-- The stream after the attentions. -/
theorem pay7_apply (x v29 v32 v34 : FVec Ideal S512x1024 .f32) (wo : FVec Ideal S1024x1024 .bf16) (r : Fin 512) (d : Fin 1024) :
    k0_pay7 (F := Ideal) x v29 v32 v34 wo (ix2 r d)
      = (x (ix2 r d) + ∑ k : Fin 1024, (v32 (ix2 r k) + v34 (ix2 r k) * v29 (ix2 r k)) * wo (ix2 k d) : EReal) := by
  pointwise [k0_pay7]

/-- The stream as stored. -/
theorem pay8_apply (x v29 v32 v34 : FVec Ideal S512x1024 .f32) (wo : FVec Ideal S1024x1024 .bf16) (r : Fin 512) (d : Fin 1024) :
    k0_pay8 (F := Ideal) x v29 v32 v34 wo (ix3 0 r d) = k0_pay7 (F := Ideal) x v29 v32 v34 wo (ix2 r d) := by
  pointwise [k0_pay8]

set_option maxHeartbeats 1600000 in
/-- The normalised tokens. -/
theorem pay9_apply (x v29 v32 v34 : FVec Ideal S512x1024 .f32) (wo : FVec Ideal S1024x1024 .bf16) (fn : FVec Ideal S1x1024 .f32) (r : Fin 512) (d : Fin 1024) :
    k0_pay9 (F := Ideal) x v29 v32 v34 wo fn (ix2 r d)
      = rms (fun k => k0_pay7 (F := Ideal) x v29 v32 v34 wo (ix2 r k)) (fn (ix2 0 d)) d := by
  pointwise [k0_pay9]
  rfl

/-- The normalised tokens as stored. -/
theorem pay10_apply (x v29 v32 v34 : FVec Ideal S512x1024 .f32) (wo : FVec Ideal S1024x1024 .bf16) (fn : FVec Ideal S1x1024 .f32) (r : Fin 512) (d : Fin 1024) :
    k0_pay10 (F := Ideal) x v29 v32 v34 wo fn (ix3 0 r d) = k0_pay9 (F := Ideal) x v29 v32 v34 wo fn (ix2 r d) := by
  pointwise [k0_pay10]

end Cert.MergeIdeal.Block

end
-- ==== Proof.MergeArray.lean ====
/- The merge kernel's arrays: what each point reads of the arguments, and the stream and the tokens it leaves. -/
module

public import proofs.«01_k».proof.Proof.Gen.MergeIdeal.Value
public import proofs.«01_k».proof.Proof.MergeBlock

@[expose] public section

set_option maxRecDepth 16384

noncomputable section

namespace Cert.MergeIdeal.Array

open Cert.MergeIdeal Cert.MergeIdeal.Gen Cert.MergeIdeal.Block Cert.MergeSpec
open Idealize.ShloMosaic Idealize.ShloMosaic.TcCoe Idealize.SL.Sem

variable (m : (ℓ : Loc nD τ sig) → Buf (Elt Ideal) ℓ) (c : Dev nD)

/-- Where each window stands at a point: batch `t / 16`, block of tokens `t % 16`. -/
theorem idx : ∀ t : Fin cfg0.N, win0_0.index t = ![t.val / 16, t.val % 16, 0] ∧ win0_1.index t = ![t.val / 16, 0, t.val % 16]
    ∧ win0_2.index t = ![t.val / 16, 0, t.val % 16] ∧ win0_3.index t = ![0, 0] ∧ win0_4.index t = ![0, 0]
    ∧ win0_5.index t = ![0, 0] ∧ win0_6.index t = ![0, 0] ∧ win0_7.index t = ![0, 0] ∧ win0_8.index t = ![0, 0]
    ∧ win0_9.index t = ![0, 0] ∧ win0_10.index t = ![0, 0] ∧ win0_11.index t = ![0, 0]
    ∧ win0_12.index t = ![t.val / 16, t.val % 16, 0] ∧ win0_13.index t = ![t.val / 16, t.val % 16, 0]
    ∧ win0_14.index t = ![t.val / 16, t.val % 16, 0] :=
  (by decide +kernel : ∀ t : Fin grid0.N, _)

/-- The grid has 32 points. -/
theorem lt_32 (t : Fin cfg0.N) : t.val < 32 := lt_of_lt_of_eq t.isLt (show cfg0.N = 32 from N_0)

/-- The batch of a point. -/
def bt (t : Fin cfg0.N) : Fin 2 := ⟨t.val / 16, by have := lt_32 t; omega⟩

/-- Token `r` of the point's block. -/
def tok (t : Fin cfg0.N) (r : Fin 512) : Fin 8192 := ⟨512 * (t.val % 16) + r.val, by omega⟩

/-- The stream of a point. -/
theorem read0 (t : Fin cfg0.N) (r : Fin 512) (k : Fin 1024) : (iblk m c 0 t : FVec Ideal S1x512x1024 .f32) (ix3 0 r k)
    = (m (c, main_arg0) : FVec Ideal S2x8192x1024 .f32) (ix3 (bt t) (tok t r) k) := by
  unfold bt tok
  blk_point [iblk, V, idx t]

/-- The first attention's output. -/
theorem read1 (t : Fin cfg0.N) (k r : Fin 512) : (iblk m c 1 t : FVec Ideal S1x512x512 .bf16) (ix3 0 k r)
    = (m (c, main_arg1) : FVec Ideal S2x512x8192 .bf16) (ix3 (bt t) k (tok t r)) := by
  unfold bt tok
  blk_point [iblk, V, idx t]

/-- The second attention's output. -/
theorem read2 (t : Fin cfg0.N) (k r : Fin 512) : (iblk m c 2 t : FVec Ideal S1x512x512 .bf16) (ix3 0 k r)
    = (m (c, main_arg2) : FVec Ideal S2x512x8192 .bf16) (ix3 (bt t) k (tok t r)) := by
  unfold bt tok
  blk_point [iblk, V, idx t]

/-- The gains, flattened and made a row again. -/
theorem row_reshape (w : FVec Ideal S1x1024 .f32) (d : Fin 1024) :
    shapeCast S1x1024 (shapeCast S1024 w shapeCasts_S1x1024_S1024) shapeCasts_S1024_S1x1024 (ix2 0 d) = w (ix2 0 d) := by
  pointwise []

/-- The gates' columns are two neighbouring stretches of the projections. -/
theorem gates_host (w : FVec Ideal S1x1024x4392 .f32) (k : Fin 1024) (j : Fin 2048) :
    truncf (F := Ideal) .bf16 (concatenate S1024x2048 1
        [⟨S1024x1024, extractStridedSlice S1024x1024 ![0, 2344] (shapeCast S1024x4392 w shapeCasts_S1x1024x4392_S1024x4392) slices_S1024x4392_S1024x1024_0_2344⟩,
         ⟨S1024x1024, extractStridedSlice S1024x1024 ![0, 3368] (shapeCast S1024x4392 w shapeCasts_S1x1024x4392_S1024x4392) slices_S1024x4392_S1024x1024_0_3368⟩]
        concatenates_S1024x1024_S1024x1024_S1024x2048_d1) bitsLt_bf16_f32 (ix2 k j) = w (ix3 0 k ⟨2344 + j.val, by omega⟩) := by
  pointwise []
  split
  · rfl
  · exact congrArg (fun q => w (ix3 0 k q)) (Fin.ext (by dsimp only; omega))

/-- An attention's projection as the kernel takes it. -/
theorem watt_host (w : FVec Ideal S1x512x1024 .f32) (k : Fin 512) (d : Fin 1024) :
    truncf (F := Ideal) .bf16 (shapeCast S512x1024 w shapeCasts_S1x512x1024_S512x1024) bitsLt_bf16_f32 (ix2 k d) = w (ix3 0 k d) := by
  pointwise []

/-- The projection out of the block as the kernel takes it. -/
theorem wout_host (w : FVec Ideal S1x1024x1024 .f32) (k : Fin 1024) (d : Fin 1024) :
    truncf (F := Ideal) .bf16 (shapeCast S1024x1024 w shapeCasts_S1x1024x1024_S1024x1024) bitsLt_bf16_f32 (ix2 k d) = w (ix3 0 k d) := by
  pointwise []

/-- The first norm's gains. -/
theorem read3 (t : Fin cfg0.N) (d : Fin 1024) : (iblk m c 3 t : FVec Ideal S1x1024 .f32) (ix2 0 d)
    = (m (c, main_arg3) : FVec Ideal S1x1024 .f32) (ix2 0 d) := by
  have he : (win0_3.blk t).view.emb (ix2 0 d) = (ix2 0 d : S1x1024.Idx) := by
    blk_ext [idx t]
  refine Eq.trans ?_ (row_reshape (m (c, main_arg3)) d)
  blk_simp [iblk]
  entry_read
  exact congrArg _ he

/-- The gates' columns. -/
theorem read4 (t : Fin cfg0.N) (k : Fin 1024) (j : Fin 2048) : (iblk m c 4 t : FVec Ideal S1024x2048 .bf16) (ix2 k j)
    = (m (c, main_arg4) : FVec Ideal S1x1024x4392 .f32) (ix3 0 k ⟨2344 + j.val, by omega⟩) := by
  have he : (win0_4.blk t).view.emb (ix2 k j) = (ix2 k j : S1024x2048.Idx) := by
    blk_ext [idx t]
  refine Eq.trans ?_ (gates_host (m (c, main_arg4)) k j)
  blk_simp [iblk]
  entry_read
  exact congrArg _ he

/-- The first attention's projection. -/
theorem read5 (t : Fin cfg0.N) (k : Fin 512) (d : Fin 1024) : (iblk m c 5 t : FVec Ideal S512x1024 .bf16) (ix2 k d)
    = (m (c, main_arg5) : FVec Ideal S1x512x1024 .f32) (ix3 0 k d) := by
  have he : (win0_5.blk t).view.emb (ix2 k d) = (ix2 k d : S512x1024.Idx) := by
    blk_ext [idx t]
  refine Eq.trans ?_ (watt_host (m (c, main_arg5)) k d)
  blk_simp [iblk]
  entry_read
  exact congrArg _ he

/-- The second attention's projection. -/
theorem read6 (t : Fin cfg0.N) (k : Fin 512) (d : Fin 1024) : (iblk m c 6 t : FVec Ideal S512x1024 .bf16) (ix2 k d)
    = (m (c, main_arg6) : FVec Ideal S1x512x1024 .f32) (ix3 0 k d) := by
  have he : (win0_6.blk t).view.emb (ix2 k d) = (ix2 k d : S512x1024.Idx) := by
    blk_ext [idx t]
  refine Eq.trans ?_ (watt_host (m (c, main_arg6)) k d)
  blk_simp [iblk]
  entry_read
  exact congrArg _ he

/-- The projection out of the block. -/
theorem read7 (t : Fin cfg0.N) (k : Fin 1024) (d : Fin 1024) : (iblk m c 7 t : FVec Ideal S1024x1024 .bf16) (ix2 k d)
    = (m (c, main_arg7) : FVec Ideal S1x1024x1024 .f32) (ix3 0 k d) := by
  have he : (win0_7.blk t).view.emb (ix2 k d) = (ix2 k d : S1024x1024.Idx) := by
    blk_ext [idx t]
  refine Eq.trans ?_ (wout_host (m (c, main_arg7)) k d)
  blk_simp [iblk]
  entry_read
  exact congrArg _ he

/-- The second norm's gains. -/
theorem read8 (t : Fin cfg0.N) (d : Fin 1024) : (iblk m c 8 t : FVec Ideal S1x1024 .f32) (ix2 0 d)
    = (m (c, main_arg8) : FVec Ideal S1x1024 .f32) (ix2 0 d) := by
  have he : (win0_8.blk t).view.emb (ix2 0 d) = (ix2 0 d : S1x1024.Idx) := by
    blk_ext [idx t]
  refine Eq.trans ?_ (row_reshape (m (c, main_arg8)) d)
  blk_simp [iblk]
  entry_read
  exact congrArg _ he

/-- The stream a point computes. -/
def strm (t : Fin cfg0.N) : FVec Ideal S512x1024 .f32 :=
  k0_pay7 (k0_pay2 (iblk m c 0 t)) (k0_pay4 (iblk m c 2 t) (iblk m c 6 t))
    (k0_pay5 (iblk m c 0 t) (iblk m c 3 t) (iblk m c 4 t) (iblk m c 1 t) (iblk m c 5 t))
    (k0_pay6 (iblk m c 0 t) (iblk m c 3 t) (iblk m c 4 t)) (iblk m c 7 t)

/-- The tokens a point computes. -/
def toks (t : Fin cfg0.N) : FVec Ideal S512x1024 .f32 :=
  k0_pay9 (k0_pay2 (iblk m c 0 t)) (k0_pay4 (iblk m c 2 t) (iblk m c 6 t))
    (k0_pay5 (iblk m c 0 t) (iblk m c 3 t) (iblk m c 4 t) (iblk m c 1 t) (iblk m c 5 t))
    (k0_pay6 (iblk m c 0 t) (iblk m c 3 t) (iblk m c 4 t)) (iblk m c 7 t) (iblk m c 8 t)

/-- A gate of a point, from its windows. -/
theorem gate_eq (t : Fin cfg0.N) (r : Fin 512) (j : Fin 2048) (j' : Fin 4392) (hj : j'.val = 2344 + j.val) :
    Ideal.logistic (k0_pay3 (F := Ideal) (iblk m c 0 t) (iblk m c 3 t) (iblk m c 4 t) (ix2 r j))
      = gate (m (c, main_arg0)) (m (c, main_arg3)) (m (c, main_arg4)) (bt t) (tok t r) j' := by
  have e : j' = ⟨2344 + j.val, by omega⟩ := Fin.ext hj
  rw [e, pay3_apply]
  simp only [read0, read3, read4]
  rfl

/-- The stream of a point is the stream of its tokens. -/
theorem strm_apply (t : Fin cfg0.N) (r : Fin 512) (d : Fin 1024) : strm m c t (ix2 r d)
    = stream (m (c, main_arg0)) (m (c, main_arg1)) (m (c, main_arg2)) (m (c, main_arg3)) (m (c, main_arg4)) (m (c, main_arg5)) (m (c, main_arg6))
        (m (c, main_arg7)) (bt t) (tok t r) d := by
  unfold strm
  rw [pay7_apply]
  unfold stream merged proj
  refine congrArg₂ _ ?_ (Finset.sum_congr rfl fun k _ => congrArg₂ _ (congrArg₂ _ ?_ ?_) ?_)
  · rw [pay2_apply, read0]
  · rw [pay5_apply, gate_eq m c t r ⟨k.val, by omega⟩ ⟨2344 + k.val, by omega⟩ rfl]
    simp only [read1, read5]
  · rw [pay6_apply, pay4_apply, gate_eq m c t r ⟨1024 + k.val, by omega⟩ ⟨3368 + k.val, by omega⟩ (by dsimp only; omega)]
    simp only [read2, read6]
  · rw [read7]

/-- The tokens of a point are the normalised stream. -/
theorem toks_apply (t : Fin cfg0.N) (r : Fin 512) (d : Fin 1024) : toks m c t (ix2 r d)
    = token (m (c, main_arg0)) (m (c, main_arg1)) (m (c, main_arg2)) (m (c, main_arg3)) (m (c, main_arg4)) (m (c, main_arg5)) (m (c, main_arg6))
        (m (c, main_arg7)) (m (c, main_arg8)) (bt t) (tok t r) d := by
  unfold toks
  rw [pay9_apply, read8]
  unfold token
  exact congrArg (fun f => Cert.MoeSpec.rms f _ d) (funext fun k => strm_apply m c t r k)

/-- What a point stores of the stream. -/
theorem out12 (t : Fin cfg0.N) (r : Fin 512) (d : Fin 1024) :
    ((dats m 0 c).after 12 t : FVec Ideal S1x512x1024 .f32) (ix3 0 r d) = strm m c t (ix2 r d) := by
  rw [after0_12]
  unfold strm
  rw [← pay8_apply]
  frame_out
  unfold k0_pay32 k0_pay33 k0_pay34 k0_pay35
  frame_out

/-- What a point stores of the tokens. -/
theorem out13 (t : Fin cfg0.N) (r : Fin 512) (d : Fin 1024) :
    ((dats m 0 c).after 13 t : FVec Ideal S1x512x1024 .bf16) (ix3 0 r d) = toks m c t (ix2 r d) := by
  rw [after0_13]
  unfold toks
  rw [← pay10_apply]
  frame_out
  unfold k0_pay32 k0_pay33 k0_pay34 k0_pay35
  frame_out

/-- The stream after the run. -/
def result12 : S2x8192x1024.Idx → EReal := fun i =>
  stream (m (c, main_arg0)) (m (c, main_arg1)) (m (c, main_arg2)) (m (c, main_arg3)) (m (c, main_arg4)) (m (c, main_arg5)) (m (c, main_arg6))
    (m (c, main_arg7)) (i 0) (i 1) (i 2)

/-- The tokens after the run. -/
def result13 : S2x8192x1024.Idx → EReal := fun i =>
  token (m (c, main_arg0)) (m (c, main_arg1)) (m (c, main_arg2)) (m (c, main_arg3)) (m (c, main_arg4)) (m (c, main_arg5)) (m (c, main_arg6))
    (m (c, main_arg7)) (m (c, main_arg8)) (i 0) (i 1) (i 2)

/-- An index of a block is its two last coordinates. -/
theorem eta3 {n : ℕ} (y : (⟨3, ![1, 512, n]⟩ : Shape).Idx) : y = ix3 0 (y 1) (y 2) := by
  funext a; fin_cases a
  · exact Fin.ext (Nat.lt_one_iff.1 (y 0).isLt)
  · rfl
  · rfl

/-- THE KERNEL'S STREAM. -/
theorem final12 : (dats m 0 c).arrAt 12 cfg0.N = result12 m c := by
  refine (dats m 0 c).arrAt_eq_of_covers 12 (result12 m c) (by decide +kernel) fun t hf y => ?_
  blk_simp
  have he : (win0_12.blk t).view.emb y = ix3 (bt t) (tok t (y 1)) (y 2) := by
    have b0 : (y 0).val < 1 := (y 0).isLt
    have b1 : (y 1).val < 512 := (y 1).isLt
    have b2 : (y 2).val < 1024 := (y 2).isLt
    unfold bt tok
    blk_ext [idx t]
  rw [he]
  exact (congrArg ((dats m 0 c).after 12 t) (eta3 y)).trans ((out12 m c t (y 1) (y 2)).trans (strm_apply m c t (y 1) (y 2)))

/-- THE KERNEL'S TOKENS. -/
theorem final13 : (dats m 0 c).arrAt 13 cfg0.N = result13 m c := by
  refine (dats m 0 c).arrAt_eq_of_covers 13 (result13 m c) (by decide +kernel) fun t hf y => ?_
  blk_simp
  have he : (win0_13.blk t).view.emb y = ix3 (bt t) (tok t (y 1)) (y 2) := by
    have b0 : (y 0).val < 1 := (y 0).isLt
    have b1 : (y 1).val < 512 := (y 1).isLt
    have b2 : (y 2).val < 1024 := (y 2).isLt
    unfold bt tok
    blk_ext [idx t]
  rw [he]
  exact (congrArg ((dats m 0 c).after 13 t) (eta3 y)).trans ((out13 m c t (y 1) (y 2)).trans (toks_apply m c t (y 1) (y 2)))

end Cert.MergeIdeal.Array

end
-- ==== Proof.MergeRef.lean ====
/- The merge reference's steps: the norm, the gates, the projections, and the stream they make. -/
module

public import proofs.«01_k».proof.Proof.Gen.MergeRefIdeal.Run
public import proofs.«01_k».proof.Proof.MergeSpec
public import Idealize.ShloMosaic.Lib.Pointwise

@[expose] public section

set_option maxRecDepth 16384

noncomputable section

namespace Cert.MergeRefIdeal.Steps

open Cert.MergeRefIdeal Cert.MergeRefIdeal.Gen Idealize.ShloMosaic Idealize.ShloMosaic.TcCoe Idealize.SL.Sem

variable {F : FTy → Type} [FloatOps F]

/-- The norm of a stream. -/
def norm (h : FVec F S2x8192x1024 .f32) (g : FVec F S1x1024 .f32) : FVec F S2x8192x1024 .f32 :=
  mulf (mulf h (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf h h) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32))))))
    (broadcastInDim S2x8192x1024 ![0, 1, 2] bcast_S1x1x1024_S2x8192x1024_0_1_2 (broadcastInDim S1x1x1024 ![2] bcast_S1024_S1x1x1024_2 (shapeCast _ g shapeCasts_S1x1024_S1024)))

/-- A product with 1024 columns of the projections. -/
def cols (o : Fin 3 → ℕ) (hs : S1x1024x4392.Slices o S1x1024x1024) (u : FVec F S2x8192x1024 .f32) (w : FVec F S1x1024x4392 .f32) : FVec F S2x8192x1024 .f32 :=
  Host.dotGeneral dot_S2x8192x1024_S1024x1024_S2x8192x1024_2_0_01_1_n_n none u (shapeCast _ (extractStridedSlice S1x1024x1024 o w hs) shapeCasts_S1x1024x1024_S1024x1024)

/-- The sigmoid. -/
def sigm (a : FVec F S2x8192x1024 .f32) : FVec F S2x8192x1024 .f32 :=
  Host.divf (broadcastInDim S2x8192x1024 ![] bcast_S_S2x8192x1024 (constant S_ .f32 0x3F800000#32)) (addf (broadcastInDim S2x8192x1024 ![] bcast_S_S2x8192x1024 (constant S_ .f32 0x3F800000#32)) (Host.exp (Host.negf a)))

/-- An attention's output, projected. -/
def proj (y : FVec F S2x512x8192 .bf16) (w : FVec F S1x512x1024 .f32) : FVec F S2x8192x1024 .f32 :=
  Host.dotGeneral dot_S2x8192x512_S512x1024_S2x8192x1024_2_0_01_1_n_n none (transpose S2x8192x512 [0, 2, 1] (extf .f32 y bitsLt_bf16_f32) transposes_S2x512x8192_S2x8192x512_0_2_1) (shapeCast _ w shapeCasts_S1x512x1024_S512x1024)

/-- The projection out of the block, added to the stream. -/
def join (x mg : FVec F S2x8192x1024 .f32) (wo : FVec F S1x1024x1024 .f32) : FVec F S2x8192x1024 .f32 :=
  addf x (Host.dotGeneral dot_S2x8192x1024_S1024x1024_S2x8192x1024_2_0_01_1_n_n none mg (shapeCast _ wo shapeCasts_S1x1024x1024_S1024x1024))

/-- The stream after the attentions. -/
def stream (x : FVec F S2x8192x1024 .f32) (ya yb : FVec F S2x512x8192 .bf16) (g : FVec F S1x1024 .f32) (w : FVec F S1x1024x4392 .f32)
    (wa wb : FVec F S1x512x1024 .f32) (wo : FVec F S1x1024x1024 .f32) : FVec F S2x8192x1024 .f32 :=
  join x (addf (mulf (sigm (cols ![0, 0, 2344] slices_S1x1024x4392_S1x1024x1024_0_0_2344 (norm x g) w)) (proj ya wa))
    (mulf (sigm (cols ![0, 0, 3368] slices_S1x1024x4392_S1x1024x1024_0_0_3368 (norm x g) w)) (proj yb wb))) wo

/-- The reference's tokens are the norm of its stream. -/
theorem token_eq (m : (ℓ : Loc nD τ sig) → Buf (Elt F) ℓ) (c : Dev nD) :
    Value.res_main_v60 m c = truncf .bf16 (norm (stream (m (c, main_arg0)) (m (c, main_arg1)) (m (c, main_arg2)) (m (c, main_arg3))
      (m (c, main_arg4)) (m (c, main_arg5)) (m (c, main_arg6)) (m (c, main_arg7))) (m (c, main_arg8))) bitsLt_bf16_f32 := by
  unfold Value.res_main_v60 stream join sigm cols proj norm
  rfl

/-- The norm at an index. -/
theorem norm_apply (h : FVec Ideal S2x8192x1024 .f32) (g : FVec Ideal S1x1024 .f32) (b : Fin 2) (s : Fin 8192) (d : Fin 1024) :
    norm h g (ix3 b s d) = Cert.MoeSpec.rms (fun k => h (ix3 b s k)) (g (ix2 0 d)) d := by
  pointwise [norm]
  rfl

/-- The gates' columns at an index. -/
theorem cols_apply (o : ℕ) (ho : o ≤ 3368) (hs : S1x1024x4392.Slices ![0, 0, o] S1x1024x1024) (u : FVec Ideal S2x8192x1024 .f32) (w : FVec Ideal S1x1024x4392 .f32)
    (b : Fin 2) (s : Fin 8192) (d : Fin 1024) : cols ![0, 0, o] hs u w (ix3 b s d) = ∑ k : Fin 1024, u (ix3 b s k) * w (ix3 0 k ⟨o + d.val, by omega⟩) := by
  pointwise [cols]

/-- The sigmoid at an index. -/
theorem sigm_apply (a : FVec Ideal S2x8192x1024 .f32) (b : Fin 2) (s : Fin 8192) (d : Fin 1024) :
    sigm a (ix3 b s d) = Ideal.logistic (a (ix3 b s d)) := by
  pointwise [sigm]
  rfl

/-- A projection at an index. -/
theorem proj_apply (y : FVec Ideal S2x512x8192 .bf16) (w : FVec Ideal S1x512x1024 .f32) (b : Fin 2) (s : Fin 8192) (d : Fin 1024) :
    proj y w (ix3 b s d) = Cert.MergeSpec.proj y w b s d := by
  pointwise [proj]
  rfl

/-- The stream's last step at an index. -/
theorem join_apply (x mg : FVec Ideal S2x8192x1024 .f32) (wo : FVec Ideal S1x1024x1024 .f32) (b : Fin 2) (s : Fin 8192) (d : Fin 1024) :
    join x mg wo (ix3 b s d) = (x (ix3 b s d) + ∑ k : Fin 1024, mg (ix3 b s k) * wo (ix3 0 k d) : EReal) := by
  pointwise [join]

/-- The reference's stream at an index. -/
theorem stream_apply (x : FVec Ideal S2x8192x1024 .f32) (ya yb : FVec Ideal S2x512x8192 .bf16) (g : FVec Ideal S1x1024 .f32) (w : FVec Ideal S1x1024x4392 .f32)
    (wa wb : FVec Ideal S1x512x1024 .f32) (wo : FVec Ideal S1x1024x1024 .f32) (b : Fin 2) (s : Fin 8192) (d : Fin 1024) :
    stream x ya yb g w wa wb wo (ix3 b s d) = Cert.MergeSpec.stream x ya yb g w wa wb wo b s d := by
  unfold stream
  rw [join_apply]
  unfold Cert.MergeSpec.stream
  refine congrArg _ (Finset.sum_congr rfl fun k _ => congrArg (· * _) ?_)
  show ((sigm (F := Ideal) _ (ix3 b s k) : EReal) * (proj (F := Ideal) ya wa (ix3 b s k) : EReal) + (sigm (F := Ideal) _ (ix3 b s k) : EReal) * (proj (F := Ideal) yb wb (ix3 b s k) : EReal) : EReal) = _
  rw [sigm_apply, sigm_apply, proj_apply, proj_apply, cols_apply 2344 (by norm_num), cols_apply 3368 (by norm_num)]
  simp only [norm_apply]
  rfl

/-- The reference's tokens at an index. -/
theorem token_apply (x : FVec Ideal S2x8192x1024 .f32) (ya yb : FVec Ideal S2x512x8192 .bf16) (g : FVec Ideal S1x1024 .f32) (w : FVec Ideal S1x1024x4392 .f32)
    (wa wb : FVec Ideal S1x512x1024 .f32) (wo : FVec Ideal S1x1024x1024 .f32) (fn : FVec Ideal S1x1024 .f32) (b : Fin 2) (s : Fin 8192) (d : Fin 1024) :
    truncf .bf16 (norm (stream x ya yb g w wa wb wo) fn) bitsLt_bf16_f32 (ix3 b s d) = Cert.MergeSpec.token x ya yb g w wa wb wo fn b s d := by
  show norm (stream x ya yb g w wa wb wo) fn (ix3 b s d) = _
  rw [norm_apply]
  unfold Cert.MergeSpec.token
  simp only [stream_apply]

end Cert.MergeRefIdeal.Steps

end
-- ==== Proof.MergeFinal.lean ====
/- The merge's claim: at the ideal instance, the kernel's stream and tokens and the reference's are the same. -/
module

public import proofs.«01_k».proof.Proof.MergeArray
public import proofs.«01_k».proof.Proof.MergeRef
public import proofs.«01_k».proof.Defs
public import Idealize.ShloMosaic.Lib.Claim

@[expose] public section

set_option maxRecDepth 16384

noncomputable section

namespace Cert.MergeFinal

open Idealize.ShloMosaic Idealize.ShloMosaic.TcCoe Idealize.SL.Sem

/-- An index is its three coordinates. -/
theorem eta (i : Cert.MergeIdeal.S2x8192x1024.Idx) : i = ix3 (i 0) (i 1) (i 2) := by
  funext a; fin_cases a <;> rfl

variable (m : (ℓ : Loc Cert.MergeIdeal.nD Cert.MergeIdeal.τ Cert.MergeIdeal.sig) → Buf (Elt Ideal) ℓ) (c : Dev Cert.MergeIdeal.nD)

/-- The reference's stream, of equal arguments, is the kernel's array. -/
theorem stream_eq :
    Cert.MergeRefIdeal.Steps.stream (F := Ideal) (m (c, Cert.MergeIdeal.main_arg0)) (m (c, Cert.MergeIdeal.main_arg1)) (m (c, Cert.MergeIdeal.main_arg2))
      (m (c, Cert.MergeIdeal.main_arg3)) (m (c, Cert.MergeIdeal.main_arg4)) (m (c, Cert.MergeIdeal.main_arg5)) (m (c, Cert.MergeIdeal.main_arg6))
      (m (c, Cert.MergeIdeal.main_arg7)) = Cert.MergeIdeal.Array.result12 m c := by
  funext i
  exact (congrArg _ (eta i)).trans (Cert.MergeRefIdeal.Steps.stream_apply _ _ _ _ _ _ _ _ (i 0) (i 1) (i 2))

/-- The reference's tokens, of equal arguments, are the kernel's array. -/
theorem token_eq :
    truncf (F := Ideal) .bf16 (Cert.MergeRefIdeal.Steps.norm (F := Ideal) (Cert.MergeRefIdeal.Steps.stream (F := Ideal) (m (c, Cert.MergeIdeal.main_arg0))
      (m (c, Cert.MergeIdeal.main_arg1)) (m (c, Cert.MergeIdeal.main_arg2)) (m (c, Cert.MergeIdeal.main_arg3)) (m (c, Cert.MergeIdeal.main_arg4))
      (m (c, Cert.MergeIdeal.main_arg5)) (m (c, Cert.MergeIdeal.main_arg6)) (m (c, Cert.MergeIdeal.main_arg7))) (m (c, Cert.MergeIdeal.main_arg8)))
      Cert.MergeRefIdeal.Gen.bitsLt_bf16_f32 = Cert.MergeIdeal.Array.result13 m c := by
  funext i
  exact (congrArg _ (eta i)).trans (Cert.MergeRefIdeal.Steps.token_apply _ _ _ _ _ _ _ _ _ (i 0) (i 1) (i 2))

set_option maxHeartbeats 1600000 in
/-- THE MERGE'S CLAIM. -/
theorem algebraic : Cert.algebraic_MergeIdeal_MergeRefIdeal := by
  pair_intro
  · run_from Cert.MergeIdeal.Value.run_blocks m g
  · run_from Cert.MergeRefIdeal.Value.run m' g'
    · exact (stream_eq m c).trans (Cert.MergeIdeal.Array.final12 m c).symm
    · refine (Cert.MergeRefIdeal.Steps.token_eq m' c).trans ?_
      obtain ⟨e0, e1, e2, e3, e4, e5, e6, e7, e8, -⟩ := hagree c
      rw [e0, e1, e2, e3, e4, e5, e6, e7, e8]
      exact (token_eq m c).trans (Cert.MergeIdeal.Array.final13 m c).symm

end Cert.MergeFinal

end
-- ==== Proof.ProjSpec.lean ====
/- The mathematics of the projections: every token is normalised and projected; the latent attention's queries, keys and values come
   out of two further norms and projections, with rotated lanes; the forgetting attention's values out of the first projection. -/
module

public import proofs.«01_k».proof.Proof.MoeSpec

@[expose] public section

set_option maxRecDepth 16384

noncomputable section

namespace Cert.ProjSpec

open Idealize.ShloMosaic Cert.MoeSpec

/-- The residual stream: two batches of 8192 tokens. -/
abbrev RES3 : Type := FVec Ideal ⟨3, ![2, 8192, 1024]⟩ .f32
/-- The gains of a norm over 1024, 512 and 256 features. -/
abbrev ROW (n : ℕ) : Type := FVec Ideal ⟨2, ![1, n]⟩ .f32
/-- The projections into the block. -/
abbrev WIN : Type := FVec Ideal ⟨3, ![1, 1024, 4392]⟩ .f32
/-- The projection out of the queries' latent space. -/
abbrev WQ : Type := FVec Ideal ⟨3, ![1, 512, 768]⟩ .f32
/-- The projection out of the keys' and values' latent space. -/
abbrev WKV : Type := FVec Ideal ⟨3, ![1, 256, 1024]⟩ .f32

/-- The norm of `n` features, the width given by its word. -/
def rmsn {n : ℕ} (width : BitVec 32) (s : Fin n → EReal) (g : EReal) (d : Fin n) : EReal :=
  s d * Ideal.rsqrt (Ideal.div (∑ k, s k * s k) (Ideal.ofBits .f32 width) + Ideal.ofBits .f32 0x358637BD#32) * g

/-- One feature of a normalised token's projection. -/
def col (x : RES3) (g : ROW 1024) (w : WIN) (b : Fin 2) (s : Fin 8192) (j : Fin 4392) : EReal :=
  ∑ k : Fin 1024, rms (fun k => x (ix3 b s k)) (g (ix2 0 k)) k * w (ix3 0 k j)

/-- The queries before the rotation: 96 features for each of the eight heads. -/
def query (x : RES3) (g : ROW 1024) (w : WIN) (qn : ROW 512) (wq : WQ) (b : Fin 2) (s : Fin 8192) (j : Fin 768) : EReal :=
  ∑ k : Fin 512, rmsn 0x44000000#32 (fun k : Fin 512 => col x g w b s ⟨k.val, by omega⟩) (qn (ix2 0 k)) k * wq (ix3 0 k j)

/-- The keys without their rotated features and the values: 128 features for each head. -/
def keyval (x : RES3) (g : ROW 1024) (w : WIN) (kvn : ROW 256) (wkv : WKV) (b : Fin 2) (s : Fin 8192) (j : Fin 1024) : EReal :=
  ∑ k : Fin 256, rmsn 0x43800000#32 (fun k : Fin 256 => col x g w b s ⟨512 + k.val, by omega⟩) (kvn (ix2 0 k)) k * wkv (ix3 0 k j)

/-- The angle of a token for a pair of features: its position, 16 on, times a power of 10000. -/
def angle (s : Fin 8192) (i : Fin 16) : EReal :=
  (((BitVec.ofNat 32 (16 + s.val)).toInt : ℝ) : EReal)
    * Ideal.pow (Ideal.ofBits .f32 0x461C4000#32)
        (Ideal.div (-(Ideal.ofBits .f32 0x40000000#32 * (((BitVec.ofNat 32 i.val).toInt : ℝ) : EReal))) (Ideal.ofBits .f32 0x42000000#32))

/-- 32 features rotated: feature `i` and feature `i + 16` are a pair. -/
def rope (v : Fin 32 → EReal) (s : Fin 8192) (i : Fin 32) : EReal :=
  if h : i.val < 16 then v i * Ideal.cos (angle s ⟨i.val, h⟩) - v ⟨i.val + 16, by omega⟩ * Ideal.sin (angle s ⟨i.val, h⟩)
  else v ⟨i.val - 16, by omega⟩ * Ideal.sin (angle s ⟨i.val - 16, by omega⟩) + v i * Ideal.cos (angle s ⟨i.val - 16, by omega⟩)

/-- A lane of a head's query: 64 features as they are, 32 rotated, 32 zeros; all scaled. -/
def qlane (x : RES3) (g : ROW 1024) (w : WIN) (qn : ROW 512) (wq : WQ) (b : Fin 2) (h : Fin 8) (s : Fin 8192) (l : Fin 128) : EReal :=
  if h1 : l.val < 64 then query x g w qn wq b s ⟨96 * h.val + l.val, by omega⟩ * Ideal.ofBits .f32 0x3E16C740#32
  else if h2 : l.val < 96 then
    rope (fun i => query x g w qn wq b s ⟨96 * h.val + 64 + i.val, by omega⟩) s ⟨l.val - 64, by omega⟩ * Ideal.ofBits .f32 0x3E16C740#32
  else 0

/-- A lane of a head's key: 64 features of its own, 32 rotated that all heads share, 32 zeros. -/
def klane (x : RES3) (g : ROW 1024) (w : WIN) (kvn : ROW 256) (wkv : WKV) (b : Fin 2) (h : Fin 8) (s : Fin 8192) (l : Fin 128) : EReal :=
  if h1 : l.val < 64 then keyval x g w kvn wkv b s ⟨128 * h.val + l.val, by omega⟩
  else if h2 : l.val < 96 then rope (fun i => col x g w b s ⟨768 + i.val, by omega⟩) s ⟨l.val - 64, by omega⟩
  else 0

/-- A feature of a head's value in the latent attention. -/
def vlane (x : RES3) (g : ROW 1024) (w : WIN) (kvn : ROW 256) (wkv : WKV) (b : Fin 2) (h : Fin 8) (s : Fin 8192) (e : Fin 64) : EReal :=
  keyval x g w kvn wkv b s ⟨128 * h.val + 64 + e.val, by omega⟩

/-- A feature of a head's value in the forgetting attention. -/
def flane (x : RES3) (g : ROW 1024) (w : WIN) (b : Fin 2) (h : Fin 8) (s : Fin 8192) (e : Fin 64) : EReal :=
  col x g w b s ⟨1824 + 64 * h.val + e.val, by omega⟩

end Cert.ProjSpec

end
-- ==== Proof.ProjBlock.lean ====
/- The projection kernel's stored values for a block of tokens, entry by entry. -/
module

public import proofs.«01_k».proof.Proof.Gen.ProjIdeal.Skeleton
public import proofs.«01_k».proof.Proof.ProjSpec
public import Idealize.ShloMosaic.Lib.Pointwise
public import Idealize.ShloMosaic.Lib.Pipeline.ValueKit
public import Idealize.ShloMosaic.Lib.WordCmp

@[expose] public section

set_option maxRecDepth 16384

noncomputable section

namespace Cert.ProjIdeal.Block

open Cert.ProjIdeal Cert.ProjIdeal.Gen Cert.MoeSpec Cert.ProjSpec
open Idealize.ShloMosaic Idealize.ShloMosaic.TcCoe Idealize.SL.Sem

set_option maxHeartbeats 1600000 in
/-- The normalised tokens. -/
theorem pay4_apply (x : FVec Ideal S1x512x1024 .f32) (g : FVec Ideal S1x1024 .f32) (r : Fin 512) (k : Fin 1024) :
    k0_pay4 (F := Ideal) x g (ix2 r k) = rms (fun k => x (ix3 0 r k)) (g (ix2 0 k)) k := by
  pointwise [k0_pay4]
  rfl

set_option maxHeartbeats 1600000 in
/-- The first projection. -/
theorem pay5_apply (x : FVec Ideal S1x512x1024 .f32) (g : FVec Ideal S1x1024 .f32) (w : FVec Ideal S1024x3072 .bf16) (r : Fin 512) (j : Fin 3072) :
    k0_pay5 (F := Ideal) x g w (ix2 r j) = ∑ k : Fin 1024, rms (fun k => x (ix3 0 r k)) (g (ix2 0 k)) k * w (ix2 k j) := by
  simp only [← pay4_apply]
  pointwise [k0_pay5]

set_option maxHeartbeats 1600000 in
/-- The queries before the rotation, 128 lanes for each head. -/
theorem pay16_apply (x : FVec Ideal S1x512x1024 .f32) (g : FVec Ideal S1x1024 .f32) (w : FVec Ideal S1024x3072 .bf16) (qn : FVec Ideal S1x512 .f32)
    (wq : FVec Ideal S512x1024 .bf16) (r : Fin 512) (j : Fin 1024) :
    k0_pay16 (F := Ideal) (k0_pay6 x g w) (k0_pay14 qn) (k0_pay15 x g w) wq (ix2 r j)
      = ∑ k : Fin 512, rmsn 0x44000000#32 (fun k : Fin 512 => k0_pay5 (F := Ideal) x g w (ix2 r ⟨k.val, by omega⟩)) (qn (ix2 0 k)) k * wq (ix2 k j) := by
  pointwise [k0_pay16, k0_pay6, k0_pay14, k0_pay15]
  rfl

set_option maxHeartbeats 1600000 in
/-- The keys' and values' latent features, normalised. -/
theorem pay17_apply (x : FVec Ideal S1x512x1024 .f32) (g : FVec Ideal S1x1024 .f32) (w : FVec Ideal S1024x3072 .bf16) (kvn : FVec Ideal S1x256 .f32)
    (r : Fin 512) (k : Fin 256) :
    k0_pay17 (F := Ideal) (k0_pay7 x g w) kvn (ix2 r k)
      = rmsn 0x43800000#32 (fun k : Fin 256 => k0_pay5 (F := Ideal) x g w (ix2 r ⟨512 + k.val, by omega⟩)) (kvn (ix2 0 k)) k := by
  pointwise [k0_pay17, k0_pay7]
  rfl

set_option maxHeartbeats 1600000 in
/-- The keys without their rotated lanes. -/
theorem pay18_apply (v24 : FVec Ideal S512x256 .f32) (kvn : FVec Ideal S1x256 .f32) (wk : FVec Ideal S256x1024 .bf16) (r : Fin 512) (j : Fin 1024) :
    k0_pay18 (F := Ideal) v24 kvn wk (ix2 r j) = ∑ k : Fin 256, k0_pay17 (F := Ideal) v24 kvn (ix2 r k) * wk (ix2 k j) := by
  pointwise [k0_pay18]

set_option maxHeartbeats 1600000 in
/-- The latent attention's values, features before tokens. -/
theorem pay42_apply (v65 : FVec Ideal S512x256 .bf16) (wv : FVec Ideal S512x256 .bf16) (j r : Fin 512) :
    k0_pay42 (F := Ideal) v65 wv (ix2 j r) = ∑ k : Fin 256, wv (ix2 j k) * v65 (ix2 r k) := by
  pointwise [k0_pay42]

set_option maxHeartbeats 1600000 in
/-- The forgetting attention's values, features before tokens. -/
theorem pay85_apply (v19 : FVec Ideal S512x1024 .bf16) (wf : FVec Ideal S512x1024 .bf16) (j r : Fin 512) :
    k0_pay85 (F := Ideal) v19 wf (ix2 j r) = ∑ k : Fin 1024, wf (ix2 j k) * v19 (ix2 r k) := by
  pointwise [k0_pay85]

/-- A block's lanes rotated: cosine times the lane, sine times its partner. -/
def tile (v c s : FVec Ideal S512x128 .f32) : FVec Ideal S512x128 .f32 :=
  addf (mulf v c) (mulf (select (cmpi .slt (iota .tc S512x128 32 [1] iota_S512x128_d1_w32) (broadcast S512x128 80#32))
    (dynamicRotate 1 112#32 none v rotates_S512x128_d1) (dynamicRotate 1 16#32 none v rotates_S512x128_d1)) s)

/-- A head of the queries as stored: its 128 lanes rotated and scaled. -/
def headQ (o : Fin 2 → ℕ) (hs : S512x1024.Slices o S512x128) (c s : FVec Ideal S512x128 .f32) (q : FVec Ideal S512x1024 .f32) : FVec Ideal S1x1x512x128 .bf16 :=
  shapeCast S1x1x512x128 (truncf .bf16 (mulf (tile (extractStridedSlice S512x128 o q hs) c s) (broadcast S512x128 (Scalar.ofBits .f32 0x3E16C740#32))) bitsLt_bf16_f32) shapeCasts_S512x128_S1x1x512x128

/-- A head of the keys as stored: its lanes, and the rotated ones all heads share. -/
def headK (o : Fin 2 → ℕ) (hs : S512x1024.Slices o S512x128) (kb : FVec Ideal S512x1024 .f32) (kr : FVec Ideal S512x128 .f32) : FVec Ideal S1x1x512x128 .bf16 :=
  shapeCast S1x1x512x128 (truncf .bf16 (addf (extractStridedSlice S512x128 o kb hs) kr) bitsLt_bf16_f32) shapeCasts_S512x128_S1x1x512x128

/-- A head of the values as stored. -/
def headV (o : Fin 2 → ℕ) (hs : S512x512.Slices o S64x512) (v : FVec Ideal S512x512 .f32) : FVec Ideal S1x1x1x64x512 .bf16 :=
  shapeCast S1x1x1x64x512 (truncf .bf16 (extractStridedSlice S64x512 o v hs) bitsLt_bf16_f32) shapeCasts_S64x512_S1x1x1x64x512

/-- The partner of a lane. -/
def partner (l : Fin 128) : Fin 128 := if l.val < 80 then ⟨(l.val + 16) % 128, Nat.mod_lt _ (by norm_num)⟩ else ⟨l.val - 16, by omega⟩

set_option maxHeartbeats 1600000 in
/-- The rotated lanes at an index. -/
theorem tile_apply (v c s : FVec Ideal S512x128 .f32) (r : Fin 512) (l : Fin 128) :
    tile v c s (ix2 r l) = (v (ix2 r l) * c (ix2 r l) + v (ix2 r (partner l)) * s (ix2 r l) : EReal) := by
  unfold partner
  pointwise [tile]
  refine congrArg₂ _ rfl (congrArg₂ _ ?_ rfl)
  by_cases hl : l.val < 80
  · rw [if_pos hl, WordCmp.cmpi_slt_ofNat (w := 32) (a := l.val) (b := 80) (by norm_num; omega) (by norm_num), decide_eq_true hl]
    exact congrArg (fun q => v (ix2 r q)) (Fin.ext (by dsimp only; omega))
  · rw [if_neg hl, WordCmp.cmpi_slt_ofNat (w := 32) (a := l.val) (b := 80) (by norm_num; omega) (by norm_num), decide_eq_false hl]
    exact congrArg (fun q => v (ix2 r q)) (Fin.ext (by dsimp only; omega))

set_option maxHeartbeats 1600000 in
/-- A head of the queries at an index. -/
theorem headQ_apply (h : Fin 8) (hs : S512x1024.Slices ![0, 128 * h.val] S512x128) (c s : FVec Ideal S512x128 .f32) (q : FVec Ideal S512x1024 .f32) (r : Fin 512) (l : Fin 128) :
    headQ ![0, 128 * h.val] hs c s q (ix4 0 0 r l)
      = ((q (ix2 r ⟨128 * h.val + l.val, by omega⟩) * c (ix2 r l) + q (ix2 r ⟨128 * h.val + (partner l).val, by omega⟩) * s (ix2 r l)) * Ideal.ofBits .f32 0x3E16C740#32 : EReal) := by
  have e (l : Fin 128) : extractStridedSlice S512x128 ![0, 128 * h.val] q hs (ix2 r l) = q (ix2 r ⟨128 * h.val + l.val, by omega⟩) := by
    pointwise []
  rw [← e l, ← e (partner l), ← tile_apply]
  pointwise [headQ]

set_option maxHeartbeats 1600000 in
/-- A head of the keys at an index. -/
theorem headK_apply (h : Fin 8) (hs : S512x1024.Slices ![0, 128 * h.val] S512x128) (kb : FVec Ideal S512x1024 .f32) (kr : FVec Ideal S512x128 .f32) (r : Fin 512) (l : Fin 128) :
    headK ![0, 128 * h.val] hs kb kr (ix4 0 0 r l) = (kb (ix2 r ⟨128 * h.val + l.val, by omega⟩) + kr (ix2 r l) : EReal) := by
  pointwise [headK]

set_option maxHeartbeats 1600000 in
/-- A head of the values at an index. -/
theorem headV_apply (h : Fin 8) (hs : S512x512.Slices ![64 * h.val, 0] S64x512) (v : FVec Ideal S512x512 .f32) (e : Fin 64) (r : Fin 512) :
    headV ![64 * h.val, 0] hs v (ix5 0 0 0 e r) = v (ix2 ⟨64 * h.val + e.val, by omega⟩ r) := by
  pointwise [headV]

end Cert.ProjIdeal.Block

end
-- ==== Proof.ProjHost.lean ====
/- What the projection kernel is handed of its weights: columns padded with zeros up to 128 lanes for each head, values' columns as
   rows, and the tables of the rotation. -/
module

public import proofs.«01_k».proof.Proof.Gen.ProjIdeal.Skeleton
public import proofs.«01_k».proof.Proof.ProjSpec
public import Idealize.ShloMosaic.Lib.Pointwise

@[expose] public section

set_option maxRecDepth 16384

noncomputable section

namespace Cert.ProjIdeal.Host

open Cert.ProjIdeal Cert.ProjIdeal.Gen Cert.ProjSpec
open Idealize.ShloMosaic Idealize.ShloMosaic.TcCoe Idealize.SL.Sem

/-- The integer zero as the padding's value. -/
def zero : FVec Ideal S_ .f32 := sitofp .f32 (constantI S_ 32 0#32)

/-- The padding's value is zero. -/
theorem zero_apply (i : S_.Idx) : zero i = (0 : EReal) := by
  show (((0#32 : BitVec 32).toInt : ℝ) : EReal) = 0
  norm_num

/-- The first projection's weights as a matrix. -/
def mat (w : FVec Ideal S1x1024x4392 .f32) : FVec Ideal S1024x4392 .f32 := shapeCast S1024x4392 w shapeCasts_S1x1024x4392_S1024x4392

/-- Eight heads of 64 columns, each filled up to 128. -/
def pad64 (w : FVec Ideal S1024x512 .f32) : FVec Ideal S1024x1024 .f32 :=
  shapeCast S1024x1024 (pad S1024x8x128 ![0, 0, 0] ![0, 0, 64] ![0, 0, 0] (shapeCast S1024x8x64 w shapeCasts_S1024x512_S1024x8x64) zero pads_S1024x8x64_S1024x8x128_000_000_0640 h_S_) shapeCasts_S1024x8x128_S1024x1024

/-- The columns the kernel's first product takes. -/
def wa (w : FVec Ideal S1x1024x4392 .f32) : FVec Ideal S1024x3072 .bf16 :=
  truncf .bf16 (concatenate S1024x3072 1 [⟨S1024x512, extractStridedSlice S1024x512 ![0, 0] (mat w) slices_S1024x4392_S1024x512_0_0⟩,
    ⟨S1024x256, extractStridedSlice S1024x256 ![0, 512] (mat w) slices_S1024x4392_S1024x256_0_512⟩,
    ⟨S1024x64, broadcastInDim S1024x64 ![] bcast_S_S1024x64 (constant S_ .f32 0x00000000#32)⟩,
    ⟨S1024x32, extractStridedSlice S1024x32 ![0, 768] (mat w) slices_S1024x4392_S1024x32_0_768⟩,
    ⟨S1024x32, broadcastInDim S1024x32 ![] bcast_S_S1024x32 (constant S_ .f32 0x00000000#32)⟩,
    ⟨S1024x8, extractStridedSlice S1024x8 ![0, 2336] (mat w) slices_S1024x4392_S1024x8_0_2336⟩,
    ⟨S1024x120, broadcastInDim S1024x120 ![] bcast_S_S1024x120 (constant S_ .f32 0x00000000#32)⟩,
    ⟨S1024x1024, pad64 (extractStridedSlice S1024x512 ![0, 800] (mat w) slices_S1024x4392_S1024x512_0_800)⟩,
    ⟨S1024x1024, pad64 (extractStridedSlice S1024x512 ![0, 1312] (mat w) slices_S1024x4392_S1024x512_0_1312)⟩]
    concatenates_S1024x512_S1024x256_S1024x64_S1024x32_S1024x32_S1024x8_S1024x120_S1024x1024_S1024x1024_S1024x3072_d1) bitsLt_bf16_f32

set_option maxHeartbeats 1600000 in
/-- The first 768 columns are the argument's. -/
theorem wa_low (w : FVec Ideal S1x1024x4392 .f32) (k : Fin 1024) (j : Fin 3072) (hj : j.val < 768) : wa w (ix2 k j) = w (ix3 0 k ⟨j.val, by omega⟩) := by
  unfold wa mat
  pointwise []
  by_cases h0 : j.val < 512
  · rw [dif_pos h0]
  · rw [dif_neg h0, dif_pos (by omega)]
    exact congrArg (fun q => w (ix3 0 k q)) (Fin.ext (by dsimp only; omega))

set_option maxHeartbeats 1600000 in
/-- Then come 64 columns of zeros. -/
theorem wa_zero (w : FVec Ideal S1x1024x4392 .f32) (k : Fin 1024) (j : Fin 3072) (h0 : 768 ≤ j.val) (hj : j.val < 832) : wa w (ix2 k j) = (0 : EReal) := by
  unfold wa mat
  pointwise []
  rw [dif_neg (by omega), dif_neg (by omega), dif_pos (by omega)]

set_option maxHeartbeats 1600000 in
/-- Then the 32 columns of the key's rotated features. -/
theorem wa_rope (w : FVec Ideal S1x1024x4392 .f32) (k : Fin 1024) (j : Fin 3072) (h0 : 832 ≤ j.val) (hj : j.val < 864) :
    wa w (ix2 k j) = w (ix3 0 k ⟨j.val - 64, by omega⟩) := by
  unfold wa mat
  pointwise []
  rw [dif_neg (by omega), dif_neg (by omega), dif_neg (by omega), dif_pos (by omega)]
  exact congrArg (fun q => w (ix3 0 k q)) (Fin.ext (by dsimp only; omega))

/-- The queries' weights. -/
def wq (w : FVec Ideal S1x512x768 .f32) : FVec Ideal S512x1024 .bf16 :=
  truncf .bf16 (shapeCast S512x1024 (pad S512x8x128 ![0, 0, 0] ![0, 0, 32] ![0, 0, 0] (shapeCast S512x8x96 (shapeCast S512x768 w shapeCasts_S1x512x768_S512x768) shapeCasts_S512x768_S512x8x96) zero
    pads_S512x8x96_S512x8x128_000_000_0320 h_S_) shapeCasts_S512x8x128_S512x1024) bitsLt_bf16_f32

set_option maxHeartbeats 1600000 in
/-- A head's first 96 lanes are its columns. -/
theorem wq_apply (w : FVec Ideal S1x512x768 .f32) (k : Fin 512) (h : Fin 8) (l : Fin 128) (hl : l.val < 96) :
    wq w (ix2 k ⟨128 * h.val + l.val, by omega⟩) = w (ix3 0 k ⟨96 * h.val + l.val, by omega⟩) := by
  pointwise [wq]
  rw [dif_pos hl]
  exact congrArg (fun q => w (ix3 0 k q)) (Fin.ext (by dsimp only; omega))

/-- The keys' and values' weights, 128 columns for each head. -/
def kv3 (w : FVec Ideal S1x256x1024 .f32) : FVec Ideal S256x8x128 .f32 :=
  shapeCast S256x8x128 (shapeCast S256x1024 w shapeCasts_S1x256x1024_S256x1024) shapeCasts_S256x1024_S256x8x128

/-- The keys' weights. -/
def wk (w : FVec Ideal S1x256x1024 .f32) : FVec Ideal S256x1024 .bf16 :=
  truncf .bf16 (shapeCast S256x1024 (pad S256x8x128 ![0, 0, 0] ![0, 0, 64] ![0, 0, 0]
    (shapeCast S256x8x64 (shapeCast S256x512 (extractStridedSlice S256x8x64 ![0, 0, 0] (kv3 w) slices_S256x8x128_S256x8x64_0_0_0) shapeCasts_S256x8x64_S256x512) shapeCasts_S256x512_S256x8x64)
    zero pads_S256x8x64_S256x8x128_000_000_0640 h_S_) shapeCasts_S256x8x128_S256x1024) bitsLt_bf16_f32

set_option maxHeartbeats 1600000 in
/-- A head's first 64 lanes are its columns, the others zero. -/
theorem wk_apply (w : FVec Ideal S1x256x1024 .f32) (k : Fin 256) (h : Fin 8) (l : Fin 128) :
    wk w (ix2 k ⟨128 * h.val + l.val, by omega⟩) = if l.val < 64 then w (ix3 0 k ⟨128 * h.val + l.val, by omega⟩) else (0 : EReal) := by
  pointwise [wk, kv3]
  by_cases hl : l.val < 64
  · rw [dif_pos hl, if_pos hl]
    exact congrArg (fun q => w (ix3 0 k q)) (Fin.ext (by dsimp only; omega))
  · rw [dif_neg hl, if_neg hl]
    exact zero_apply _

/-- The latent attention's values' weights, a row for each feature. -/
def wvt (w : FVec Ideal S1x256x1024 .f32) : FVec Ideal S512x256 .bf16 :=
  truncf .bf16 (transpose S512x256 [1, 0] (shapeCast S256x512 (extractStridedSlice S256x8x64 ![0, 0, 64] (kv3 w) slices_S256x8x128_S256x8x64_0_0_64) shapeCasts_S256x8x64_S256x512)
    transposes_S256x512_S512x256_1_0) bitsLt_bf16_f32

set_option maxHeartbeats 1600000 in
/-- The latent attention's values' weights at an index. -/
theorem wvt_apply (w : FVec Ideal S1x256x1024 .f32) (k : Fin 256) (h : Fin 8) (e : Fin 64) :
    wvt w (ix2 ⟨64 * h.val + e.val, by omega⟩ k) = w (ix3 0 k ⟨128 * h.val + 64 + e.val, by omega⟩) := by
  pointwise [wvt, kv3]
  exact congrArg (fun q => w (ix3 0 k q)) (Fin.ext (by dsimp only; omega))

/-- The forgetting attention's values' weights, a row for each feature. -/
def wfvt (w : FVec Ideal S1x1024x4392 .f32) : FVec Ideal S512x1024 .bf16 :=
  truncf .bf16 (transpose S512x1024 [1, 0] (extractStridedSlice S1024x512 ![0, 1824] (mat w) slices_S1024x4392_S1024x512_0_1824) transposes_S1024x512_S512x1024_1_0) bitsLt_bf16_f32

set_option maxHeartbeats 1600000 in
/-- The forgetting attention's values' weights at an index. -/
theorem wfvt_apply (w : FVec Ideal S1x1024x4392 .f32) (j : Fin 512) (k : Fin 1024) : wfvt w (ix2 j k) = w (ix3 0 k ⟨1824 + j.val, by omega⟩) := by
  pointwise [wfvt, mat]

/-- The angles of all positions. -/
def ang : FVec Ideal S8208x16 .f32 :=
  mulf (broadcastInDim S8208x16 ![0, 1] bcast_S8208x1_S8208x16_0_1 (broadcastInDim S8208x1 ![0] bcast_S8208_S8208x1_0 (sitofp .f32 (iotaInDim S8208 32 0))))
    (broadcastInDim S8208x16 ![0, 1] bcast_S1x16_S8208x16_0_1 (broadcastInDim S1x16 ![1] bcast_S16_S1x16_1
      (Host.powf (broadcastInDim S16 ![] bcast_S_S16 (constant S_ .f32 0x461C4000#32))
        (Host.divf (Host.negf (addf (broadcastInDim S16 ![] bcast_S_S16 (constant S_ .f32 0x00000000#32))
          (mulf (broadcastInDim S16 ![] bcast_S_S16 (constant S_ .f32 0x40000000#32)) (sitofp .f32 (iotaInDim S16 32 0)))))
          (broadcastInDim S16 ![] bcast_S_S16 (constant S_ .f32 0x42000000#32))))))

/-- The table of cosines. -/
def cosT : FVec Ideal S8192x128 .f32 :=
  extractStridedSlice S8192x128 ![16, 0] (concatenate S8208x128 1 [⟨S8208x64, broadcastInDim S8208x64 ![] bcast_S_S8208x64 (constant S_ .f32 0x3F800000#32)⟩,
    ⟨S8208x16, Host.cos ang⟩, ⟨S8208x16, Host.cos ang⟩, ⟨S8208x32, broadcastInDim S8208x32 ![] bcast_S_S8208x32 (constant S_ .f32 0x00000000#32)⟩]
    concatenates_S8208x64_S8208x16_S8208x16_S8208x32_S8208x128_d1) slices_S8208x128_S8192x128_16_0

/-- The table of sines, the first half of the rotated lanes negated. -/
def sinT : FVec Ideal S8192x128 .f32 :=
  extractStridedSlice S8192x128 ![16, 0] (concatenate S8208x128 1 [⟨S8208x64, broadcastInDim S8208x64 ![] bcast_S_S8208x64 (constant S_ .f32 0x00000000#32)⟩,
    ⟨S8208x16, Host.negf (Host.sin ang)⟩, ⟨S8208x16, Host.sin ang⟩, ⟨S8208x32, broadcastInDim S8208x32 ![] bcast_S_S8208x32 (constant S_ .f32 0x00000000#32)⟩]
    concatenates_S8208x64_S8208x16_S8208x16_S8208x32_S8208x128_d1) slices_S8208x128_S8192x128_16_0

set_option maxHeartbeats 1600000 in
/-- An angle of the table. -/
theorem ang_apply (s : Fin 8192) (i : Fin 16) : ang (ix2 ⟨16 + s.val, by omega⟩ i) = angle s i := by
  pointwise [ang]
  rfl

set_option maxHeartbeats 1600000 in
/-- The cosines, lane by lane. -/
theorem cosT_apply (s : Fin 8192) (l : Fin 128) : cosT (ix2 s l) = if h0 : l.val < 64 then (1 : EReal) else if h1 : l.val < 80 then Ideal.cos (angle s ⟨l.val - 64, by omega⟩)
    else if h2 : l.val < 96 then Ideal.cos (angle s ⟨l.val - 80, by omega⟩) else 0 := by
  simp only [← ang_apply]
  pointwise [cosT]
  by_cases h0 : l.val < 64
  · rw [dif_pos h0, dif_pos h0]
  · rw [dif_neg h0, dif_neg h0]
    by_cases h1 : l.val < 80
    · rw [dif_pos h1, dif_pos (by omega)]
    · rw [dif_neg h1, dif_neg (by omega)]
      by_cases h2 : l.val < 96
      · rw [dif_pos h2, dif_pos (by omega)]
        exact congrArg (fun q => Ideal.cos (ang (ix2 ⟨16 + s.val, by omega⟩ q))) (Fin.ext (by dsimp only; omega))
      · rw [dif_neg h2, dif_neg (by omega)]

set_option maxHeartbeats 1600000 in
/-- The sines, lane by lane. -/
theorem sinT_apply (s : Fin 8192) (l : Fin 128) : sinT (ix2 s l) = if h0 : l.val < 64 then (0 : EReal) else if h1 : l.val < 80 then - Ideal.sin (angle s ⟨l.val - 64, by omega⟩)
    else if h2 : l.val < 96 then Ideal.sin (angle s ⟨l.val - 80, by omega⟩) else 0 := by
  simp only [← ang_apply]
  pointwise [sinT]
  by_cases h0 : l.val < 64
  · rw [dif_pos h0, dif_pos h0]
  · rw [dif_neg h0, dif_neg h0]
    by_cases h1 : l.val < 80
    · rw [dif_pos h1, dif_pos (by omega)]
    · rw [dif_neg h1, dif_neg (by omega)]
      by_cases h2 : l.val < 96
      · rw [dif_pos h2, dif_pos (by omega)]
        exact congrArg (fun q => Ideal.sin (ang (ix2 ⟨16 + s.val, by omega⟩ q))) (Fin.ext (by dsimp only; omega))
      · rw [dif_neg h2, dif_neg (by omega)]

end Cert.ProjIdeal.Host

end
-- ==== Proof.ProjArray.lean ====
/- The projection kernel's arrays: what each point reads of the arguments, and the queries, keys and values it leaves. -/
module

public import proofs.«01_k».proof.Proof.Gen.ProjIdeal.Value
public import proofs.«01_k».proof.Proof.ProjBlock
public import proofs.«01_k».proof.Proof.ProjHost

@[expose] public section

set_option maxRecDepth 16384

noncomputable section

namespace Cert.ProjIdeal.Array

open Cert.ProjIdeal Cert.ProjIdeal.Gen Cert.ProjIdeal.Block Cert.ProjSpec
open Idealize.ShloMosaic Idealize.ShloMosaic.TcCoe Idealize.SL.Sem

variable (m : (ℓ : Loc nD τ sig) → Buf (Elt Ideal) ℓ) (c : Dev nD)

/-- Where each window stands at a point: batch `t / 16`, block of tokens `t % 16`. -/
theorem idx : ∀ t : Fin cfg0.N, win0_0.index t = ![t.val / 16, t.val % 16, 0] ∧ win0_1.index t = ![t.val % 16, 0]
    ∧ win0_2.index t = ![t.val % 16, 0] ∧ win0_4.index t = ![0, 0]
    ∧ win0_5.index t = ![0, 0] ∧ win0_6.index t = ![0, 0] ∧ win0_7.index t = ![0, 0] ∧ win0_8.index t = ![0, 0]
    ∧ win0_9.index t = ![0, 0] ∧ win0_10.index t = ![0, 0] ∧ win0_11.index t = ![0, 0]
    ∧ win0_17.index t = ![t.val / 16, 0, t.val % 16, 0] ∧ win0_18.index t = ![t.val / 16, 0, t.val % 16, 0]
    ∧ win0_19.index t = ![t.val / 16, 0, t.val % 16, 0, 0] ∧ win0_22.index t = ![t.val / 16, 0, t.val % 16, 0, 0] :=
  (by decide +kernel : ∀ t : Fin grid0.N, _)

/-- The grid has 32 points. -/
theorem lt_32 (t : Fin cfg0.N) : t.val < 32 := lt_of_lt_of_eq t.isLt (show cfg0.N = 32 from N_0)

/-- The batch of a point. -/
def bt (t : Fin cfg0.N) : Fin 2 := ⟨t.val / 16, by have := lt_32 t; omega⟩

/-- The block of tokens of a point. -/
def nt (t : Fin cfg0.N) : Fin 16 := ⟨t.val % 16, by omega⟩

/-- Token `r` of the point's block. -/
def tok (t : Fin cfg0.N) (r : Fin 512) : Fin 8192 := ⟨512 * (t.val % 16) + r.val, by omega⟩

/-- The stream of a point. -/
theorem read0 (t : Fin cfg0.N) (r : Fin 512) (k : Fin 1024) : (iblk m c 0 t : FVec Ideal S1x512x1024 .f32) (ix3 0 r k)
    = (m (c, main_arg0) : FVec Ideal S2x8192x1024 .f32) (ix3 (bt t) (tok t r) k) := by
  unfold bt tok
  blk_point [iblk, V, idx t]

set_option maxHeartbeats 1600000 in
/-- The cosines of a point. -/
theorem read1 (t : Fin cfg0.N) (r : Fin 512) (l : Fin 128) : (iblk m c 1 t : FVec Ideal S512x128 .f32) (ix2 r l) = Host.cosT (ix2 (tok t r) l) := by
  have he : (win0_1.blk t).view.emb (ix2 r l) = (ix2 (tok t r) l : S8192x128.Idx) := by
    unfold tok
    blk_ext [idx t]
  blk_simp [iblk]
  entry_read
  exact congrArg Host.cosT he

set_option maxHeartbeats 1600000 in
/-- The sines of a point. -/
theorem read2 (t : Fin cfg0.N) (r : Fin 512) (l : Fin 128) : (iblk m c 2 t : FVec Ideal S512x128 .f32) (ix2 r l) = Host.sinT (ix2 (tok t r) l) := by
  have he : (win0_2.blk t).view.emb (ix2 r l) = (ix2 (tok t r) l : S8192x128.Idx) := by
    unfold tok
    blk_ext [idx t]
  blk_simp [iblk]
  entry_read
  exact congrArg Host.sinT he

/-- 1024 gains, flattened and made a row again. -/
theorem row_1024 (w : FVec Ideal S1x1024 .f32) (d : Fin 1024) :
    shapeCast S1x1024 (shapeCast S1024 w shapeCasts_S1x1024_S1024) shapeCasts_S1024_S1x1024 (ix2 0 d) = w (ix2 0 d) := by
  pointwise []

/-- 512 gains, flattened and made a row again. -/
theorem row_512 (w : FVec Ideal S1x512 .f32) (d : Fin 512) :
    shapeCast S1x512 (shapeCast S512 w shapeCasts_S1x512_S512) shapeCasts_S512_S1x512 (ix2 0 d) = w (ix2 0 d) := by
  pointwise []

/-- 256 gains, flattened and made a row again. -/
theorem row_256 (w : FVec Ideal S1x256 .f32) (d : Fin 256) :
    shapeCast S1x256 (shapeCast S256 w shapeCasts_S1x256_S256) shapeCasts_S256_S1x256 (ix2 0 d) = w (ix2 0 d) := by
  pointwise []

/-- The first norm's gains. -/
theorem read4 (t : Fin cfg0.N) (d : Fin 1024) : (iblk m c 4 t : FVec Ideal S1x1024 .f32) (ix2 0 d) = (m (c, main_arg2) : FVec Ideal S1x1024 .f32) (ix2 0 d) := by
  have he : (win0_4.blk t).view.emb (ix2 0 d) = (ix2 0 d : S1x1024.Idx) := by
    blk_ext [idx t]
  refine Eq.trans ?_ (row_1024 (m (c, main_arg2)) d)
  blk_simp [iblk]
  entry_read
  exact congrArg _ he

set_option maxHeartbeats 1600000 in
/-- The first projection's weights. -/
theorem read5 (t : Fin cfg0.N) (k : Fin 1024) (j : Fin 3072) : (iblk m c 5 t : FVec Ideal S1024x3072 .bf16) (ix2 k j) = Host.wa (m (c, main_arg3)) (ix2 k j) := by
  have he : (win0_5.blk t).view.emb (ix2 k j) = (ix2 k j : S1024x3072.Idx) := by
    blk_ext [idx t]
  blk_simp [iblk]
  entry_read
  exact congrArg (Host.wa (m (c, main_arg3))) he

/-- The gains of the queries' latent features. -/
theorem read6 (t : Fin cfg0.N) (d : Fin 512) : (iblk m c 6 t : FVec Ideal S1x512 .f32) (ix2 0 d) = (m (c, main_arg5) : FVec Ideal S1x512 .f32) (ix2 0 d) := by
  have he : (win0_6.blk t).view.emb (ix2 0 d) = (ix2 0 d : S1x512.Idx) := by
    blk_ext [idx t]
  refine Eq.trans ?_ (row_512 (m (c, main_arg5)) d)
  blk_simp [iblk]
  entry_read
  exact congrArg _ he

/-- The queries' weights. -/
theorem read7 (t : Fin cfg0.N) (k : Fin 512) (j : Fin 1024) : (iblk m c 7 t : FVec Ideal S512x1024 .bf16) (ix2 k j) = Host.wq (m (c, main_arg6)) (ix2 k j) := by
  have he : (win0_7.blk t).view.emb (ix2 k j) = (ix2 k j : S512x1024.Idx) := by
    blk_ext [idx t]
  blk_simp [iblk]
  entry_read
  exact congrArg (Host.wq (m (c, main_arg6))) he

/-- The gains of the keys' and values' latent features. -/
theorem read8 (t : Fin cfg0.N) (d : Fin 256) : (iblk m c 8 t : FVec Ideal S1x256 .f32) (ix2 0 d) = (m (c, main_arg7) : FVec Ideal S1x256 .f32) (ix2 0 d) := by
  have he : (win0_8.blk t).view.emb (ix2 0 d) = (ix2 0 d : S1x256.Idx) := by
    blk_ext [idx t]
  refine Eq.trans ?_ (row_256 (m (c, main_arg7)) d)
  blk_simp [iblk]
  entry_read
  exact congrArg _ he

/-- The keys' weights. -/
theorem read9 (t : Fin cfg0.N) (k : Fin 256) (j : Fin 1024) : (iblk m c 9 t : FVec Ideal S256x1024 .bf16) (ix2 k j) = Host.wk (m (c, main_arg8)) (ix2 k j) := by
  have he : (win0_9.blk t).view.emb (ix2 k j) = (ix2 k j : S256x1024.Idx) := by
    blk_ext [idx t]
  blk_simp [iblk]
  entry_read
  exact congrArg (Host.wk (m (c, main_arg8))) he

/-- The latent attention's values' weights. -/
theorem read10 (t : Fin cfg0.N) (j : Fin 512) (k : Fin 256) : (iblk m c 10 t : FVec Ideal S512x256 .bf16) (ix2 j k) = Host.wvt (m (c, main_arg8)) (ix2 j k) := by
  have he : (win0_10.blk t).view.emb (ix2 j k) = (ix2 j k : S512x256.Idx) := by
    blk_ext [idx t]
  blk_simp [iblk]
  entry_read
  exact congrArg (Host.wvt (m (c, main_arg8))) he

/-- The forgetting attention's values' weights. -/
theorem read11 (t : Fin cfg0.N) (j : Fin 512) (k : Fin 1024) : (iblk m c 11 t : FVec Ideal S512x1024 .bf16) (ix2 j k) = Host.wfvt (m (c, main_arg3)) (ix2 j k) := by
  have he : (win0_11.blk t).view.emb (ix2 j k) = (ix2 j k : S512x1024.Idx) := by
    blk_ext [idx t]
  blk_simp [iblk]
  entry_read
  exact congrArg (Host.wfvt (m (c, main_arg3))) he

/-- A lane below 64 is not rotated. -/
theorem rot_low (v : Fin 128 → EReal) (s : Fin 8192) (l : Fin 128) (h : l.val < 64) :
    (v l * Host.cosT (ix2 s l) + v (partner l) * Host.sinT (ix2 s l) : EReal) = v l := by
  rw [Host.cosT_apply, Host.sinT_apply, dif_pos h, dif_pos h, mul_one, mul_zero, add_zero]

/-- A lane from 96 on is zero. -/
theorem rot_high (v : Fin 128 → EReal) (s : Fin 8192) (l : Fin 128) (h : ¬ l.val < 96) :
    (v l * Host.cosT (ix2 s l) + v (partner l) * Host.sinT (ix2 s l) : EReal) = 0 := by
  rw [Host.cosT_apply, Host.sinT_apply, dif_neg (by omega), dif_neg (by omega), dif_neg h, dif_neg (by omega), dif_neg (by omega), dif_neg h, mul_zero, mul_zero, add_zero]

/-- The 32 lanes between are rotated. -/
theorem rot_mid (v : Fin 128 → EReal) (u : Fin 32 → EReal) (hu : ∀ i : Fin 32, v ⟨64 + i.val, by omega⟩ = u i) (s : Fin 8192) (l : Fin 128) (h0 : ¬ l.val < 64) (h2 : l.val < 96) :
    (v l * Host.cosT (ix2 s l) + v (partner l) * Host.sinT (ix2 s l) : EReal) = rope u s ⟨l.val - 64, by omega⟩ := by
  have lane (l' : Fin 128) (i : Fin 32) (h : l'.val = 64 + i.val) : v l' = u i := by
    rw [← hu i]
    exact congrArg v (Fin.ext h)
  rw [Host.cosT_apply, Host.sinT_apply, dif_neg h0, dif_neg h0, lane l ⟨l.val - 64, by omega⟩ (by dsimp only; omega)]
  unfold rope partner
  by_cases h1 : l.val < 80
  · rw [dif_pos h1, dif_pos h1, if_pos h1, dif_pos (by dsimp only; omega), lane _ ⟨l.val - 64 + 16, by omega⟩ (by dsimp only; omega), mul_neg, ← sub_eq_add_neg]
  · rw [dif_neg h1, dif_neg h1, dif_pos h2, dif_pos h2, if_neg h1, dif_neg (by dsimp only; omega), lane _ ⟨l.val - 64 - 16, by omega⟩ (by dsimp only; omega), add_comm]
    rfl

/-- The first projection of a point's tokens. -/
def proj (t : Fin cfg0.N) : FVec Ideal S512x3072 .f32 := k0_pay5 (iblk m c 0 t) (iblk m c 4 t) (iblk m c 5 t)

/-- The projection's entry, the weights as handed over. -/
theorem proj_apply (t : Fin cfg0.N) (r : Fin 512) (j : Fin 3072) : proj m c t (ix2 r j)
    = ∑ k : Fin 1024, Cert.MoeSpec.rms (fun k => (m (c, main_arg0) : FVec Ideal S2x8192x1024 .f32) (ix3 (bt t) (tok t r) k)) ((m (c, main_arg2) : FVec Ideal S1x1024 .f32) (ix2 0 k)) k
        * Host.wa (m (c, main_arg3)) (ix2 k j) := by
  unfold proj
  rw [pay5_apply]
  simp only [read0, read4, read5]

/-- The first 768 columns of the projection. -/
theorem proj_low (t : Fin cfg0.N) (r : Fin 512) (j : Fin 3072) (h : j.val < 768) : proj m c t (ix2 r j)
    = col (m (c, main_arg0)) (m (c, main_arg2)) (m (c, main_arg3)) (bt t) (tok t r) ⟨j.val, by omega⟩ := by
  rw [proj_apply]
  unfold col
  exact Finset.sum_congr rfl fun k _ => congrArg _ (Host.wa_low _ k j h)

/-- The 64 columns of zeros. -/
theorem proj_zero (t : Fin cfg0.N) (r : Fin 512) (j : Fin 3072) (h0 : 768 ≤ j.val) (h : j.val < 832) : proj m c t (ix2 r j) = (0 : EReal) := by
  rw [proj_apply]
  refine Finset.sum_eq_zero fun k _ => ?_
  rw [Host.wa_zero _ k j h0 h, mul_zero]

/-- The columns of the key's rotated features. -/
theorem proj_rope (t : Fin cfg0.N) (r : Fin 512) (j : Fin 3072) (h0 : 832 ≤ j.val) (h : j.val < 864) : proj m c t (ix2 r j)
    = col (m (c, main_arg0)) (m (c, main_arg2)) (m (c, main_arg3)) (bt t) (tok t r) ⟨j.val - 64, by omega⟩ := by
  rw [proj_apply]
  unfold col
  exact Finset.sum_congr rfl fun k _ => congrArg _ (Host.wa_rope _ k j h0 h)

/-- The queries of a point before the rotation. -/
def qs (t : Fin cfg0.N) : FVec Ideal S512x1024 .f32 :=
  k0_pay16 (k0_pay6 (iblk m c 0 t) (iblk m c 4 t) (iblk m c 5 t)) (k0_pay14 (iblk m c 6 t)) (k0_pay15 (iblk m c 0 t) (iblk m c 4 t) (iblk m c 5 t)) (iblk m c 7 t)

/-- A feature of a query before the rotation. -/
theorem qs_apply (t : Fin cfg0.N) (r : Fin 512) (h : Fin 8) (l : Fin 128) (hl : l.val < 96) : qs m c t (ix2 r ⟨128 * h.val + l.val, by omega⟩)
    = query (m (c, main_arg0)) (m (c, main_arg2)) (m (c, main_arg3)) (m (c, main_arg5)) (m (c, main_arg6)) (bt t) (tok t r) ⟨96 * h.val + l.val, by omega⟩ := by
  unfold qs
  rw [pay16_apply]
  unfold query
  refine Finset.sum_congr rfl fun k _ => ?_
  have e (k : Fin 512) := proj_low m c t r ⟨k.val, by omega⟩ (by dsimp only; omega)
  unfold proj at e
  simp only [e, read6, read7, Host.wq_apply _ k h l hl]

/-- The keys' and values' latent features of a point. -/
def lat (t : Fin cfg0.N) : FVec Ideal S512x256 .bf16 := k0_pay17 (k0_pay7 (iblk m c 0 t) (iblk m c 4 t) (iblk m c 5 t)) (iblk m c 8 t)

/-- A latent feature. -/
theorem lat_apply (t : Fin cfg0.N) (r : Fin 512) (k : Fin 256) : lat m c t (ix2 r k)
    = rmsn 0x43800000#32 (fun k : Fin 256 => col (m (c, main_arg0)) (m (c, main_arg2)) (m (c, main_arg3)) (bt t) (tok t r) ⟨512 + k.val, by omega⟩)
        ((m (c, main_arg7) : FVec Ideal S1x256 .f32) (ix2 0 k)) k := by
  unfold lat
  rw [pay17_apply]
  have e (k : Fin 256) := proj_low m c t r ⟨512 + k.val, by omega⟩ (by dsimp only; omega)
  unfold proj at e
  simp only [e, read8]

/-- The keys of a point without their rotated features. -/
def ks (t : Fin cfg0.N) : FVec Ideal S512x1024 .f32 := k0_pay18 (k0_pay7 (iblk m c 0 t) (iblk m c 4 t) (iblk m c 5 t)) (iblk m c 8 t) (iblk m c 9 t)

/-- A lane of a key without the rotated features. -/
theorem ks_apply (t : Fin cfg0.N) (r : Fin 512) (h : Fin 8) (l : Fin 128) : ks m c t (ix2 r ⟨128 * h.val + l.val, by omega⟩)
    = if l.val < 64 then keyval (m (c, main_arg0)) (m (c, main_arg2)) (m (c, main_arg3)) (m (c, main_arg7)) (m (c, main_arg8)) (bt t) (tok t r) ⟨128 * h.val + l.val, by omega⟩ else (0 : EReal) := by
  unfold ks
  rw [pay18_apply]
  have e := lat_apply m c t r
  unfold lat at e
  simp only [e, read9, Host.wk_apply]
  by_cases hl : l.val < 64
  · simp only [if_pos hl]
    rfl
  · simp only [if_neg hl, mul_zero, Finset.sum_const_zero]

/-- The values of a point in the latent attention. -/
def vs (t : Fin cfg0.N) : FVec Ideal S512x512 .f32 := k0_pay42 (lat m c t) (iblk m c 10 t)

/-- A feature of a value in the latent attention. -/
theorem vs_apply (t : Fin cfg0.N) (h : Fin 8) (e : Fin 64) (r : Fin 512) : vs m c t (ix2 ⟨64 * h.val + e.val, by omega⟩ r)
    = vlane (m (c, main_arg0)) (m (c, main_arg2)) (m (c, main_arg3)) (m (c, main_arg7)) (m (c, main_arg8)) (bt t) h (tok t r) e := by
  unfold vs
  rw [pay42_apply]
  unfold vlane keyval
  simp only [lat_apply, read10, Host.wvt_apply]
  exact Finset.sum_congr rfl fun k _ => mul_comm (G := EReal) _ _

/-- The values of a point in the forgetting attention. -/
def fs (t : Fin cfg0.N) : FVec Ideal S512x512 .f32 := k0_pay85 (k0_pay4 (iblk m c 0 t) (iblk m c 4 t)) (iblk m c 11 t)

/-- A feature of a value in the forgetting attention. -/
theorem fs_apply (t : Fin cfg0.N) (h : Fin 8) (e : Fin 64) (r : Fin 512) : fs m c t (ix2 ⟨64 * h.val + e.val, by omega⟩ r)
    = flane (m (c, main_arg0)) (m (c, main_arg2)) (m (c, main_arg3)) (bt t) h (tok t r) e := by
  unfold fs
  rw [pay85_apply]
  unfold flane col
  simp only [pay4_apply, read0, read4, read11, Host.wfvt_apply, Nat.add_assoc]
  exact Finset.sum_congr rfl fun k _ => mul_comm (G := EReal) _ _

set_option maxHeartbeats 1600000 in
/-- A head's queries of a point. -/
theorem headQ_point (t : Fin cfg0.N) (h : Fin 8) (hs : S512x1024.Slices ![0, 128 * h.val] S512x128) (r : Fin 512) (l : Fin 128) :
    headQ ![0, 128 * h.val] hs (k0_pay12 (iblk m c 1 t)) (k0_pay13 (iblk m c 2 t)) (qs m c t) (ix4 0 0 r l)
      = qlane (m (c, main_arg0)) (m (c, main_arg2)) (m (c, main_arg3)) (m (c, main_arg5)) (m (c, main_arg6)) (bt t) h (tok t r) l := by
  have ec : k0_pay12 (F := Ideal) (iblk m c 1 t) (ix2 r l) = Host.cosT (ix2 (tok t r) l) := by
    refine Eq.trans ?_ (read1 m c t r l)
    pointwise [k0_pay12]
  have es : k0_pay13 (F := Ideal) (iblk m c 2 t) (ix2 r l) = Host.sinT (ix2 (tok t r) l) := by
    refine Eq.trans ?_ (read2 m c t r l)
    pointwise [k0_pay13]
  rw [headQ_apply, ec, es]
  unfold qlane
  by_cases h1 : l.val < 64
  · rw [dif_pos h1]
    refine congrArg (fun x : EReal => x * _) ((rot_low (fun l => qs m c t (ix2 r ⟨128 * h.val + l.val, by omega⟩)) (tok t r) l h1).trans ?_)
    exact qs_apply m c t r h l (by omega)
  · rw [dif_neg h1]
    by_cases h2 : l.val < 96
    · rw [dif_pos h2]
      refine congrArg (fun x : EReal => x * _) (rot_mid (fun l => qs m c t (ix2 r ⟨128 * h.val + l.val, by omega⟩)) _ (fun i => ?_) (tok t r) l h1 h2)
      refine (qs_apply m c t r h ⟨64 + i.val, by omega⟩ (by dsimp only; omega)).trans ?_
      exact congrArg _ (Fin.ext (by dsimp only; omega))
    · rw [dif_neg h2]
      refine (congrArg (fun x : EReal => x * _) (rot_high (fun l => qs m c t (ix2 r ⟨128 * h.val + l.val, by omega⟩)) (tok t r) l h2)).trans ?_
      exact zero_mul _

/-- The rotated lanes of a point that all heads share. -/
def kr (t : Fin cfg0.N) : FVec Ideal S512x128 .f32 :=
  k0_pay19 (k0_pay8 (iblk m c 0 t) (iblk m c 4 t) (iblk m c 5 t)) (k0_pay12 (iblk m c 1 t)) (k0_pay13 (iblk m c 2 t))

/-- A rotated lane all heads share. -/
theorem kr_apply (t : Fin cfg0.N) (r : Fin 512) (l : Fin 128) : kr m c t (ix2 r l)
    = (proj m c t (ix2 r ⟨768 + l.val, by omega⟩) * Host.cosT (ix2 (tok t r) l) + proj m c t (ix2 r ⟨768 + (partner l).val, by omega⟩) * Host.sinT (ix2 (tok t r) l) : EReal) := by
  have ec : k0_pay12 (F := Ideal) (iblk m c 1 t) (ix2 r l) = Host.cosT (ix2 (tok t r) l) := by
    refine Eq.trans ?_ (read1 m c t r l)
    pointwise [k0_pay12]
  have es : k0_pay13 (F := Ideal) (iblk m c 2 t) (ix2 r l) = Host.sinT (ix2 (tok t r) l) := by
    refine Eq.trans ?_ (read2 m c t r l)
    pointwise [k0_pay13]
  have ep (l : Fin 128) : k0_pay8 (F := Ideal) (iblk m c 0 t) (iblk m c 4 t) (iblk m c 5 t) (ix2 r l) = proj m c t (ix2 r ⟨768 + l.val, by omega⟩) := by
    unfold proj
    pointwise [k0_pay8]
  rw [← ec, ← es, ← ep l, ← ep (partner l), ← tile_apply]
  rfl

set_option maxHeartbeats 1600000 in
/-- A head's keys of a point. -/
theorem headK_point (t : Fin cfg0.N) (h : Fin 8) (hs : S512x1024.Slices ![0, 128 * h.val] S512x128) (r : Fin 512) (l : Fin 128) :
    headK ![0, 128 * h.val] hs (ks m c t) (kr m c t) (ix4 0 0 r l)
      = klane (m (c, main_arg0)) (m (c, main_arg2)) (m (c, main_arg3)) (m (c, main_arg7)) (m (c, main_arg8)) (bt t) h (tok t r) l := by
  rw [headK_apply, ks_apply, kr_apply]
  unfold klane
  by_cases h1 : l.val < 64
  · rw [dif_pos h1, if_pos h1]
    refine (congrArg (fun x : EReal => _ + x) ((rot_low (fun l => proj m c t (ix2 r ⟨768 + l.val, by omega⟩)) (tok t r) l h1).trans ?_)).trans (add_zero (M := EReal) _)
    exact proj_zero m c t r _ (by dsimp only; omega) (by dsimp only; omega)
  · rw [dif_neg h1, if_neg h1, zero_add]
    by_cases h2 : l.val < 96
    · rw [dif_pos h2]
      refine rot_mid (fun l => proj m c t (ix2 r ⟨768 + l.val, by omega⟩)) _ (fun i => ?_) (tok t r) l h1 h2
      refine (proj_rope m c t r ⟨768 + (64 + i.val), by omega⟩ (by dsimp only; omega) (by dsimp only; omega)).trans ?_
      exact congrArg _ (Fin.ext (by dsimp only; omega))
    · rw [dif_neg h2]
      exact rot_high (fun l => proj m c t (ix2 r ⟨768 + l.val, by omega⟩)) (tok t r) l h2

end Cert.ProjIdeal.Array

end
-- ==== Proof.ProjOut.lean ====
/- What the projection kernel's points store of the queries, keys and values, head by head, and the arrays after the run. -/
module

public import proofs.«01_k».proof.Proof.ProjArray

@[expose] public section

set_option maxRecDepth 16384

noncomputable section

namespace Cert.ProjIdeal.Array

open Cert.ProjIdeal Cert.ProjIdeal.Gen Cert.ProjIdeal.Block Cert.ProjSpec
open Idealize.ShloMosaic Idealize.ShloMosaic.TcCoe Idealize.SL.Sem

/-- A block of queries or keys has one batch: an index is a head, a token and a lane. -/
theorem block4 (y : S1x8x512x128.Idx) : y = ix4 0 (y 1) (y 2) (y 3) := by
  funext a; fin_cases a
  · exact Fin.ext (Nat.lt_one_iff.1 (y 0).isLt)
  · rfl
  · rfl
  · rfl

/-- A block of values has one batch and one tile of tokens: an index is a head, a feature and a token. -/
theorem block5 (y : S1x8x1x64x512.Idx) : y = ix5 0 (y 1) 0 (y 3) (y 4) := by
  funext a; fin_cases a
  · exact Fin.ext (Nat.lt_one_iff.1 (y 0).isLt)
  · rfl
  · exact Fin.ext (Nat.lt_one_iff.1 (y 2).isLt)
  · rfl
  · rfl

/-- The piece stored for head `k` of queries or keys, at an index of it: if `g` is what the heads' pieces are and `f`
says what `g` holds at every head, token and lane, the piece holds `f` at the head, token and lane the index stands for. -/
theorem piece4 (f : Fin 8 → Fin 512 → Fin 128 → EReal)
    (g : (h : Fin 8) → S512x1024.Slices ![0, 128 * h.val] S512x128 → FVec Ideal S1x1x512x128 .bf16)
    (hg : ∀ h hs r l, g h hs (ix4 0 0 r l) = f h r l)
    (x : S1x1x512x128.Idx) (h : Fin 8) (r : Fin 512) (l : Fin 128) {k : ℕ}
    (e1 : h.val = k + (x 1).val) (e2 : r.val = (x 2).val) (e3 : l.val = (x 3).val) (hk : k < 8)
    (hs : S512x1024.Slices ![0, 128 * k] S512x128) {p : FVec Ideal S1x1x512x128 .bf16} (hp : p = g ⟨k, hk⟩ hs) :
    p x = f h r l := by
  have h1 : (x 1).val < 1 := (x 1).isLt
  have ex : x = ix4 0 0 r l := by
    funext a; fin_cases a
    · exact Fin.ext (Nat.lt_one_iff.1 (x 0).isLt)
    · exact Fin.ext (Nat.lt_one_iff.1 h1)
    · exact Fin.ext e2.symm
    · exact Fin.ext e3.symm
  have eh : h = ⟨k, hk⟩ := Fin.ext (by dsimp only; omega)
  rw [ex, hp, eh]
  exact hg _ hs r l

/-- The piece stored for head `k` of values `v`, at an index of it: if `f` says what `v` holds at every head's features,
the piece holds `f` at the head, feature and token the index stands for. -/
theorem piece5 (f : Fin 8 → Fin 64 → Fin 512 → EReal) (v : FVec Ideal S512x512 .f32)
    (hv : ∀ (h : Fin 8) (e : Fin 64) (r : Fin 512), v (ix2 ⟨64 * h.val + e.val, by omega⟩ r) = f h e r)
    (x : S1x1x1x64x512.Idx) (h : Fin 8) (e : Fin 64) (r : Fin 512) {k : ℕ}
    (e1 : h.val = k + (x 1).val) (e3 : e.val = (x 3).val) (e4 : r.val = (x 4).val) (hk : k < 8)
    (hs : S512x512.Slices ![64 * k, 0] S64x512) {p : FVec Ideal S1x1x1x64x512 .bf16} (hp : p = headV ![64 * k, 0] hs v) :
    p x = f h e r := by
  have h1 : (x 1).val < 1 := (x 1).isLt
  have ex : x = ix5 0 0 0 e r := by
    funext a; fin_cases a
    · exact Fin.ext (Nat.lt_one_iff.1 (x 0).isLt)
    · exact Fin.ext (Nat.lt_one_iff.1 h1)
    · exact Fin.ext (Nat.lt_one_iff.1 (x 2).isLt)
    · exact Fin.ext e3.symm
    · exact Fin.ext e4.symm
  have eh : h = ⟨k, hk⟩ := Fin.ext (by dsimp only; omega)
  rw [ex, hp, eh]
  exact (headV_apply ⟨k, hk⟩ hs v e r).trans (hv _ e r)

variable (m : (ℓ : Loc nD τ sig) → Buf (Elt Ideal) ℓ) (c : Dev nD)

/-- The queries after the run. -/
def result17 : S2x8x8192x128.Idx → EReal := fun i =>
  qlane (m (c, main_arg0)) (m (c, main_arg2)) (m (c, main_arg3)) (m (c, main_arg5)) (m (c, main_arg6)) (i 0) (i 1) (i 2) (i 3)

/-- The keys after the run. -/
def result18 : S2x8x8192x128.Idx → EReal := fun i =>
  klane (m (c, main_arg0)) (m (c, main_arg2)) (m (c, main_arg3)) (m (c, main_arg7)) (m (c, main_arg8)) (i 0) (i 1) (i 2) (i 3)

/-- The token an index of the values stands for: they lie in tiles of 512 tokens. -/
def tokenOf (i : S2x8x16x64x512.Idx) : Fin 8192 :=
  ⟨512 * (i 2).val + (i 4).val, by have h2 : (i 2).val < 16 := (i 2).isLt; have h4 : (i 4).val < 512 := (i 4).isLt; omega⟩

/-- The latent attention's values after the run. -/
def result19 : S2x8x16x64x512.Idx → EReal := fun i =>
  vlane (m (c, main_arg0)) (m (c, main_arg2)) (m (c, main_arg3)) (m (c, main_arg7)) (m (c, main_arg8)) (i 0) (i 1) (tokenOf i) (i 3)

/-- The forgetting attention's values after the run. -/
def result22 : S2x8x16x64x512.Idx → EReal := fun i =>
  flane (m (c, main_arg0)) (m (c, main_arg2)) (m (c, main_arg3)) (i 0) (i 1) (tokenOf i) (i 3)

set_option maxHeartbeats 6400000 in
/-- What a point stores of the queries. -/
theorem out17 (t : Fin cfg0.N) (h : Fin 8) (r : Fin 512) (l : Fin 128) :
    ((dats m 0 c).after 17 t : FVec Ideal S1x8x512x128 .bf16) (ix4 0 h r l) = result17 m c (ix4 (bt t) h (tok t r) l) := by
  rw [after0_17]
  by_cases h0 : t.val % 16 = 0 <;> [rw [outsAt0_A m c t h0]; rw [outsAt0_B m c t h0]] <;> (
    frame_out
    canon_tiles x hx
    all_goals
      exact piece4 (fun h r l => result17 m c (ix4 (bt t) h (tok t r) l)) _ (headQ_point m c t) x h r l
        (by first | exact hx1 | exact hx1.trans (Nat.zero_add _).symm) hx2 hx3 (by decide) (by decide) (by rfl))

set_option maxHeartbeats 6400000 in
/-- What a point stores of the keys. -/
theorem out18 (t : Fin cfg0.N) (h : Fin 8) (r : Fin 512) (l : Fin 128) :
    ((dats m 0 c).after 18 t : FVec Ideal S1x8x512x128 .bf16) (ix4 0 h r l) = result18 m c (ix4 (bt t) h (tok t r) l) := by
  rw [after0_18]
  by_cases h0 : t.val % 16 = 0 <;> [rw [outsAt0_A m c t h0]; rw [outsAt0_B m c t h0]] <;> (
    frame_out
    canon_tiles x hx
    all_goals
      exact piece4 (fun h r l => result18 m c (ix4 (bt t) h (tok t r) l)) _ (headK_point m c t) x h r l
        (by first | exact hx1 | exact hx1.trans (Nat.zero_add _).symm) hx2 hx3 (by decide) (by decide) (by rfl))

set_option maxHeartbeats 6400000 in
/-- What a point stores of the latent attention's values. -/
theorem out19 (t : Fin cfg0.N) (h : Fin 8) (e : Fin 64) (r : Fin 512) :
    ((dats m 0 c).after 19 t : FVec Ideal S1x8x1x64x512 .bf16) (ix5 0 h 0 e r) = result19 m c (ix5 (bt t) h (nt t) e r) := by
  rw [after0_19]
  by_cases h0 : t.val % 16 = 0 <;> [rw [outsAt0_A m c t h0]; rw [outsAt0_B m c t h0]] <;> (
    frame_out
    canon_tiles x hx
    all_goals
      exact piece5 (fun h e r => result19 m c (ix5 (bt t) h (nt t) e r)) _ (vs_apply m c t) x h e r
        (by first | exact hx1 | exact hx1.trans (Nat.zero_add _).symm) hx3 hx4 (by decide) (by decide) (by rfl))

set_option maxHeartbeats 6400000 in
/-- What a point stores of the forgetting attention's values. -/
theorem out22 (t : Fin cfg0.N) (h : Fin 8) (e : Fin 64) (r : Fin 512) :
    ((dats m 0 c).after 22 t : FVec Ideal S1x8x1x64x512 .bf16) (ix5 0 h 0 e r) = result22 m c (ix5 (bt t) h (nt t) e r) := by
  rw [after0_22]
  by_cases h0 : t.val % 16 = 0 <;> [rw [outsAt0_A m c t h0]; rw [outsAt0_B m c t h0]] <;> (
    frame_out
    canon_tiles x hx
    all_goals
      exact piece5 (fun h e r => result22 m c (ix5 (bt t) h (nt t) e r)) _ (fs_apply m c t) x h e r
        (by first | exact hx1 | exact hx1.trans (Nat.zero_add _).symm) hx3 hx4 (by decide) (by decide) (by rfl))

/-- Where a point's block of queries lies in the array. -/
theorem place17 (t : Fin cfg0.N) (y : S1x8x512x128.Idx) : (win0_17.blk t).view.emb y = ix4 (bt t) (y 1) (tok t (y 2)) (y 3) := by
  have b0 : (y 0).val < 1 := (y 0).isLt
  unfold bt tok
  blk_ext [idx t]

/-- Where a point's block of values lies in the array. -/
theorem place19 (t : Fin cfg0.N) (y : S1x8x1x64x512.Idx) : (win0_19.blk t).view.emb y = ix5 (bt t) (y 1) (nt t) (y 3) (y 4) := by
  have b0 : (y 0).val < 1 := (y 0).isLt
  have b2 : (y 2).val < 1 := (y 2).isLt
  unfold bt nt
  blk_ext [idx t]

/-- THE KERNEL'S QUERIES. -/
theorem final17 : (dats m 0 c).arrAt 17 cfg0.N = result17 m c := by
  refine (dats m 0 c).arrAt_eq_of_covers 17 (result17 m c) (by decide +kernel) fun t hf y => ?_
  blk_simp
  exact ((congrArg ((dats m 0 c).after 17 t) (block4 y)).trans (out17 m c t _ _ _)).trans (congrArg (result17 m c) (place17 t y).symm)

/-- THE KERNEL'S KEYS: their blocks lie as the queries' do. -/
theorem final18 : (dats m 0 c).arrAt 18 cfg0.N = result18 m c := by
  refine (dats m 0 c).arrAt_eq_of_covers 18 (result18 m c) (by decide +kernel) fun t hf y => ?_
  blk_simp
  exact ((congrArg ((dats m 0 c).after 18 t) (block4 y)).trans (out18 m c t _ _ _)).trans (congrArg (result18 m c) (place17 t y).symm)

/-- THE KERNEL'S LATENT ATTENTION'S VALUES. -/
theorem final19 : (dats m 0 c).arrAt 19 cfg0.N = result19 m c := by
  refine (dats m 0 c).arrAt_eq_of_covers 19 (result19 m c) (by decide +kernel) fun t hf y => ?_
  blk_simp
  exact ((congrArg ((dats m 0 c).after 19 t) (block5 y)).trans (out19 m c t _ _ _)).trans (congrArg (result19 m c) (place19 t y).symm)

/-- THE KERNEL'S FORGETTING ATTENTION'S VALUES: their blocks lie as the latent attention's do. -/
theorem final22 : (dats m 0 c).arrAt 22 cfg0.N = result22 m c := by
  refine (dats m 0 c).arrAt_eq_of_covers 22 (result22 m c) (by decide +kernel) fun t hf y => ?_
  blk_simp
  exact ((congrArg ((dats m 0 c).after 22 t) (block5 y)).trans (out22 m c t _ _ _)).trans (congrArg (result22 m c) (place19 t y).symm)

end Cert.ProjIdeal.Array

end
-- ==== Proof.ProjRef.lean ====
/- The projections' reference, step by step: the norms, the products with columns of the weights, the rotation and the layouts. -/
module

public import proofs.«01_k».proof.Proof.Gen.ProjRefIdeal.Run
public import proofs.«01_k».proof.Proof.ProjSpec
public import Idealize.ShloMosaic.Lib.Pointwise

@[expose] public section

set_option maxRecDepth 16384

noncomputable section

namespace Cert.ProjRefIdeal.Steps

open Cert.ProjRefIdeal Cert.ProjRefIdeal.Gen Cert.ProjSpec Idealize.ShloMosaic Idealize.ShloMosaic.TcCoe Idealize.SL.Sem

variable {F : FTy → Type} [FloatOps F]

/-- The reciprocal root of a mean square. -/
def inv (t : FVec F S2x8192 .f32) (width : BitVec 32) : FVec F S2x8192x1 .f32 :=
  Host.rsqrt (addf (Host.divf (broadcastInDim S2x8192x1 ![0, 1] bcast_S2x8192_S2x8192x1_0_1 t) (broadcastInDim S2x8192x1 ![] bcast_S_S2x8192x1 (constant S_ .f32 width)))
    (broadcastInDim S2x8192x1 ![] bcast_S_S2x8192x1 (constant S_ .f32 0x358637BD#32)))

/-- The norm of the tokens. -/
def norm (x : FVec F S2x8192x1024 .f32) (g : FVec F S1x1024 .f32) : FVec F S2x8192x1024 .f32 :=
  mulf (mulf x (broadcastInDim S2x8192x1024 ![0, 1, 2] bcast_S2x8192x1_S2x8192x1024_0_1_2 (inv (Host.reduceAdd (mulf x x) (constant S_ .f32 0x00000000#32) reducesTo_S2x8192x1024_S2x8192_d2 h_S_) 0x44800000#32)))
    (broadcastInDim S2x8192x1024 ![0, 1, 2] bcast_S1x1x1024_S2x8192x1024_0_1_2 (broadcastInDim S1x1x1024 ![2] bcast_S1024_S1x1x1024_2 (shapeCast _ g shapeCasts_S1x1024_S1024)))

/-- The norm of the queries' latent features. -/
def normQ (x : FVec F S2x8192x512 .f32) (g : FVec F S1x512 .f32) : FVec F S2x8192x512 .f32 :=
  mulf (mulf x (broadcastInDim S2x8192x512 ![0, 1, 2] bcast_S2x8192x1_S2x8192x512_0_1_2 (inv (Host.reduceAdd (mulf x x) (constant S_ .f32 0x00000000#32) reducesTo_S2x8192x512_S2x8192_d2 h_S_) 0x44000000#32)))
    (broadcastInDim S2x8192x512 ![0, 1, 2] bcast_S1x1x512_S2x8192x512_0_1_2 (broadcastInDim S1x1x512 ![2] bcast_S512_S1x1x512_2 (shapeCast _ g shapeCasts_S1x512_S512)))

/-- The norm of the keys' and values' latent features. -/
def normK (x : FVec F S2x8192x256 .f32) (g : FVec F S1x256 .f32) : FVec F S2x8192x256 .f32 :=
  mulf (mulf x (broadcastInDim S2x8192x256 ![0, 1, 2] bcast_S2x8192x1_S2x8192x256_0_1_2 (inv (Host.reduceAdd (mulf x x) (constant S_ .f32 0x00000000#32) reducesTo_S2x8192x256_S2x8192_d2 h_S_) 0x43800000#32)))
    (broadcastInDim S2x8192x256 ![0, 1, 2] bcast_S1x1x256_S2x8192x256_0_1_2 (broadcastInDim S1x1x256 ![2] bcast_S256_S1x1x256_2 (shapeCast _ g shapeCasts_S1x256_S256)))

/-- A product with 512 columns of the projections. -/
def cols512 (o : Fin 3 → ℕ) (hs : S1x1024x4392.Slices o S1x1024x512) (u : FVec F S2x8192x1024 .f32) (w : FVec F S1x1024x4392 .f32) : FVec F S2x8192x512 .f32 :=
  Host.dotGeneral dot_S2x8192x1024_S1024x512_S2x8192x512_2_0_01_1_n_n none u (shapeCast _ (extractStridedSlice S1x1024x512 o w hs) shapeCasts_S1x1024x512_S1024x512)

/-- The product with the keys' and values' latent columns. -/
def colsK (u : FVec F S2x8192x1024 .f32) (w : FVec F S1x1024x4392 .f32) : FVec F S2x8192x256 .f32 :=
  Host.dotGeneral dot_S2x8192x1024_S1024x256_S2x8192x256_2_0_01_1_n_n none u (shapeCast _ (extractStridedSlice S1x1024x256 ![0, 0, 512] w slices_S1x1024x4392_S1x1024x256_0_0_512) shapeCasts_S1x1024x256_S1024x256)

/-- The product with the columns of the key's rotated features. -/
def colsR (u : FVec F S2x8192x1024 .f32) (w : FVec F S1x1024x4392 .f32) : FVec F S2x8192x32 .f32 :=
  Host.dotGeneral dot_S2x8192x1024_S1024x32_S2x8192x32_2_0_01_1_n_n none u (shapeCast _ (extractStridedSlice S1x1024x32 ![0, 0, 768] w slices_S1x1024x4392_S1x1024x32_0_0_768) shapeCasts_S1x1024x32_S1024x32)

/-- The angles of the tokens. -/
def ang : FVec F S8192x16 .f32 :=
  extractStridedSlice S8192x16 ![16, 0] (mulf (broadcastInDim S8208x16 ![0, 1] bcast_S8208x1_S8208x16_0_1 (broadcastInDim S8208x1 ![0] bcast_S8208_S8208x1_0 (sitofp .f32 (iotaInDim S8208 32 0))))
    (broadcastInDim S8208x16 ![0, 1] bcast_S1x16_S8208x16_0_1 (broadcastInDim S1x16 ![1] bcast_S16_S1x16_1
      (Host.powf (broadcastInDim S16 ![] bcast_S_S16 (constant S_ .f32 0x461C4000#32))
        (Host.divf (Host.negf (addf (broadcastInDim S16 ![] bcast_S_S16 (constant S_ .f32 0x00000000#32))
          (mulf (broadcastInDim S16 ![] bcast_S_S16 (constant S_ .f32 0x40000000#32)) (sitofp .f32 (iotaInDim S16 32 0)))))
          (broadcastInDim S16 ![] bcast_S_S16 (constant S_ .f32 0x42000000#32))))))) slices_S8208x16_S8192x16_16_0

/-- The cosines. -/
def cosR : FVec F S1x8192x1x16 .f32 := broadcastInDim S1x8192x1x16 ![1, 3] bcast_S8192x16_S1x8192x1x16_1_3 (Host.cos ang)

/-- The sines. -/
def sinR : FVec F S1x8192x1x16 .f32 := broadcastInDim S1x8192x1x16 ![1, 3] bcast_S8192x16_S1x8192x1x16_1_3 (Host.sin ang)

/-- The queries before the rotation. -/
def query (u : FVec F S2x8192x1024 .f32) (w : FVec F S1x1024x4392 .f32) (qn : FVec F S1x512 .f32) (wq : FVec F S1x512x768 .f32) : FVec F S2x8192x8x96 .f32 :=
  shapeCast _ (Host.dotGeneral dot_S2x8192x512_S512x768_S2x8192x768_2_0_01_1_n_n none (normQ (cols512 ![0, 0, 0] slices_S1x1024x4392_S1x1024x512_0_0_0 u w) qn)
    (shapeCast _ wq shapeCasts_S1x512x768_S512x768)) shapeCasts_S2x8192x768_S2x8192x8x96

/-- The keys' own features and the values. -/
def keyval (u : FVec F S2x8192x1024 .f32) (w : FVec F S1x1024x4392 .f32) (kvn : FVec F S1x256 .f32) (wkv : FVec F S1x256x1024 .f32) : FVec F S2x8192x8x128 .f32 :=
  shapeCast _ (Host.dotGeneral dot_S2x8192x256_S256x1024_S2x8192x1024_2_0_01_1_n_n none (normK (colsK u w) kvn)
    (shapeCast _ wkv shapeCasts_S1x256x1024_S256x1024)) shapeCasts_S2x8192x1024_S2x8192x8x128

/-- Eight heads' 32 features rotated. -/
def rope8 (v : FVec F S2x8192x8x32 .f32) : FVec F S2x8192x8x32 .f32 :=
  concatenate S2x8192x8x32 3 [⟨S2x8192x8x16, subf (mulf (extractStridedSlice S2x8192x8x16 ![0, 0, 0, 0] v slices_S2x8192x8x32_S2x8192x8x16_0_0_0_0) (broadcastInDim S2x8192x8x16 ![0, 1, 2, 3] bcast_S1x8192x1x16_S2x8192x8x16_0_1_2_3 cosR))
      (mulf (extractStridedSlice S2x8192x8x16 ![0, 0, 0, 16] v slices_S2x8192x8x32_S2x8192x8x16_0_0_0_16) (broadcastInDim S2x8192x8x16 ![0, 1, 2, 3] bcast_S1x8192x1x16_S2x8192x8x16_0_1_2_3 sinR))⟩,
    ⟨S2x8192x8x16, addf (mulf (extractStridedSlice S2x8192x8x16 ![0, 0, 0, 0] v slices_S2x8192x8x32_S2x8192x8x16_0_0_0_0) (broadcastInDim S2x8192x8x16 ![0, 1, 2, 3] bcast_S1x8192x1x16_S2x8192x8x16_0_1_2_3 sinR))
      (mulf (extractStridedSlice S2x8192x8x16 ![0, 0, 0, 16] v slices_S2x8192x8x32_S2x8192x8x16_0_0_0_16) (broadcastInDim S2x8192x8x16 ![0, 1, 2, 3] bcast_S1x8192x1x16_S2x8192x8x16_0_1_2_3 cosR))⟩]
    concatenates_S2x8192x8x16_S2x8192x8x16_S2x8192x8x32_d3

/-- The 32 features all heads share rotated. -/
def rope1 (v : FVec F S2x8192x1x32 .f32) : FVec F S2x8192x1x32 .f32 :=
  concatenate S2x8192x1x32 3 [⟨S2x8192x1x16, subf (mulf (extractStridedSlice S2x8192x1x16 ![0, 0, 0, 0] v slices_S2x8192x1x32_S2x8192x1x16_0_0_0_0) (broadcastInDim S2x8192x1x16 ![0, 1, 2, 3] bcast_S1x8192x1x16_S2x8192x1x16_0_1_2_3 cosR))
      (mulf (extractStridedSlice S2x8192x1x16 ![0, 0, 0, 16] v slices_S2x8192x1x32_S2x8192x1x16_0_0_0_16) (broadcastInDim S2x8192x1x16 ![0, 1, 2, 3] bcast_S1x8192x1x16_S2x8192x1x16_0_1_2_3 sinR))⟩,
    ⟨S2x8192x1x16, addf (mulf (extractStridedSlice S2x8192x1x16 ![0, 0, 0, 0] v slices_S2x8192x1x32_S2x8192x1x16_0_0_0_0) (broadcastInDim S2x8192x1x16 ![0, 1, 2, 3] bcast_S1x8192x1x16_S2x8192x1x16_0_1_2_3 sinR))
      (mulf (extractStridedSlice S2x8192x1x16 ![0, 0, 0, 16] v slices_S2x8192x1x32_S2x8192x1x16_0_0_0_16) (broadcastInDim S2x8192x1x16 ![0, 1, 2, 3] bcast_S1x8192x1x16_S2x8192x1x16_0_1_2_3 cosR))⟩]
    concatenates_S2x8192x1x16_S2x8192x1x16_S2x8192x1x32_d3

/-- 64 features and 32 rotated ones. -/
def join (a : FVec F S2x8192x8x64 .f32) (r : FVec F S2x8192x8x32 .f32) : FVec F S2x8192x8x96 .f32 :=
  concatenate S2x8192x8x96 3 [⟨S2x8192x8x64, a⟩, ⟨S2x8192x8x32, r⟩] concatenates_S2x8192x8x64_S2x8192x8x32_S2x8192x8x96_d3

/-- Filled up to 128 lanes, heads before tokens. -/
def laidOut (v : FVec F S2x8192x8x96 .f32) : FVec F S2x8x8192x128 .bf16 :=
  truncf .bf16 (transpose S2x8x8192x128 [0, 2, 1, 3] (pad S2x8192x8x128 ![0, 0, 0, 0] ![0, 0, 0, 32] ![0, 0, 0, 0] v (sitofp .f32 (constantI S_ 32 0#32)) pads_S2x8192x8x96_S2x8192x8x128_000_000_000_0320 h_S_)
    transposes_S2x8192x8x128_S2x8x8192x128_0_2_1_3) bitsLt_bf16_f32

/-- The values in blocks of tokens, features before tokens. -/
def values (v : FVec F S2x16x512x8x64 .f32) : FVec F S2x8x16x64x512 .bf16 :=
  truncf .bf16 (transpose S2x8x16x64x512 [0, 3, 1, 4, 2] v transposes_S2x16x512x8x64_S2x8x16x64x512_0_3_1_4_2) bitsLt_bf16_f32

/-- The reference's queries. -/
def outQ (x : FVec F S2x8192x1024 .f32) (g : FVec F S1x1024 .f32) (w : FVec F S1x1024x4392 .f32) (qn : FVec F S1x512 .f32) (wq : FVec F S1x512x768 .f32) : FVec F S2x8x8192x128 .bf16 :=
  laidOut (mulf (join (extractStridedSlice S2x8192x8x64 ![0, 0, 0, 0] (query (norm x g) w qn wq) slices_S2x8192x8x96_S2x8192x8x64_0_0_0_0)
    (rope8 (extractStridedSlice S2x8192x8x32 ![0, 0, 0, 64] (query (norm x g) w qn wq) slices_S2x8192x8x96_S2x8192x8x32_0_0_0_64)))
    (broadcastInDim S2x8192x8x96 ![] bcast_S_S2x8192x8x96 (constant S_ .f32 0x3E16C740#32)))

/-- The reference's keys. -/
def outK (x : FVec F S2x8192x1024 .f32) (g : FVec F S1x1024 .f32) (w : FVec F S1x1024x4392 .f32) (kvn : FVec F S1x256 .f32) (wkv : FVec F S1x256x1024 .f32) : FVec F S2x8x8192x128 .bf16 :=
  laidOut (join (extractStridedSlice S2x8192x8x64 ![0, 0, 0, 0] (keyval (norm x g) w kvn wkv) slices_S2x8192x8x128_S2x8192x8x64_0_0_0_0)
    (broadcastInDim S2x8192x8x32 ![0, 1, 2, 3] bcast_S2x8192x1x32_S2x8192x8x32_0_1_2_3 (rope1 (broadcastInDim S2x8192x1x32 ![0, 1, 3] bcast_S2x8192x32_S2x8192x1x32_0_1_3 (colsR (norm x g) w)))))

/-- The reference's values of the latent attention. -/
def outV (x : FVec F S2x8192x1024 .f32) (g : FVec F S1x1024 .f32) (w : FVec F S1x1024x4392 .f32) (kvn : FVec F S1x256 .f32) (wkv : FVec F S1x256x1024 .f32) : FVec F S2x8x16x64x512 .bf16 :=
  values (shapeCast _ (extractStridedSlice S2x8192x8x64 ![0, 0, 0, 64] (keyval (norm x g) w kvn wkv) slices_S2x8192x8x128_S2x8192x8x64_0_0_0_64) shapeCasts_S2x8192x8x64_S2x16x512x8x64)

/-- The reference's values of the forgetting attention. -/
def outF (x : FVec F S2x8192x1024 .f32) (g : FVec F S1x1024 .f32) (w : FVec F S1x1024x4392 .f32) : FVec F S2x8x16x64x512 .bf16 :=
  values (shapeCast _ (cols512 ![0, 0, 1824] slices_S1x1024x4392_S1x1024x512_0_0_1824 (norm x g) w) shapeCasts_S2x8192x512_S2x16x512x8x64)

/-- The run's queries are these. -/
theorem outQ_eq (m : (ℓ : Loc nD τ sig) → Buf (Elt F) ℓ) (c : Dev nD) :
    Value.res_main_v118 m c = outQ (m (c, main_arg0)) (m (c, main_arg2)) (m (c, main_arg3)) (m (c, main_arg5)) (m (c, main_arg6)) := by
  unfold Value.res_main_v118
  rfl

/-- The run's keys are these. -/
theorem outK_eq (m : (ℓ : Loc nD τ sig) → Buf (Elt F) ℓ) (c : Dev nD) :
    Value.res_main_v121 m c = outK (m (c, main_arg0)) (m (c, main_arg2)) (m (c, main_arg3)) (m (c, main_arg7)) (m (c, main_arg8)) := by
  unfold Value.res_main_v121
  rfl

/-- The run's latent values are these. -/
theorem outV_eq (m : (ℓ : Loc nD τ sig) → Buf (Elt F) ℓ) (c : Dev nD) :
    Value.res_main_v125 m c = outV (m (c, main_arg0)) (m (c, main_arg2)) (m (c, main_arg3)) (m (c, main_arg7)) (m (c, main_arg8)) := by
  unfold Value.res_main_v125
  rfl

/-- The norm of the tokens at an index. -/
theorem norm_apply (x : FVec Ideal S2x8192x1024 .f32) (g : FVec Ideal S1x1024 .f32) (b : Fin 2) (s : Fin 8192) (d : Fin 1024) :
    norm x g (ix3 b s d) = Cert.MoeSpec.rms (fun k => x (ix3 b s k)) (g (ix2 0 d)) d := by
  pointwise [norm, inv]
  rfl

/-- The norm of the queries' latent features at an index. -/
theorem normQ_apply (x : FVec Ideal S2x8192x512 .f32) (g : FVec Ideal S1x512 .f32) (b : Fin 2) (s : Fin 8192) (d : Fin 512) :
    normQ x g (ix3 b s d) = rmsn 0x44000000#32 (fun k => x (ix3 b s k)) (g (ix2 0 d)) d := by
  pointwise [normQ, inv]
  rfl

/-- The norm of the keys' and values' latent features at an index. -/
theorem normK_apply (x : FVec Ideal S2x8192x256 .f32) (g : FVec Ideal S1x256 .f32) (b : Fin 2) (s : Fin 8192) (d : Fin 256) :
    normK x g (ix3 b s d) = rmsn 0x43800000#32 (fun k => x (ix3 b s k)) (g (ix2 0 d)) d := by
  pointwise [normK, inv]
  rfl

/-- 512 columns at an index. -/
theorem cols512_apply (o : ℕ) (ho : o ≤ 3880) (hs : S1x1024x4392.Slices ![0, 0, o] S1x1024x512) (x : FVec Ideal S2x8192x1024 .f32) (g : FVec Ideal S1x1024 .f32) (w : FVec Ideal S1x1024x4392 .f32)
    (b : Fin 2) (s : Fin 8192) (d : Fin 512) : cols512 ![0, 0, o] hs (norm x g) w (ix3 b s d) = col x g w b s ⟨o + d.val, by omega⟩ := by
  unfold col
  simp only [← norm_apply]
  pointwise [cols512]

/-- The latent columns at an index. -/
theorem colsK_apply (x : FVec Ideal S2x8192x1024 .f32) (g : FVec Ideal S1x1024 .f32) (w : FVec Ideal S1x1024x4392 .f32)
    (b : Fin 2) (s : Fin 8192) (d : Fin 256) : colsK (norm x g) w (ix3 b s d) = col x g w b s ⟨512 + d.val, by omega⟩ := by
  unfold col
  simp only [← norm_apply]
  pointwise [colsK]

/-- The rotated features' columns at an index. -/
theorem colsR_apply (x : FVec Ideal S2x8192x1024 .f32) (g : FVec Ideal S1x1024 .f32) (w : FVec Ideal S1x1024x4392 .f32)
    (b : Fin 2) (s : Fin 8192) (d : Fin 32) : colsR (norm x g) w (ix3 b s d) = col x g w b s ⟨768 + d.val, by omega⟩ := by
  unfold col
  simp only [← norm_apply]
  pointwise [colsR]

/-- The queries at an index. -/
theorem query_apply (x : FVec Ideal S2x8192x1024 .f32) (g : FVec Ideal S1x1024 .f32) (w : FVec Ideal S1x1024x4392 .f32) (qn : FVec Ideal S1x512 .f32) (wq : FVec Ideal S1x512x768 .f32)
    (b : Fin 2) (s : Fin 8192) (h : Fin 8) (l : Fin 96) : query (norm x g) w qn wq (ix4 b s h l) = Cert.ProjSpec.query x g w qn wq b s ⟨96 * h.val + l.val, by omega⟩ := by
  unfold Cert.ProjSpec.query
  pointwise [query]
  refine Finset.sum_congr rfl fun k _ => ?_
  simp only [normQ_apply, cols512_apply 0 (by decide), Nat.zero_add, Nat.mul_comm h.val 96]

/-- The keys' own features and the values at an index. -/
theorem keyval_apply (x : FVec Ideal S2x8192x1024 .f32) (g : FVec Ideal S1x1024 .f32) (w : FVec Ideal S1x1024x4392 .f32) (kvn : FVec Ideal S1x256 .f32) (wkv : FVec Ideal S1x256x1024 .f32)
    (b : Fin 2) (s : Fin 8192) (h : Fin 8) (l : Fin 128) : keyval (norm x g) w kvn wkv (ix4 b s h l) = Cert.ProjSpec.keyval x g w kvn wkv b s ⟨128 * h.val + l.val, by omega⟩ := by
  unfold Cert.ProjSpec.keyval
  pointwise [keyval]
  refine Finset.sum_congr rfl fun k _ => ?_
  simp only [normK_apply, colsK_apply, Nat.mul_comm h.val 128]

/-- An angle. -/
theorem ang_apply (s : Fin 8192) (i : Fin 16) : ang (F := Ideal) (ix2 s i) = angle s i := by
  pointwise [ang]
  rfl

/-- A rotated feature of a head. -/
theorem rope8_apply (v : FVec Ideal S2x8192x8x32 .f32) (b : Fin 2) (s : Fin 8192) (h : Fin 8) (i : Fin 32) :
    rope8 v (ix4 b s h i) = rope (fun i => v (ix4 b s h i)) s i := by
  unfold rope
  simp only [← ang_apply]
  pointwise [rope8, cosR, sinR]
  by_cases hi : i.val < 16
  · rw [dif_pos hi, dif_pos hi]
    simp only [Nat.add_comm 16]
  · rw [dif_neg hi, dif_neg hi]
    have e : 16 + (i.val - 16) = i.val := by omega
    exact congrArg₂ (· + ·) rfl (congrArg₂ (· * ·) (congrArg (fun q => v (ix4 b s h q)) (Fin.ext (a := ⟨16 + (i.val - 16), by omega⟩) (b := i) e)) rfl)

/-- A rotated feature all heads share. -/
theorem rope1_apply (v : FVec Ideal S2x8192x1x32 .f32) (b : Fin 2) (s : Fin 8192) (i : Fin 32) :
    rope1 v (ix4 b s 0 i) = rope (fun i => v (ix4 b s 0 i)) s i := by
  unfold rope
  simp only [← ang_apply]
  pointwise [rope1, cosR, sinR]
  by_cases hi : i.val < 16
  · rw [dif_pos hi, dif_pos hi]
    simp only [Nat.add_comm 16]
  · rw [dif_neg hi, dif_neg hi]
    have e : 16 + (i.val - 16) = i.val := by omega
    exact congrArg₂ (· + ·) rfl (congrArg₂ (· * ·) (congrArg (fun q => v (ix4 b s 0 q)) (Fin.ext (a := ⟨16 + (i.val - 16), by omega⟩) (b := i) e)) rfl)

/-- The layout with padded lanes at an index. -/
theorem laidOut_apply (v : FVec Ideal S2x8192x8x96 .f32) (b : Fin 2) (h : Fin 8) (s : Fin 8192) (l : Fin 128) :
    laidOut v (ix4 b h s l) = if hl : l.val < 96 then v (ix4 b s h ⟨l.val, hl⟩) else (0 : EReal) := by
  pointwise [laidOut]
  split_ifs
  · rfl
  · show (((0#32 : BitVec 32).toInt : ℝ) : EReal) = 0
    simp

/-- The queries at an index. -/
theorem outQ_apply (x : FVec Ideal S2x8192x1024 .f32) (g : FVec Ideal S1x1024 .f32) (w : FVec Ideal S1x1024x4392 .f32) (qn : FVec Ideal S1x512 .f32) (wq : FVec Ideal S1x512x768 .f32)
    (b : Fin 2) (h : Fin 8) (s : Fin 8192) (l : Fin 128) : outQ x g w qn wq (ix4 b h s l) = qlane x g w qn wq b h s l := by
  unfold outQ
  rw [laidOut_apply]
  unfold qlane
  pointwise [join]
  by_cases h1 : l.val < 64
  · have h2 : l.val < 96 := by omega
    simp only [h1, h2, dite_true, query_apply]
  · by_cases h2 : l.val < 96
    · simp only [h1, h2, dite_true, dite_false, rope8_apply]
      congr 2
      funext i
      pointwise []
      rw [query_apply]
      congr 1
      ext
      simp only []
      omega
    · simp only [h1, h2, dite_false]

/-- The keys at an index. -/
theorem outK_apply (x : FVec Ideal S2x8192x1024 .f32) (g : FVec Ideal S1x1024 .f32) (w : FVec Ideal S1x1024x4392 .f32) (kvn : FVec Ideal S1x256 .f32) (wkv : FVec Ideal S1x256x1024 .f32)
    (b : Fin 2) (h : Fin 8) (s : Fin 8192) (l : Fin 128) : outK x g w kvn wkv (ix4 b h s l) = klane x g w kvn wkv b h s l := by
  unfold outK
  rw [laidOut_apply]
  unfold klane
  pointwise [join]
  by_cases h1 : l.val < 64
  · have h2 : l.val < 96 := by omega
    simp only [h1, h2, dite_true, keyval_apply]
  · by_cases h2 : l.val < 96
    · simp only [h1, h2, dite_true, dite_false, rope1_apply]
      congr 1
      funext i
      pointwise []
      rw [colsR_apply]
    · simp only [h1, h2, dite_false]

/-- The latent attention's values at an index. -/
theorem outV_apply (x : FVec Ideal S2x8192x1024 .f32) (g : FVec Ideal S1x1024 .f32) (w : FVec Ideal S1x1024x4392 .f32) (kvn : FVec Ideal S1x256 .f32) (wkv : FVec Ideal S1x256x1024 .f32)
    (b : Fin 2) (h : Fin 8) (n : Fin 16) (e : Fin 64) (r : Fin 512) : outV x g w kvn wkv (ix5 b h n e r) = vlane x g w kvn wkv b h ⟨512 * n.val + r.val, by omega⟩ e := by
  pointwise [outV, values]
  unfold vlane
  rw [keyval_apply]
  simp only [Nat.mul_comm n.val 512, Nat.add_assoc]

/-- The forgetting attention's values at an index. -/
theorem outF_apply (x : FVec Ideal S2x8192x1024 .f32) (g : FVec Ideal S1x1024 .f32) (w : FVec Ideal S1x1024x4392 .f32)
    (b : Fin 2) (h : Fin 8) (n : Fin 16) (e : Fin 64) (r : Fin 512) : outF x g w (ix5 b h n e r) = flane x g w b h ⟨512 * n.val + r.val, by omega⟩ e := by
  pointwise [outF, values]
  unfold flane
  rw [cols512_apply 1824 (by decide)]
  simp only [Nat.mul_comm n.val 512, Nat.mul_comm h.val 64, Nat.add_assoc]

end Cert.ProjRefIdeal.Steps

end
-- ==== Proof.ProjFinal.lean ====
/- The projections' claim: at the ideal instance, the kernel's queries, keys and values and the reference's are the same. -/
module

public import proofs.«01_k».proof.Proof.ProjOut
public import proofs.«01_k».proof.Proof.ProjRef
public import proofs.«01_k».proof.Defs
public import Idealize.ShloMosaic.Lib.Claim

@[expose] public section

set_option maxRecDepth 16384

noncomputable section

namespace Cert.ProjFinal

open Idealize.ShloMosaic Idealize.ShloMosaic.TcCoe Idealize.SL.Sem

/-- An index of the queries or keys is its four coordinates. -/
theorem eta4 (i : Cert.ProjIdeal.S2x8x8192x128.Idx) : i = ix4 (i 0) (i 1) (i 2) (i 3) := by
  funext a; fin_cases a <;> rfl

/-- An index of the values is its five coordinates. -/
theorem eta5 (i : Cert.ProjIdeal.S2x8x16x64x512.Idx) : i = ix5 (i 0) (i 1) (i 2) (i 3) (i 4) := by
  funext a; fin_cases a <;> rfl

variable (m : (ℓ : Loc Cert.ProjIdeal.nD Cert.ProjIdeal.τ Cert.ProjIdeal.sig) → Buf (Elt Ideal) ℓ) (c : Dev Cert.ProjIdeal.nD)

/-- The reference's queries, of equal arguments, are the kernel's array. -/
theorem queries_eq :
    Cert.ProjRefIdeal.Steps.outQ (F := Ideal) (m (c, Cert.ProjIdeal.main_arg0)) (m (c, Cert.ProjIdeal.main_arg2)) (m (c, Cert.ProjIdeal.main_arg3))
      (m (c, Cert.ProjIdeal.main_arg5)) (m (c, Cert.ProjIdeal.main_arg6)) = Cert.ProjIdeal.Array.result17 m c := by
  funext i
  exact (congrArg _ (eta4 i)).trans (Cert.ProjRefIdeal.Steps.outQ_apply _ _ _ _ _ (i 0) (i 1) (i 2) (i 3))

/-- The reference's keys, of equal arguments, are the kernel's array. -/
theorem keys_eq :
    Cert.ProjRefIdeal.Steps.outK (F := Ideal) (m (c, Cert.ProjIdeal.main_arg0)) (m (c, Cert.ProjIdeal.main_arg2)) (m (c, Cert.ProjIdeal.main_arg3))
      (m (c, Cert.ProjIdeal.main_arg7)) (m (c, Cert.ProjIdeal.main_arg8)) = Cert.ProjIdeal.Array.result18 m c := by
  funext i
  exact (congrArg _ (eta4 i)).trans (Cert.ProjRefIdeal.Steps.outK_apply _ _ _ _ _ (i 0) (i 1) (i 2) (i 3))

/-- The reference's values of the latent attention, of equal arguments, are the kernel's array. -/
theorem values_eq :
    Cert.ProjRefIdeal.Steps.outV (F := Ideal) (m (c, Cert.ProjIdeal.main_arg0)) (m (c, Cert.ProjIdeal.main_arg2)) (m (c, Cert.ProjIdeal.main_arg3))
      (m (c, Cert.ProjIdeal.main_arg7)) (m (c, Cert.ProjIdeal.main_arg8)) = Cert.ProjIdeal.Array.result19 m c := by
  funext i
  exact (congrArg _ (eta5 i)).trans (Cert.ProjRefIdeal.Steps.outV_apply _ _ _ _ _ (i 0) (i 1) (i 2) (i 3) (i 4))

/-- The reference's values of the forgetting attention, of equal arguments, are the kernel's array. -/
theorem forget_values_eq :
    Cert.ProjRefIdeal.Steps.outF (F := Ideal) (m (c, Cert.ProjIdeal.main_arg0)) (m (c, Cert.ProjIdeal.main_arg2)) (m (c, Cert.ProjIdeal.main_arg3))
      = Cert.ProjIdeal.Array.result22 m c := by
  funext i
  exact (congrArg _ (eta5 i)).trans (Cert.ProjRefIdeal.Steps.outF_apply _ _ _ (i 0) (i 1) (i 2) (i 3) (i 4))

set_option maxHeartbeats 1600000 in
/-- THE PROJECTIONS' CLAIM. -/
theorem algebraic : Cert.algebraic_ProjIdeal_ProjRefIdeal := by
  pair_intro
  · run_from Cert.ProjIdeal.Value.run_blocks m g
  · run_from Cert.ProjRefIdeal.Value.run m' g'
    · refine (Cert.ProjRefIdeal.Steps.outQ_eq m' c).trans ?_
      obtain ⟨e0, -, e2, e3, -, e5, e6, e7, e8⟩ := hagree c
      rw [e0, e2, e3, e5, e6]
      exact (queries_eq m c).trans (Cert.ProjIdeal.Array.final17 m c).symm
    · refine (Cert.ProjRefIdeal.Steps.outK_eq m' c).trans ?_
      obtain ⟨e0, -, e2, e3, -, e5, e6, e7, e8⟩ := hagree c
      rw [e0, e2, e3, e7, e8]
      exact (keys_eq m c).trans (Cert.ProjIdeal.Array.final18 m c).symm
    · refine (Cert.ProjRefIdeal.Steps.outV_eq m' c).trans ?_
      obtain ⟨e0, -, e2, e3, -, e5, e6, e7, e8⟩ := hagree c
      rw [e0, e2, e3, e7, e8]
      exact (values_eq m c).trans (Cert.ProjIdeal.Array.final19 m c).symm
    · exact (forget_values_eq m c).trans (Cert.ProjIdeal.Array.final22 m c).symm

end Cert.ProjFinal

end
-- ==== Proof.lean ====
module

public import proofs.«01_k».proof.Proof.Gen.AttnIdeal.Value
public import proofs.«01_k».proof.Proof.Gen.MoeIdeal.Value
public import proofs.«01_k».proof.Proof.Gen.AttnRefIdeal.Run
public import proofs.«01_k».proof.Proof.Gen.MoeRefIdeal.Run
public import proofs.«01_k».proof.Defs
public import proofs.«01_k».proof.Proof.AttnFinal
public import proofs.«01_k».proof.Proof.MoeFinal
public import proofs.«01_k».proof.Proof.MergeFinal
public import proofs.«01_k».proof.Proof.ProjFinal
public import proofs.«01_k».proof.Proof.Gen.Attn
public import proofs.«01_k».proof.Proof.Gen.Attn.Skeleton
public import proofs.«01_k».proof.Proof.Gen.Attn.Loops
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Loops
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.Moe
public import proofs.«01_k».proof.Proof.Gen.Moe.Skeleton
public import proofs.«01_k».proof.Proof.Gen.Moe.Launch
public import proofs.«01_k».proof.Proof.Gen.Moe.Points
public import proofs.«01_k».proof.Proof.Gen.Moe.Frame
public import proofs.«01_k».proof.Proof.Gen.MoeIdeal
public import proofs.«01_k».proof.Proof.Gen.MoeIdeal.Skeleton
public import proofs.«01_k».proof.Proof.Gen.MoeIdeal.Launch
public import proofs.«01_k».proof.Proof.Gen.MoeIdeal.Points
public import proofs.«01_k».proof.Proof.Gen.MoeIdeal.Frame
public import proofs.«01_k».proof.Proof.Gen.MoeRefIdeal
public import proofs.«01_k».proof.Proof.Gen.MergeIdeal.Value
public import proofs.«01_k».proof.Proof.Gen.MergeRefIdeal.Run
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeRefIdeal
public import proofs.«01_k».proof.Proof.Gen.ProjIdeal.Value
public import proofs.«01_k».proof.Proof.Gen.ProjRefIdeal.Run
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjRefIdeal
public import Idealize.ShloMosaic.Adequacy
public import Idealize.ShloMosaic.Init

@[expose] public section

noncomputable section

namespace Cert.Proof

open Idealize.ShloMosaic Idealize.SL.Sem Cert.Attn

/-- The attention reference ends with its arguments as they were; it declares no semaphore. -/
theorem frame_attnRef : Cert.quiescent_AttnRefIdeal := fun m ρ _ =>
  (θ_run Cert.AttnRefIdeal.defs _ _).mono (fun r h => ⟨fun c => (h c).2, Idealize.ShloMosaic.sem_eq_zero_of_no_sems (by decide) r.2⟩)
    (Cert.AttnRefIdeal.Value.run m ρ)

/-- The experts' reference ends with its arguments as they were; it declares no semaphore. -/
theorem frame_moeRef : Cert.quiescent_MoeRefIdeal := fun m ρ _ =>
  (θ_run Cert.MoeRefIdeal.defs _ _).mono (fun r h => ⟨fun c => (h c).2, Idealize.ShloMosaic.sem_eq_zero_of_no_sems (by decide) r.2⟩)
    (Cert.MoeRefIdeal.Value.run m ρ)

/-- The merge's reference ends with its arguments as they were; it declares no semaphore. -/
theorem frame_mergeRef : Cert.quiescent_MergeRefIdeal := fun m ρ _ =>
  (θ_run Cert.MergeRefIdeal.defs _ _).mono (fun r h => ⟨fun c => (h c).2.2, Idealize.ShloMosaic.sem_eq_zero_of_no_sems (by decide) r.2⟩)
    (Cert.MergeRefIdeal.Value.run m ρ)

/-- The projections' reference ends with its arguments as they were; it declares no semaphore. -/
theorem frame_projRef : Cert.quiescent_ProjRefIdeal := fun m ρ _ =>
  (θ_run Cert.ProjRefIdeal.defs _ _).mono (fun r h => ⟨fun c => (h c).2.2.2.2, Idealize.ShloMosaic.sem_eq_zero_of_no_sems (by decide) r.2⟩)
    (Cert.ProjRefIdeal.Value.run m ρ)

/-- The claims: each program's frame, the four idealizations, and the four value claims. -/
theorem claim : Cert.Claim := ⟨Cert.Attn.Gen.facts, Cert.AttnIdeal.Gen.facts, Cert.AttnRefIdeal.Gen.facts, Cert.Moe.Gen.facts, Cert.MoeIdeal.Gen.facts, Cert.MoeRefIdeal.Gen.facts,
  Cert.Merge.Gen.facts, Cert.MergeIdeal.Gen.facts, Cert.MergeRefIdeal.Gen.facts,
  Cert.Proj.Gen.facts, Cert.ProjIdeal.Gen.facts, Cert.ProjRefIdeal.Gen.facts, Cert.AttnPre.facts,
  fun m ρ _ => Cert.Attn.Gen.frame m ρ,
  fun m ρ _ => Cert.AttnIdeal.Gen.frame m ρ,
  fun m ρ _ => Cert.AttnIdeal.Gen.frame m ρ,
  frame_attnRef,
  fun m ρ _ => frame_attnRef m ρ trivial,
  fun m ρ _ => Cert.Moe.Gen.frame m ρ,
  fun m ρ _ => Cert.MoeIdeal.Gen.frame m ρ,
  frame_moeRef,
  fun m ρ _ => Cert.Merge.Gen.frame m ρ,
  fun m ρ _ => Cert.MergeIdeal.Gen.frame m ρ,
  frame_mergeRef,
  fun m ρ _ => Cert.Proj.Gen.frame m ρ,
  fun m ρ _ => Cert.ProjIdeal.Gen.frame m ρ,
  frame_projRef,
  Cert.AttnFinal.preserves,
  @Cert.AttnFinal.algebraic Cert.AttnPre.facts,
  trivial,
  Cert.MoeFinal.algebraic,
  trivial,
  Cert.MergeFinal.algebraic,
  trivial,
  Cert.ProjFinal.algebraic⟩

end Cert.Proof

end
